-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_inputs_in_range : Cert.Pre_inputs_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_indices_in_range.lean ====
abbrev S2048x256 : Shape := ⟨2, ![2048, 256]⟩
abbrev S2048x2048 : Shape := ⟨2, ![2048, 2048]⟩
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x256 .f32) (main_arg1 : IVec S2048x2048 32) (main_arg2 : IVec S2048x64 32) : IVec S_ 1 :=
  let main_c : IVec S_ 32 := constantI S_ 32 0#32
  let main_v0 : IVec S2048x64 32 := broadcastInDim S2048x64 ![] bcast_S_S2048x64 main_c
  let main_v1 : IVec S2048x64 1 := cmpi .sge main_arg2 main_v0
  let main_c_0 : IVec S_ 32 := constantI S_ 32 2048#32
  let main_v2 : IVec S2048x64 32 := broadcastInDim S2048x64 ![] bcast_S_S2048x64 main_c_0
  let main_v3 : IVec S2048x64 1 := cmpi .slt main_arg2 main_v2
  let main_v4 : IVec S2048x64 1 := andi main_v1 main_v3
  let main_c_1 : IVec S_ 1 := constantI S_ 1 1#1
  let main_v5 : IVec S_ 1 := (fun x v => Host.reduce IntOp.andi x v reducesTo_S2048x64_S_d0_1 h_S_) main_v4 main_c_1
  main_v5
-- ==== Pre_inputs_in_range.lean ====
abbrev S2048x256 : Shape := ⟨2, ![2048, 256]⟩
abbrev S2048x2048 : Shape := ⟨2, ![2048, 2048]⟩
abbrev S2048x64 : Shape := ⟨2, ![2048, 64]⟩
abbrev S256x2048 : Shape := ⟨2, ![256, 2048]⟩
abbrev S_ : Shape := ⟨0, ![]⟩

class Facts : Prop where
  transposes_S2048x256_S256x2048_1_0 : S2048x256.Transposes [1, 0] S256x2048
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  dot_S2048x256_S256x2048_S2048x2048_1_0_0_1_n_n_wf : DotDims.WF S2048x256 S256x2048 S2048x2048 [1] [0] [0] [1] [] []

variable [Facts]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def fn_part1 {F : FTy → Type} [FloatOps F] (main_v11 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v11 main_v17
  main_v18

def fn {F : FTy → Type} [FloatOps F] (main_arg0 : FVec F S2048x256 .f32) (main_arg1 : IVec S2048x2048 32) (main_arg2 : IVec S2048x64 32) : IVec S_ 1 :=
  let main_v0 : FVec F S256x2048 .f32 := (transpose S256x2048 [1, 0] · transposes_S2048x256_S256x2048_1_0) main_arg0
  let main_v1 : FVec F S2048x2048 .f32 := (fun l r => Host.dotGeneral dot_S2048x256_S256x2048_S2048x2048_1_0_0_1_n_n none l r) main_arg0 main_v0
  let main_cst : FVec F S_ .f32 := constant S_ .f32 0xF149F2CA#32
  let main_v2 : FVec F S2048x2048 .f32 := broadcastInDim S2048x2048 ![] bcast_S_S2048x2048 main_cst
  let main_v3 : IVec S2048x2048 1 := cmpf .ogt main_v1 main_v2
  let main_c : IVec S_ 1 := constantI S_ 1 1#1
  let main_v4 : IVec S_ 1 := (fun x v => Host.reduce IntOp.andi x v reducesTo_S2048x2048_S_d0_1 h_S_) main_v3 main_c
  let main_c_0 : IVec S_ 32 := constantI S_ 32 0#32
  let main_v5 : IVec S2048x2048 32 := broadcastInDim S2048x2048 ![] bcast_S_S2048x2048 main_c_0
  let main_v6 : IVec S2048x2048 1 := cmpi .sge main_arg1 main_v5
  let main_c_1 : IVec S_ 32 := constantI S_ 32 2#32
  let main_v7 : IVec S2048x2048 32 := broadcastInDim S2048x2048 ![] bcast_S_S2048x2048 main_c_1
  let main_v8 : IVec S2048x2048 1 := cmpi .slt main_arg1 main_v7
  let main_v9 : IVec S2048x2048 1 := andi main_v6 main_v8
  let main_c_2 : IVec S_ 1 := constantI S_ 1 1#1
  let main_v10 : IVec S_ 1 := (fun x v => Host.reduce IntOp.andi x v reducesTo_S2048x2048_S_d0_1 h_S_) main_v9 main_c_2
  let main_v11 : IVec S_ 1 := andi main_v4 main_v10
  let main_c_3 : IVec S_ 32 := constantI S_ 32 0#32
  let main_v12 : IVec S2048x64 32 := broadcastInDim S2048x64 ![] bcast_S_S2048x64 main_c_3
  let main_v13 : IVec S2048x64 1 := cmpi .sge main_arg2 main_v12
  let main_c_4 : IVec S_ 32 := constantI S_ 32 2048#32
  let main_v14 : IVec S2048x64 32 := broadcastInDim S2048x64 ![] bcast_S_S2048x64 main_c_4
  let main_v15 : IVec S2048x64 1 := cmpi .slt main_arg2 main_v14
  let main_v16 : IVec S2048x64 1 := andi main_v13 main_v15
  fn_part1 (F := F) main_v11 main_v16
-- ==== Kernel.lean ====
abbrev S2048x256 : Shape := ⟨2, ![2048, 256]⟩
abbrev S2048x2048 : Shape := ⟨2, ![2048, 2048]⟩
abbrev S2048x64 : Shape := ⟨2, ![2048, 64]⟩
abbrev S131072 : Shape := ⟨1, ![131072]⟩
abbrev S4194304 : Shape := ⟨1, ![4194304]⟩
abbrev S4096 : Shape := ⟨1, ![4096]⟩
abbrev S16384 : Shape := ⟨1, ![16384]⟩
abbrev S_ : Shape := ⟨0, ![]⟩
abbrev S16 : Shape := ⟨1, ![16]⟩
abbrev S256x2048 : Shape := ⟨2, ![256, 2048]⟩
abbrev S256x256 : Shape := ⟨2, ![256, 256]⟩
abbrev S256x64 : Shape := ⟨2, ![256, 64]⟩
abbrev S256 : Shape := ⟨1, ![256]⟩
abbrev S256x1 : Shape := ⟨2, ![256, 1]⟩

abbrev nBuf : Table → Nat
  | .hbm => 10
  | .local .tc .vmem => 12
  | .local .scVector .vmem => 2
  | _ => 0

abbrev bufTy : (tb : Table) → Fin (nBuf tb) → BufTy
  | .hbm, ⟨0, _⟩ => ⟨S2048x256, .f32⟩
  | .hbm, ⟨1, _⟩ => ⟨S2048x2048, .i32⟩
  | .hbm, ⟨2, _⟩ => ⟨S2048x64, .i32⟩
  | .hbm, ⟨3, _⟩ => ⟨S131072, .i32⟩
  | .hbm, ⟨4, _⟩ => ⟨S4194304, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S256x2048, .f32⟩
  | .hbm, ⟨9, _⟩ => ⟨S2048x64, .i32⟩
  | .local .tc .vmem, ⟨0, _⟩ => ⟨S256x256, .f32⟩
  | .local .tc .vmem, ⟨1, _⟩ => ⟨S256x256, .f32⟩
  | .local .tc .vmem, ⟨2, _⟩ => ⟨S256x2048, .f32⟩
  | .local .tc .vmem, ⟨3, _⟩ => ⟨S256x2048, .bf16⟩
  | .local .tc .vmem, ⟨4, _⟩ => ⟨S256x2048, .bf16⟩
  | .local .tc .vmem, ⟨5, _⟩ => ⟨S2048x2048, .bf16⟩
  | .local .tc .vmem, ⟨6, _⟩ => ⟨S256x2048, .bf16⟩
  | .local .tc .vmem, ⟨7, _⟩ => ⟨S256x2048, .bf16⟩
  | .local .tc .vmem, ⟨8, _⟩ => ⟨S256x64, .i32⟩
  | .local .tc .vmem, ⟨9, _⟩ => ⟨S256x64, .i32⟩
  | .local .tc .vmem, ⟨10, _⟩ => ⟨S256x64, .i32⟩
  | .local .tc .vmem, ⟨11, _⟩ => ⟨S256x64, .i32⟩
  | .local .scVector .vmem, ⟨0, _⟩ => ⟨S4096, .i32⟩
  | .local .scVector .vmem, ⟨1, _⟩ => ⟨S16384, .f32⟩
  | _, _ => ⟨S2048x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg6_1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c64_i32_0 : BitVec 32 := 64#32
  let v3 : BitVec 32 := Scalar.muli v2 c64_i32_0
  ![v3.toNat]
@[reducible] def k0_t1_loop : Scf.Loop 32 :=
  let c0_i32_2 : BitVec 32 := 0#32
  let c128_i32 : BitVec 32 := 128#32
  let v6 : BitVec 32 := Scalar.addi c0_i32_2 c128_i32
  let c1_i32 : BitVec 32 := 1#32
  ⟨c0_i32_2, v6, c1_i32⟩
def k0_off2 (k0_t1 : Fin k0_t1_loop.trips) (c0_i32_775 : BitVec 32) : Fin 1 → Nat :=
  let c0_i32_2 : BitVec 32 := 0#32
  let c1_i32 : BitVec 32 := 1#32
  let arg7 : BitVec 32 := Scf.iv c0_i32_2 c1_i32 k0_t1
  let c8_i32_774 : BitVec 32 := 8#32
  let v1592 : BitVec 32 := Scalar.muli arg7 c8_i32_774
  let v1593 : BitVec 32 := Scalar.addi v1592 c0_i32_775
  let c16_i32_776 : BitVec 32 := 16#32
  let v1594 : BitVec 32 := Scalar.muli v1593 c16_i32_776
  let v1595 : Index := Scalar.indexCast v1594
  ![v1595.toNat]

def k0_chk1 (v10 : IVec S16 32) : Prop :=
  (∀ a x, ((![v10] : Fin 1 → IVec S16 32) a x).toNat < S16384.size a)
theorem k0_idx1_inb : ∀ (v10 : IVec S16 32) (k0_hw1 : k0_chk1 v10), ∀ a x, ((![v10] : Fin 1 → IVec S16 32) a x).toNat < S16384.size a := fun v10 k0_hw1 => k0_hw1

def k0_chk2 (v13 : IVec S16 32) : Prop :=
  (∀ a x, ((![v13] : Fin 1 → IVec S16 32) a x).toNat < S16384.size a)
theorem k0_idx2_inb : ∀ (v13 : IVec S16 32) (k0_hw2 : k0_chk2 v13), ∀ a x, ((![v13] : Fin 1 → IVec S16 32) a x).toNat < S16384.size a := fun v13 k0_hw2 => k0_hw2

def k0_chk3 (v16 : IVec S16 32) : Prop :=
  (∀ a x, ((![v16] : Fin 1 → IVec S16 32) a x).toNat < S16384.size a)
theorem k0_idx3_inb : ∀ (v16 : IVec S16 32) (k0_hw3 : k0_chk3 v16), ∀ a x, ((![v16] : Fin 1 → IVec S16 32) a x).toNat < S16384.size a := fun v16 k0_hw3 => k0_hw3

def k0_chk4 (v19 : IVec S16 32) : Prop :=
  (∀ a x, ((![v19] : Fin 1 → IVec S16 32) a x).toNat < S16384.size a)
theorem k0_idx4_inb : ∀ (v19 : IVec S16 32) (k0_hw4 : k0_chk4 v19), ∀ a x, ((![v19] : Fin 1 → IVec S16 32) a x).toNat < S16384.size a := fun v19 k0_hw4 => k0_hw4

def k0_chk5 (v22 : IVec S16 32) : Prop :=
  (∀ a x, ((![v22] : Fin 1 → IVec S16 32) a x).toNat < S16384.size a)
theorem k0_idx5_inb : ∀ (v22 : IVec S16 32) (k0_hw5 : k0_chk5 v22), ∀ a x, ((![v22] : Fin 1 → IVec S16 32) a x).toNat < S16384.size a := fun v22 k0_hw5 => k0_hw5

def k0_chk6 (v25 : IVec S16 32) : Prop :=
  (∀ a x, ((![v25] : Fin 1 → IVec S16 32) a x).toNat < S16384.size a)
theorem k0_idx6_inb : ∀ (v25 : IVec S16 32) (k0_hw6 : k0_chk6 v25), ∀ a x, ((![v25] : Fin 1 → IVec S16 32) a x).toNat < S16384.size a := fun v25 k0_hw6 => k0_hw6

def k0_chk7 (v28 : IVec S16 32) : Prop :=
  (∀ a x, ((![v28] : Fin 1 → IVec S16 32) a x).toNat < S16384.size a)
theorem k0_idx7_inb : ∀ (v28 : IVec S16 32) (k0_hw7 : k0_chk7 v28), ∀ a x, ((![v28] : Fin 1 → IVec S16 32) a x).toNat < S16384.size a := fun v28 k0_hw7 => k0_hw7

def k0_chk8 (v31 : IVec S16 32) : Prop :=
  (∀ a x, ((![v31] : Fin 1 → IVec S16 32) a x).toNat < S16384.size a)
theorem k0_idx8_inb : ∀ (v31 : IVec S16 32) (k0_hw8 : k0_chk8 v31), ∀ a x, ((![v31] : Fin 1 → IVec S16 32) a x).toNat < S16384.size a := fun v31 k0_hw8 => k0_hw8

def k0_chk9 (v34 : IVec S16 32) : Prop :=
  (∀ a x, ((![v34] : Fin 1 → IVec S16 32) a x).toNat < S16384.size a)
theorem k0_idx9_inb : ∀ (v34 : IVec S16 32) (k0_hw9 : k0_chk9 v34), ∀ a x, ((![v34] : Fin 1 → IVec S16 32) a x).toNat < S16384.size a := fun v34 k0_hw9 => k0_hw9

def k0_chk10 (v37 : IVec S16 32) : Prop :=
  (∀ a x, ((![v37] : Fin 1 → IVec S16 32) a x).toNat < S16384.size a)
theorem k0_idx10_inb : ∀ (v37 : IVec S16 32) (k0_hw10 : k0_chk10 v37), ∀ a x, ((![v37] : Fin 1 → IVec S16 32) a x).toNat < S16384.size a := fun v37 k0_hw10 => k0_hw10

def k0_chk11 (v40 : IVec S16 32) : Prop :=
  (∀ a x, ((![v40] : Fin 1 → IVec S16 32) a x).toNat < S16384.size a)
theorem k0_idx11_inb : ∀ (v40 : IVec S16 32) (k0_hw11 : k0_chk11 v40), ∀ a x, ((![v40] : Fin 1 → IVec S16 32) a x).toNat < S16384.size a := fun v40 k0_hw11 => k0_hw11

def k0_chk12 (v43 : IVec S16 32) : Prop :=
  (∀ a x, ((![v43] : Fin 1 → IVec S16 32) a x).toNat < S16384.size a)
theorem k0_idx12_inb : ∀ (v43 : IVec S16 32) (k0_hw12 : k0_chk12 v43), ∀ a x, ((![v43] : Fin 1 → IVec S16 32) a x).toNat < S16384.size a := fun v43 k0_hw12 => k0_hw12

def k0_chk13 (v46 : IVec S16 32) : Prop :=
  (∀ a x, ((![v46] : Fin 1 → IVec S16 32) a x).toNat < S16384.size a)
theorem k0_idx13_inb : ∀ (v46 : IVec S16 32) (k0_hw13 : k0_chk13 v46), ∀ a x, ((![v46] : Fin 1 → IVec S16 32) a x).toNat < S16384.size a := fun v46 k0_hw13 => k0_hw13

def k0_chk14 (v49 : IVec S16 32) : Prop :=
  (∀ a x, ((![v49] : Fin 1 → IVec S16 32) a x).toNat < S16384.size a)
theorem k0_idx14_inb : ∀ (v49 : IVec S16 32) (k0_hw14 : k0_chk14 v49), ∀ a x, ((![v49] : Fin 1 → IVec S16 32) a x).toNat < S16384.size a := fun v49 k0_hw14 => k0_hw14

def k0_chk15 (v52 : IVec S16 32) : Prop :=
  (∀ a x, ((![v52] : Fin 1 → IVec S16 32) a x).toNat < S16384.size a)
theorem k0_idx15_inb : ∀ (v52 : IVec S16 32) (k0_hw15 : k0_chk15 v52), ∀ a x, ((![v52] : Fin 1 → IVec S16 32) a x).toNat < S16384.size a := fun v52 k0_hw15 => k0_hw15

def k0_chk16 (v55 : IVec S16 32) : Prop :=
  (∀ a x, ((![v55] : Fin 1 → IVec S16 32) a x).toNat < S16384.size a)
theorem k0_idx16_inb : ∀ (v55 : IVec S16 32) (k0_hw16 : k0_chk16 v55), ∀ a x, ((![v55] : Fin 1 → IVec S16 32) a x).toNat < S16384.size a := fun v55 k0_hw16 => k0_hw16

def k0_chk17 (v58 : IVec S16 32) : Prop :=
  (∀ a x, ((![v58] : Fin 1 → IVec S16 32) a x).toNat < S16384.size a)
theorem k0_idx17_inb : ∀ (v58 : IVec S16 32) (k0_hw17 : k0_chk17 v58), ∀ a x, ((![v58] : Fin 1 → IVec S16 32) a x).toNat < S16384.size a := fun v58 k0_hw17 => k0_hw17

def k0_chk18 (v61 : IVec S16 32) : Prop :=
  (∀ a x, ((![v61] : Fin 1 → IVec S16 32) a x).toNat < S16384.size a)
theorem k0_idx18_inb : ∀ (v61 : IVec S16 32) (k0_hw18 : k0_chk18 v61), ∀ a x, ((![v61] : Fin 1 → IVec S16 32) a x).toNat < S16384.size a := fun v61 k0_hw18 => k0_hw18

def k0_chk19 (v64 : IVec S16 32) : Prop :=
  (∀ a x, ((![v64] : Fin 1 → IVec S16 32) a x).toNat < S16384.size a)
theorem k0_idx19_inb : ∀ (v64 : IVec S16 32) (k0_hw19 : k0_chk19 v64), ∀ a x, ((![v64] : Fin 1 → IVec S16 32) a x).toNat < S16384.size a := fun v64 k0_hw19 => k0_hw19

def k0_chk20 (v67 : IVec S16 32) : Prop :=
  (∀ a x, ((![v67] : Fin 1 → IVec S16 32) a x).toNat < S16384.size a)
theorem k0_idx20_inb : ∀ (v67 : IVec S16 32) (k0_hw20 : k0_chk20 v67), ∀ a x, ((![v67] : Fin 1 → IVec S16 32) a x).toNat < S16384.size a := fun v67 k0_hw20 => k0_hw20

def k0_chk21 (v70 : IVec S16 32) : Prop :=
  (∀ a x, ((![v70] : Fin 1 → IVec S16 32) a x).toNat < S16384.size a)
theorem k0_idx21_inb : ∀ (v70 : IVec S16 32) (k0_hw21 : k0_chk21 v70), ∀ a x, ((![v70] : Fin 1 → IVec S16 32) a x).toNat < S16384.size a := fun v70 k0_hw21 => k0_hw21

def k0_chk22 (v73 : IVec S16 32) : Prop :=
  (∀ a x, ((![v73] : Fin 1 → IVec S16 32) a x).toNat < S16384.size a)
theorem k0_idx22_inb : ∀ (v73 : IVec S16 32) (k0_hw22 : k0_chk22 v73), ∀ a x, ((![v73] : Fin 1 → IVec S16 32) a x).toNat < S16384.size a := fun v73 k0_hw22 => k0_hw22

def k0_chk23 (v76 : IVec S16 32) : Prop :=
  (∀ a x, ((![v76] : Fin 1 → IVec S16 32) a x).toNat < S16384.size a)
theorem k0_idx23_inb : ∀ (v76 : IVec S16 32) (k0_hw23 : k0_chk23 v76), ∀ a x, ((![v76] : Fin 1 → IVec S16 32) a x).toNat < S16384.size a := fun v76 k0_hw23 => k0_hw23

def k0_chk24 (v79 : IVec S16 32) : Prop :=
  (∀ a x, ((![v79] : Fin 1 → IVec S16 32) a x).toNat < S16384.size a)
theorem k0_idx24_inb : ∀ (v79 : IVec S16 32) (k0_hw24 : k0_chk24 v79), ∀ a x, ((![v79] : Fin 1 → IVec S16 32) a x).toNat < S16384.size a := fun v79 k0_hw24 => k0_hw24

def k0_chk25 (v82 : IVec S16 32) : Prop :=
  (∀ a x, ((![v82] : Fin 1 → IVec S16 32) a x).toNat < S16384.size a)
theorem k0_idx25_inb : ∀ (v82 : IVec S16 32) (k0_hw25 : k0_chk25 v82), ∀ a x, ((![v82] : Fin 1 → IVec S16 32) a x).toNat < S16384.size a := fun v82 k0_hw25 => k0_hw25

def k0_chk26 (v85 : IVec S16 32) : Prop :=
  (∀ a x, ((![v85] : Fin 1 → IVec S16 32) a x).toNat < S16384.size a)
theorem k0_idx26_inb : ∀ (v85 : IVec S16 32) (k0_hw26 : k0_chk26 v85), ∀ a x, ((![v85] : Fin 1 → IVec S16 32) a x).toNat < S16384.size a := fun v85 k0_hw26 => k0_hw26

def k0_chk27 (v88 : IVec S16 32) : Prop :=
  (∀ a x, ((![v88] : Fin 1 → IVec S16 32) a x).toNat < S16384.size a)
theorem k0_idx27_inb : ∀ (v88 : IVec S16 32) (k0_hw27 : k0_chk27 v88), ∀ a x, ((![v88] : Fin 1 → IVec S16 32) a x).toNat < S16384.size a := fun v88 k0_hw27 => k0_hw27

def k0_chk28 (v91 : IVec S16 32) : Prop :=
  (∀ a x, ((![v91] : Fin 1 → IVec S16 32) a x).toNat < S16384.size a)
theorem k0_idx28_inb : ∀ (v91 : IVec S16 32) (k0_hw28 : k0_chk28 v91), ∀ a x, ((![v91] : Fin 1 → IVec S16 32) a x).toNat < S16384.size a := fun v91 k0_hw28 => k0_hw28

def k0_chk29 (v94 : IVec S16 32) : Prop :=
  (∀ a x, ((![v94] : Fin 1 → IVec S16 32) a x).toNat < S16384.size a)
theorem k0_idx29_inb : ∀ (v94 : IVec S16 32) (k0_hw29 : k0_chk29 v94), ∀ a x, ((![v94] : Fin 1 → IVec S16 32) a x).toNat < S16384.size a := fun v94 k0_hw29 => k0_hw29

def k0_chk30 (v97 : IVec S16 32) : Prop :=
  (∀ a x, ((![v97] : Fin 1 → IVec S16 32) a x).toNat < S16384.size a)
theorem k0_idx30_inb : ∀ (v97 : IVec S16 32) (k0_hw30 : k0_chk30 v97), ∀ a x, ((![v97] : Fin 1 → IVec S16 32) a x).toNat < S16384.size a := fun v97 k0_hw30 => k0_hw30

def k0_chk31 (v100 : IVec S16 32) : Prop :=
  (∀ a x, ((![v100] : Fin 1 → IVec S16 32) a x).toNat < S16384.size a)
theorem k0_idx31_inb : ∀ (v100 : IVec S16 32) (k0_hw31 : k0_chk31 v100), ∀ a x, ((![v100] : Fin 1 → IVec S16 32) a x).toNat < S16384.size a := fun v100 k0_hw31 => k0_hw31

def k0_chk32 (v103 : IVec S16 32) : Prop :=
  (∀ a x, ((![v103] : Fin 1 → IVec S16 32) a x).toNat < S16384.size a)
theorem k0_idx32_inb : ∀ (v103 : IVec S16 32) (k0_hw32 : k0_chk32 v103), ∀ a x, ((![v103] : Fin 1 → IVec S16 32) a x).toNat < S16384.size a := fun v103 k0_hw32 => k0_hw32
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_29 : BitVec 32 := 0#32
  let v104 : BitVec 32 := Scalar.addi v2 c0_i32_29
  let c2048_i32_30 : BitVec 32 := 2048#32
  let v105 : BitVec 32 := Scalar.muli v104 c2048_i32_30
  ![v105.toNat]

def k0_chk33 (v112 : IVec S16 32) : Prop :=
  (∀ a x, ((![v112] : Fin 1 → IVec S16 32) a x).toNat < S16384.size a)
theorem k0_idx33_inb : ∀ (v112 : IVec S16 32) (k0_hw33 : k0_chk33 v112), ∀ a x, ((![v112] : Fin 1 → IVec S16 32) a x).toNat < S16384.size a := fun v112 k0_hw33 => k0_hw33

def k0_chk34 (v115 : IVec S16 32) : Prop :=
  (∀ a x, ((![v115] : Fin 1 → IVec S16 32) a x).toNat < S16384.size a)
theorem k0_idx34_inb : ∀ (v115 : IVec S16 32) (k0_hw34 : k0_chk34 v115), ∀ a x, ((![v115] : Fin 1 → IVec S16 32) a x).toNat < S16384.size a := fun v115 k0_hw34 => k0_hw34

def k0_chk35 (v118 : IVec S16 32) : Prop :=
  (∀ a x, ((![v118] : Fin 1 → IVec S16 32) a x).toNat < S16384.size a)
theorem k0_idx35_inb : ∀ (v118 : IVec S16 32) (k0_hw35 : k0_chk35 v118), ∀ a x, ((![v118] : Fin 1 → IVec S16 32) a x).toNat < S16384.size a := fun v118 k0_hw35 => k0_hw35

def k0_chk36 (v121 : IVec S16 32) : Prop :=
  (∀ a x, ((![v121] : Fin 1 → IVec S16 32) a x).toNat < S16384.size a)
theorem k0_idx36_inb : ∀ (v121 : IVec S16 32) (k0_hw36 : k0_chk36 v121), ∀ a x, ((![v121] : Fin 1 → IVec S16 32) a x).toNat < S16384.size a := fun v121 k0_hw36 => k0_hw36

def k0_chk37 (v124 : IVec S16 32) : Prop :=
  (∀ a x, ((![v124] : Fin 1 → IVec S16 32) a x).toNat < S16384.size a)
theorem k0_idx37_inb : ∀ (v124 : IVec S16 32) (k0_hw37 : k0_chk37 v124), ∀ a x, ((![v124] : Fin 1 → IVec S16 32) a x).toNat < S16384.size a := fun v124 k0_hw37 => k0_hw37

def k0_chk38 (v127 : IVec S16 32) : Prop :=
  (∀ a x, ((![v127] : Fin 1 → IVec S16 32) a x).toNat < S16384.size a)
theorem k0_idx38_inb : ∀ (v127 : IVec S16 32) (k0_hw38 : k0_chk38 v127), ∀ a x, ((![v127] : Fin 1 → IVec S16 32) a x).toNat < S16384.size a := fun v127 k0_hw38 => k0_hw38

def k0_chk39 (v130 : IVec S16 32) : Prop :=
  (∀ a x, ((![v130] : Fin 1 → IVec S16 32) a x).toNat < S16384.size a)
theorem k0_idx39_inb : ∀ (v130 : IVec S16 32) (k0_hw39 : k0_chk39 v130), ∀ a x, ((![v130] : Fin 1 → IVec S16 32) a x).toNat < S16384.size a := fun v130 k0_hw39 => k0_hw39

def k0_chk40 (v133 : IVec S16 32) : Prop :=
  (∀ a x, ((![v133] : Fin 1 → IVec S16 32) a x).toNat < S16384.size a)
theorem k0_idx40_inb : ∀ (v133 : IVec S16 32) (k0_hw40 : k0_chk40 v133), ∀ a x, ((![v133] : Fin 1 → IVec S16 32) a x).toNat < S16384.size a := fun v133 k0_hw40 => k0_hw40

def k0_chk41 (v136 : IVec S16 32) : Prop :=
  (∀ a x, ((![v136] : Fin 1 → IVec S16 32) a x).toNat < S16384.size a)
theorem k0_idx41_inb : ∀ (v136 : IVec S16 32) (k0_hw41 : k0_chk41 v136), ∀ a x, ((![v136] : Fin 1 → IVec S16 32) a x).toNat < S16384.size a := fun v136 k0_hw41 => k0_hw41

def k0_chk42 (v139 : IVec S16 32) : Prop :=
  (∀ a x, ((![v139] : Fin 1 → IVec S16 32) a x).toNat < S16384.size a)
theorem k0_idx42_inb : ∀ (v139 : IVec S16 32) (k0_hw42 : k0_chk42 v139), ∀ a x, ((![v139] : Fin 1 → IVec S16 32) a x).toNat < S16384.size a := fun v139 k0_hw42 => k0_hw42

def k0_chk43 (v142 : IVec S16 32) : Prop :=
  (∀ a x, ((![v142] : Fin 1 → IVec S16 32) a x).toNat < S16384.size a)
theorem k0_idx43_inb : ∀ (v142 : IVec S16 32) (k0_hw43 : k0_chk43 v142), ∀ a x, ((![v142] : Fin 1 → IVec S16 32) a x).toNat < S16384.size a := fun v142 k0_hw43 => k0_hw43

def k0_chk44 (v145 : IVec S16 32) : Prop :=
  (∀ a x, ((![v145] : Fin 1 → IVec S16 32) a x).toNat < S16384.size a)
theorem k0_idx44_inb : ∀ (v145 : IVec S16 32) (k0_hw44 : k0_chk44 v145), ∀ a x, ((![v145] : Fin 1 → IVec S16 32) a x).toNat < S16384.size a := fun v145 k0_hw44 => k0_hw44

def k0_chk45 (v148 : IVec S16 32) : Prop :=
  (∀ a x, ((![v148] : Fin 1 → IVec S16 32) a x).toNat < S16384.size a)
theorem k0_idx45_inb : ∀ (v148 : IVec S16 32) (k0_hw45 : k0_chk45 v148), ∀ a x, ((![v148] : Fin 1 → IVec S16 32) a x).toNat < S16384.size a := fun v148 k0_hw45 => k0_hw45

def k0_chk46 (v151 : IVec S16 32) : Prop :=
  (∀ a x, ((![v151] : Fin 1 → IVec S16 32) a x).toNat < S16384.size a)
theorem k0_idx46_inb : ∀ (v151 : IVec S16 32) (k0_hw46 : k0_chk46 v151), ∀ a x, ((![v151] : Fin 1 → IVec S16 32) a x).toNat < S16384.size a := fun v151 k0_hw46 => k0_hw46

def k0_chk47 (v154 : IVec S16 32) : Prop :=
  (∀ a x, ((![v154] : Fin 1 → IVec S16 32) a x).toNat < S16384.size a)
theorem k0_idx47_inb : ∀ (v154 : IVec S16 32) (k0_hw47 : k0_chk47 v154), ∀ a x, ((![v154] : Fin 1 → IVec S16 32) a x).toNat < S16384.size a := fun v154 k0_hw47 => k0_hw47

def k0_chk48 (v157 : IVec S16 32) : Prop :=
  (∀ a x, ((![v157] : Fin 1 → IVec S16 32) a x).toNat < S16384.size a)
theorem k0_idx48_inb : ∀ (v157 : IVec S16 32) (k0_hw48 : k0_chk48 v157), ∀ a x, ((![v157] : Fin 1 → IVec S16 32) a x).toNat < S16384.size a := fun v157 k0_hw48 => k0_hw48

def k0_chk49 (v160 : IVec S16 32) : Prop :=
  (∀ a x, ((![v160] : Fin 1 → IVec S16 32) a x).toNat < S16384.size a)
theorem k0_idx49_inb : ∀ (v160 : IVec S16 32) (k0_hw49 : k0_chk49 v160), ∀ a x, ((![v160] : Fin 1 → IVec S16 32) a x).toNat < S16384.size a := fun v160 k0_hw49 => k0_hw49

def k0_chk50 (v163 : IVec S16 32) : Prop :=
  (∀ a x, ((![v163] : Fin 1 → IVec S16 32) a x).toNat < S16384.size a)
theorem k0_idx50_inb : ∀ (v163 : IVec S16 32) (k0_hw50 : k0_chk50 v163), ∀ a x, ((![v163] : Fin 1 → IVec S16 32) a x).toNat < S16384.size a := fun v163 k0_hw50 => k0_hw50

def k0_chk51 (v166 : IVec S16 32) : Prop :=
  (∀ a x, ((![v166] : Fin 1 → IVec S16 32) a x).toNat < S16384.size a)
theorem k0_idx51_inb : ∀ (v166 : IVec S16 32) (k0_hw51 : k0_chk51 v166), ∀ a x, ((![v166] : Fin 1 → IVec S16 32) a x).toNat < S16384.size a := fun v166 k0_hw51 => k0_hw51

def k0_chk52 (v169 : IVec S16 32) : Prop :=
  (∀ a x, ((![v169] : Fin 1 → IVec S16 32) a x).toNat < S16384.size a)
theorem k0_idx52_inb : ∀ (v169 : IVec S16 32) (k0_hw52 : k0_chk52 v169), ∀ a x, ((![v169] : Fin 1 → IVec S16 32) a x).toNat < S16384.size a := fun v169 k0_hw52 => k0_hw52

def k0_chk53 (v172 : IVec S16 32) : Prop :=
  (∀ a x, ((![v172] : Fin 1 → IVec S16 32) a x).toNat < S16384.size a)
theorem k0_idx53_inb : ∀ (v172 : IVec S16 32) (k0_hw53 : k0_chk53 v172), ∀ a x, ((![v172] : Fin 1 → IVec S16 32) a x).toNat < S16384.size a := fun v172 k0_hw53 => k0_hw53

def k0_chk54 (v175 : IVec S16 32) : Prop :=
  (∀ a x, ((![v175] : Fin 1 → IVec S16 32) a x).toNat < S16384.size a)
theorem k0_idx54_inb : ∀ (v175 : IVec S16 32) (k0_hw54 : k0_chk54 v175), ∀ a x, ((![v175] : Fin 1 → IVec S16 32) a x).toNat < S16384.size a := fun v175 k0_hw54 => k0_hw54

def k0_chk55 (v178 : IVec S16 32) : Prop :=
  (∀ a x, ((![v178] : Fin 1 → IVec S16 32) a x).toNat < S16384.size a)
theorem k0_idx55_inb : ∀ (v178 : IVec S16 32) (k0_hw55 : k0_chk55 v178), ∀ a x, ((![v178] : Fin 1 → IVec S16 32) a x).toNat < S16384.size a := fun v178 k0_hw55 => k0_hw55

def k0_chk56 (v181 : IVec S16 32) : Prop :=
  (∀ a x, ((![v181] : Fin 1 → IVec S16 32) a x).toNat < S16384.size a)
theorem k0_idx56_inb : ∀ (v181 : IVec S16 32) (k0_hw56 : k0_chk56 v181), ∀ a x, ((![v181] : Fin 1 → IVec S16 32) a x).toNat < S16384.size a := fun v181 k0_hw56 => k0_hw56

def k0_chk57 (v184 : IVec S16 32) : Prop :=
  (∀ a x, ((![v184] : Fin 1 → IVec S16 32) a x).toNat < S16384.size a)
theorem k0_idx57_inb : ∀ (v184 : IVec S16 32) (k0_hw57 : k0_chk57 v184), ∀ a x, ((![v184] : Fin 1 → IVec S16 32) a x).toNat < S16384.size a := fun v184 k0_hw57 => k0_hw57

def k0_chk58 (v187 : IVec S16 32) : Prop :=
  (∀ a x, ((![v187] : Fin 1 → IVec S16 32) a x).toNat < S16384.size a)
theorem k0_idx58_inb : ∀ (v187 : IVec S16 32) (k0_hw58 : k0_chk58 v187), ∀ a x, ((![v187] : Fin 1 → IVec S16 32) a x).toNat < S16384.size a := fun v187 k0_hw58 => k0_hw58

def k0_chk59 (v190 : IVec S16 32) : Prop :=
  (∀ a x, ((![v190] : Fin 1 → IVec S16 32) a x).toNat < S16384.size a)
theorem k0_idx59_inb : ∀ (v190 : IVec S16 32) (k0_hw59 : k0_chk59 v190), ∀ a x, ((![v190] : Fin 1 → IVec S16 32) a x).toNat < S16384.size a := fun v190 k0_hw59 => k0_hw59

def k0_chk60 (v193 : IVec S16 32) : Prop :=
  (∀ a x, ((![v193] : Fin 1 → IVec S16 32) a x).toNat < S16384.size a)
theorem k0_idx60_inb : ∀ (v193 : IVec S16 32) (k0_hw60 : k0_chk60 v193), ∀ a x, ((![v193] : Fin 1 → IVec S16 32) a x).toNat < S16384.size a := fun v193 k0_hw60 => k0_hw60

def k0_chk61 (v196 : IVec S16 32) : Prop :=
  (∀ a x, ((![v196] : Fin 1 → IVec S16 32) a x).toNat < S16384.size a)
theorem k0_idx61_inb : ∀ (v196 : IVec S16 32) (k0_hw61 : k0_chk61 v196), ∀ a x, ((![v196] : Fin 1 → IVec S16 32) a x).toNat < S16384.size a := fun v196 k0_hw61 => k0_hw61

def k0_chk62 (v199 : IVec S16 32) : Prop :=
  (∀ a x, ((![v199] : Fin 1 → IVec S16 32) a x).toNat < S16384.size a)
theorem k0_idx62_inb : ∀ (v199 : IVec S16 32) (k0_hw62 : k0_chk62 v199), ∀ a x, ((![v199] : Fin 1 → IVec S16 32) a x).toNat < S16384.size a := fun v199 k0_hw62 => k0_hw62

def k0_chk63 (v202 : IVec S16 32) : Prop :=
  (∀ a x, ((![v202] : Fin 1 → IVec S16 32) a x).toNat < S16384.size a)
theorem k0_idx63_inb : ∀ (v202 : IVec S16 32) (k0_hw63 : k0_chk63 v202), ∀ a x, ((![v202] : Fin 1 → IVec S16 32) a x).toNat < S16384.size a := fun v202 k0_hw63 => k0_hw63

def k0_chk64 (v205 : IVec S16 32) : Prop :=
  (∀ a x, ((![v205] : Fin 1 → IVec S16 32) a x).toNat < S16384.size a)
theorem k0_idx64_inb : ∀ (v205 : IVec S16 32) (k0_hw64 : k0_chk64 v205), ∀ a x, ((![v205] : Fin 1 → IVec S16 32) a x).toNat < S16384.size a := fun v205 k0_hw64 => k0_hw64

def k0_chk65 (v208 : IVec S16 32) : Prop :=
  (∀ a x, ((![v208] : Fin 1 → IVec S16 32) a x).toNat < S16384.size a)
theorem k0_idx65_inb : ∀ (v208 : IVec S16 32) (k0_hw65 : k0_chk65 v208), ∀ a x, ((![v208] : Fin 1 → IVec S16 32) a x).toNat < S16384.size a := fun v208 k0_hw65 => k0_hw65

def k0_chk66 (v211 : IVec S16 32) : Prop :=
  (∀ a x, ((![v211] : Fin 1 → IVec S16 32) a x).toNat < S16384.size a)
theorem k0_idx66_inb : ∀ (v211 : IVec S16 32) (k0_hw66 : k0_chk66 v211), ∀ a x, ((![v211] : Fin 1 → IVec S16 32) a x).toNat < S16384.size a := fun v211 k0_hw66 => k0_hw66

def k0_chk67 (v214 : IVec S16 32) : Prop :=
  (∀ a x, ((![v214] : Fin 1 → IVec S16 32) a x).toNat < S16384.size a)
theorem k0_idx67_inb : ∀ (v214 : IVec S16 32) (k0_hw67 : k0_chk67 v214), ∀ a x, ((![v214] : Fin 1 → IVec S16 32) a x).toNat < S16384.size a := fun v214 k0_hw67 => k0_hw67

def k0_chk68 (v217 : IVec S16 32) : Prop :=
  (∀ a x, ((![v217] : Fin 1 → IVec S16 32) a x).toNat < S16384.size a)
theorem k0_idx68_inb : ∀ (v217 : IVec S16 32) (k0_hw68 : k0_chk68 v217), ∀ a x, ((![v217] : Fin 1 → IVec S16 32) a x).toNat < S16384.size a := fun v217 k0_hw68 => k0_hw68

def k0_chk69 (v220 : IVec S16 32) : Prop :=
  (∀ a x, ((![v220] : Fin 1 → IVec S16 32) a x).toNat < S16384.size a)
theorem k0_idx69_inb : ∀ (v220 : IVec S16 32) (k0_hw69 : k0_chk69 v220), ∀ a x, ((![v220] : Fin 1 → IVec S16 32) a x).toNat < S16384.size a := fun v220 k0_hw69 => k0_hw69

def k0_chk70 (v223 : IVec S16 32) : Prop :=
  (∀ a x, ((![v223] : Fin 1 → IVec S16 32) a x).toNat < S16384.size a)
theorem k0_idx70_inb : ∀ (v223 : IVec S16 32) (k0_hw70 : k0_chk70 v223), ∀ a x, ((![v223] : Fin 1 → IVec S16 32) a x).toNat < S16384.size a := fun v223 k0_hw70 => k0_hw70

def k0_chk71 (v226 : IVec S16 32) : Prop :=
  (∀ a x, ((![v226] : Fin 1 → IVec S16 32) a x).toNat < S16384.size a)
theorem k0_idx71_inb : ∀ (v226 : IVec S16 32) (k0_hw71 : k0_chk71 v226), ∀ a x, ((![v226] : Fin 1 → IVec S16 32) a x).toNat < S16384.size a := fun v226 k0_hw71 => k0_hw71

def k0_chk72 (v229 : IVec S16 32) : Prop :=
  (∀ a x, ((![v229] : Fin 1 → IVec S16 32) a x).toNat < S16384.size a)
theorem k0_idx72_inb : ∀ (v229 : IVec S16 32) (k0_hw72 : k0_chk72 v229), ∀ a x, ((![v229] : Fin 1 → IVec S16 32) a x).toNat < S16384.size a := fun v229 k0_hw72 => k0_hw72

def k0_chk73 (v232 : IVec S16 32) : Prop :=
  (∀ a x, ((![v232] : Fin 1 → IVec S16 32) a x).toNat < S16384.size a)
theorem k0_idx73_inb : ∀ (v232 : IVec S16 32) (k0_hw73 : k0_chk73 v232), ∀ a x, ((![v232] : Fin 1 → IVec S16 32) a x).toNat < S16384.size a := fun v232 k0_hw73 => k0_hw73

def k0_chk74 (v235 : IVec S16 32) : Prop :=
  (∀ a x, ((![v235] : Fin 1 → IVec S16 32) a x).toNat < S16384.size a)
theorem k0_idx74_inb : ∀ (v235 : IVec S16 32) (k0_hw74 : k0_chk74 v235), ∀ a x, ((![v235] : Fin 1 → IVec S16 32) a x).toNat < S16384.size a := fun v235 k0_hw74 => k0_hw74

def k0_chk75 (v238 : IVec S16 32) : Prop :=
  (∀ a x, ((![v238] : Fin 1 → IVec S16 32) a x).toNat < S16384.size a)
theorem k0_idx75_inb : ∀ (v238 : IVec S16 32) (k0_hw75 : k0_chk75 v238), ∀ a x, ((![v238] : Fin 1 → IVec S16 32) a x).toNat < S16384.size a := fun v238 k0_hw75 => k0_hw75

def k0_chk76 (v241 : IVec S16 32) : Prop :=
  (∀ a x, ((![v241] : Fin 1 → IVec S16 32) a x).toNat < S16384.size a)
theorem k0_idx76_inb : ∀ (v241 : IVec S16 32) (k0_hw76 : k0_chk76 v241), ∀ a x, ((![v241] : Fin 1 → IVec S16 32) a x).toNat < S16384.size a := fun v241 k0_hw76 => k0_hw76

def k0_chk77 (v244 : IVec S16 32) : Prop :=
  (∀ a x, ((![v244] : Fin 1 → IVec S16 32) a x).toNat < S16384.size a)
theorem k0_idx77_inb : ∀ (v244 : IVec S16 32) (k0_hw77 : k0_chk77 v244), ∀ a x, ((![v244] : Fin 1 → IVec S16 32) a x).toNat < S16384.size a := fun v244 k0_hw77 => k0_hw77

def k0_chk78 (v247 : IVec S16 32) : Prop :=
  (∀ a x, ((![v247] : Fin 1 → IVec S16 32) a x).toNat < S16384.size a)
theorem k0_idx78_inb : ∀ (v247 : IVec S16 32) (k0_hw78 : k0_chk78 v247), ∀ a x, ((![v247] : Fin 1 → IVec S16 32) a x).toNat < S16384.size a := fun v247 k0_hw78 => k0_hw78

def k0_chk79 (v250 : IVec S16 32) : Prop :=
  (∀ a x, ((![v250] : Fin 1 → IVec S16 32) a x).toNat < S16384.size a)
theorem k0_idx79_inb : ∀ (v250 : IVec S16 32) (k0_hw79 : k0_chk79 v250), ∀ a x, ((![v250] : Fin 1 → IVec S16 32) a x).toNat < S16384.size a := fun v250 k0_hw79 => k0_hw79

def k0_chk80 (v253 : IVec S16 32) : Prop :=
  (∀ a x, ((![v253] : Fin 1 → IVec S16 32) a x).toNat < S16384.size a)
theorem k0_idx80_inb : ∀ (v253 : IVec S16 32) (k0_hw80 : k0_chk80 v253), ∀ a x, ((![v253] : Fin 1 → IVec S16 32) a x).toNat < S16384.size a := fun v253 k0_hw80 => k0_hw80

def k0_chk81 (v256 : IVec S16 32) : Prop :=
  (∀ a x, ((![v256] : Fin 1 → IVec S16 32) a x).toNat < S16384.size a)
theorem k0_idx81_inb : ∀ (v256 : IVec S16 32) (k0_hw81 : k0_chk81 v256), ∀ a x, ((![v256] : Fin 1 → IVec S16 32) a x).toNat < S16384.size a := fun v256 k0_hw81 => k0_hw81

def k0_chk82 (v259 : IVec S16 32) : Prop :=
  (∀ a x, ((![v259] : Fin 1 → IVec S16 32) a x).toNat < S16384.size a)
theorem k0_idx82_inb : ∀ (v259 : IVec S16 32) (k0_hw82 : k0_chk82 v259), ∀ a x, ((![v259] : Fin 1 → IVec S16 32) a x).toNat < S16384.size a := fun v259 k0_hw82 => k0_hw82

def k0_chk83 (v262 : IVec S16 32) : Prop :=
  (∀ a x, ((![v262] : Fin 1 → IVec S16 32) a x).toNat < S16384.size a)
theorem k0_idx83_inb : ∀ (v262 : IVec S16 32) (k0_hw83 : k0_chk83 v262), ∀ a x, ((![v262] : Fin 1 → IVec S16 32) a x).toNat < S16384.size a := fun v262 k0_hw83 => k0_hw83

def k0_chk84 (v265 : IVec S16 32) : Prop :=
  (∀ a x, ((![v265] : Fin 1 → IVec S16 32) a x).toNat < S16384.size a)
theorem k0_idx84_inb : ∀ (v265 : IVec S16 32) (k0_hw84 : k0_chk84 v265), ∀ a x, ((![v265] : Fin 1 → IVec S16 32) a x).toNat < S16384.size a := fun v265 k0_hw84 => k0_hw84

def k0_chk85 (v268 : IVec S16 32) : Prop :=
  (∀ a x, ((![v268] : Fin 1 → IVec S16 32) a x).toNat < S16384.size a)
theorem k0_idx85_inb : ∀ (v268 : IVec S16 32) (k0_hw85 : k0_chk85 v268), ∀ a x, ((![v268] : Fin 1 → IVec S16 32) a x).toNat < S16384.size a := fun v268 k0_hw85 => k0_hw85

def k0_chk86 (v271 : IVec S16 32) : Prop :=
  (∀ a x, ((![v271] : Fin 1 → IVec S16 32) a x).toNat < S16384.size a)
theorem k0_idx86_inb : ∀ (v271 : IVec S16 32) (k0_hw86 : k0_chk86 v271), ∀ a x, ((![v271] : Fin 1 → IVec S16 32) a x).toNat < S16384.size a := fun v271 k0_hw86 => k0_hw86

def k0_chk87 (v274 : IVec S16 32) : Prop :=
  (∀ a x, ((![v274] : Fin 1 → IVec S16 32) a x).toNat < S16384.size a)
theorem k0_idx87_inb : ∀ (v274 : IVec S16 32) (k0_hw87 : k0_chk87 v274), ∀ a x, ((![v274] : Fin 1 → IVec S16 32) a x).toNat < S16384.size a := fun v274 k0_hw87 => k0_hw87

def k0_chk88 (v277 : IVec S16 32) : Prop :=
  (∀ a x, ((![v277] : Fin 1 → IVec S16 32) a x).toNat < S16384.size a)
theorem k0_idx88_inb : ∀ (v277 : IVec S16 32) (k0_hw88 : k0_chk88 v277), ∀ a x, ((![v277] : Fin 1 → IVec S16 32) a x).toNat < S16384.size a := fun v277 k0_hw88 => k0_hw88

def k0_chk89 (v280 : IVec S16 32) : Prop :=
  (∀ a x, ((![v280] : Fin 1 → IVec S16 32) a x).toNat < S16384.size a)
theorem k0_idx89_inb : ∀ (v280 : IVec S16 32) (k0_hw89 : k0_chk89 v280), ∀ a x, ((![v280] : Fin 1 → IVec S16 32) a x).toNat < S16384.size a := fun v280 k0_hw89 => k0_hw89

def k0_chk90 (v283 : IVec S16 32) : Prop :=
  (∀ a x, ((![v283] : Fin 1 → IVec S16 32) a x).toNat < S16384.size a)
theorem k0_idx90_inb : ∀ (v283 : IVec S16 32) (k0_hw90 : k0_chk90 v283), ∀ a x, ((![v283] : Fin 1 → IVec S16 32) a x).toNat < S16384.size a := fun v283 k0_hw90 => k0_hw90

def k0_chk91 (v286 : IVec S16 32) : Prop :=
  (∀ a x, ((![v286] : Fin 1 → IVec S16 32) a x).toNat < S16384.size a)
theorem k0_idx91_inb : ∀ (v286 : IVec S16 32) (k0_hw91 : k0_chk91 v286), ∀ a x, ((![v286] : Fin 1 → IVec S16 32) a x).toNat < S16384.size a := fun v286 k0_hw91 => k0_hw91

def k0_chk92 (v289 : IVec S16 32) : Prop :=
  (∀ a x, ((![v289] : Fin 1 → IVec S16 32) a x).toNat < S16384.size a)
theorem k0_idx92_inb : ∀ (v289 : IVec S16 32) (k0_hw92 : k0_chk92 v289), ∀ a x, ((![v289] : Fin 1 → IVec S16 32) a x).toNat < S16384.size a := fun v289 k0_hw92 => k0_hw92

def k0_chk93 (v292 : IVec S16 32) : Prop :=
  (∀ a x, ((![v292] : Fin 1 → IVec S16 32) a x).toNat < S16384.size a)
theorem k0_idx93_inb : ∀ (v292 : IVec S16 32) (k0_hw93 : k0_chk93 v292), ∀ a x, ((![v292] : Fin 1 → IVec S16 32) a x).toNat < S16384.size a := fun v292 k0_hw93 => k0_hw93

def k0_chk94 (v295 : IVec S16 32) : Prop :=
  (∀ a x, ((![v295] : Fin 1 → IVec S16 32) a x).toNat < S16384.size a)
theorem k0_idx94_inb : ∀ (v295 : IVec S16 32) (k0_hw94 : k0_chk94 v295), ∀ a x, ((![v295] : Fin 1 → IVec S16 32) a x).toNat < S16384.size a := fun v295 k0_hw94 => k0_hw94

def k0_chk95 (v298 : IVec S16 32) : Prop :=
  (∀ a x, ((![v298] : Fin 1 → IVec S16 32) a x).toNat < S16384.size a)
theorem k0_idx95_inb : ∀ (v298 : IVec S16 32) (k0_hw95 : k0_chk95 v298), ∀ a x, ((![v298] : Fin 1 → IVec S16 32) a x).toNat < S16384.size a := fun v298 k0_hw95 => k0_hw95

def k0_chk96 (v301 : IVec S16 32) : Prop :=
  (∀ a x, ((![v301] : Fin 1 → IVec S16 32) a x).toNat < S16384.size a)
theorem k0_idx96_inb : ∀ (v301 : IVec S16 32) (k0_hw96 : k0_chk96 v301), ∀ a x, ((![v301] : Fin 1 → IVec S16 32) a x).toNat < S16384.size a := fun v301 k0_hw96 => k0_hw96
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v302 : BitVec 32 := Scalar.addi v2 c8_i32
  let c2048_i32_127 : BitVec 32 := 2048#32
  let v303 : BitVec 32 := Scalar.muli v302 c2048_i32_127
  ![v303.toNat]

def k0_chk97 (v310 : IVec S16 32) : Prop :=
  (∀ a x, ((![v310] : Fin 1 → IVec S16 32) a x).toNat < S16384.size a)
theorem k0_idx97_inb : ∀ (v310 : IVec S16 32) (k0_hw97 : k0_chk97 v310), ∀ a x, ((![v310] : Fin 1 → IVec S16 32) a x).toNat < S16384.size a := fun v310 k0_hw97 => k0_hw97

def k0_chk98 (v313 : IVec S16 32) : Prop :=
  (∀ a x, ((![v313] : Fin 1 → IVec S16 32) a x).toNat < S16384.size a)
theorem k0_idx98_inb : ∀ (v313 : IVec S16 32) (k0_hw98 : k0_chk98 v313), ∀ a x, ((![v313] : Fin 1 → IVec S16 32) a x).toNat < S16384.size a := fun v313 k0_hw98 => k0_hw98

def k0_chk99 (v316 : IVec S16 32) : Prop :=
  (∀ a x, ((![v316] : Fin 1 → IVec S16 32) a x).toNat < S16384.size a)
theorem k0_idx99_inb : ∀ (v316 : IVec S16 32) (k0_hw99 : k0_chk99 v316), ∀ a x, ((![v316] : Fin 1 → IVec S16 32) a x).toNat < S16384.size a := fun v316 k0_hw99 => k0_hw99

def k0_chk100 (v319 : IVec S16 32) : Prop :=
  (∀ a x, ((![v319] : Fin 1 → IVec S16 32) a x).toNat < S16384.size a)
theorem k0_idx100_inb : ∀ (v319 : IVec S16 32) (k0_hw100 : k0_chk100 v319), ∀ a x, ((![v319] : Fin 1 → IVec S16 32) a x).toNat < S16384.size a := fun v319 k0_hw100 => k0_hw100

def k0_chk101 (v322 : IVec S16 32) : Prop :=
  (∀ a x, ((![v322] : Fin 1 → IVec S16 32) a x).toNat < S16384.size a)
theorem k0_idx101_inb : ∀ (v322 : IVec S16 32) (k0_hw101 : k0_chk101 v322), ∀ a x, ((![v322] : Fin 1 → IVec S16 32) a x).toNat < S16384.size a := fun v322 k0_hw101 => k0_hw101

def k0_chk102 (v325 : IVec S16 32) : Prop :=
  (∀ a x, ((![v325] : Fin 1 → IVec S16 32) a x).toNat < S16384.size a)
theorem k0_idx102_inb : ∀ (v325 : IVec S16 32) (k0_hw102 : k0_chk102 v325), ∀ a x, ((![v325] : Fin 1 → IVec S16 32) a x).toNat < S16384.size a := fun v325 k0_hw102 => k0_hw102

def k0_chk103 (v328 : IVec S16 32) : Prop :=
  (∀ a x, ((![v328] : Fin 1 → IVec S16 32) a x).toNat < S16384.size a)
theorem k0_idx103_inb : ∀ (v328 : IVec S16 32) (k0_hw103 : k0_chk103 v328), ∀ a x, ((![v328] : Fin 1 → IVec S16 32) a x).toNat < S16384.size a := fun v328 k0_hw103 => k0_hw103

def k0_chk104 (v331 : IVec S16 32) : Prop :=
  (∀ a x, ((![v331] : Fin 1 → IVec S16 32) a x).toNat < S16384.size a)
theorem k0_idx104_inb : ∀ (v331 : IVec S16 32) (k0_hw104 : k0_chk104 v331), ∀ a x, ((![v331] : Fin 1 → IVec S16 32) a x).toNat < S16384.size a := fun v331 k0_hw104 => k0_hw104

def k0_chk105 (v334 : IVec S16 32) : Prop :=
  (∀ a x, ((![v334] : Fin 1 → IVec S16 32) a x).toNat < S16384.size a)
theorem k0_idx105_inb : ∀ (v334 : IVec S16 32) (k0_hw105 : k0_chk105 v334), ∀ a x, ((![v334] : Fin 1 → IVec S16 32) a x).toNat < S16384.size a := fun v334 k0_hw105 => k0_hw105

def k0_chk106 (v337 : IVec S16 32) : Prop :=
  (∀ a x, ((![v337] : Fin 1 → IVec S16 32) a x).toNat < S16384.size a)
theorem k0_idx106_inb : ∀ (v337 : IVec S16 32) (k0_hw106 : k0_chk106 v337), ∀ a x, ((![v337] : Fin 1 → IVec S16 32) a x).toNat < S16384.size a := fun v337 k0_hw106 => k0_hw106

def k0_chk107 (v340 : IVec S16 32) : Prop :=
  (∀ a x, ((![v340] : Fin 1 → IVec S16 32) a x).toNat < S16384.size a)
theorem k0_idx107_inb : ∀ (v340 : IVec S16 32) (k0_hw107 : k0_chk107 v340), ∀ a x, ((![v340] : Fin 1 → IVec S16 32) a x).toNat < S16384.size a := fun v340 k0_hw107 => k0_hw107

def k0_chk108 (v343 : IVec S16 32) : Prop :=
  (∀ a x, ((![v343] : Fin 1 → IVec S16 32) a x).toNat < S16384.size a)
theorem k0_idx108_inb : ∀ (v343 : IVec S16 32) (k0_hw108 : k0_chk108 v343), ∀ a x, ((![v343] : Fin 1 → IVec S16 32) a x).toNat < S16384.size a := fun v343 k0_hw108 => k0_hw108

def k0_chk109 (v346 : IVec S16 32) : Prop :=
  (∀ a x, ((![v346] : Fin 1 → IVec S16 32) a x).toNat < S16384.size a)
theorem k0_idx109_inb : ∀ (v346 : IVec S16 32) (k0_hw109 : k0_chk109 v346), ∀ a x, ((![v346] : Fin 1 → IVec S16 32) a x).toNat < S16384.size a := fun v346 k0_hw109 => k0_hw109

def k0_chk110 (v349 : IVec S16 32) : Prop :=
  (∀ a x, ((![v349] : Fin 1 → IVec S16 32) a x).toNat < S16384.size a)
theorem k0_idx110_inb : ∀ (v349 : IVec S16 32) (k0_hw110 : k0_chk110 v349), ∀ a x, ((![v349] : Fin 1 → IVec S16 32) a x).toNat < S16384.size a := fun v349 k0_hw110 => k0_hw110

def k0_chk111 (v352 : IVec S16 32) : Prop :=
  (∀ a x, ((![v352] : Fin 1 → IVec S16 32) a x).toNat < S16384.size a)
theorem k0_idx111_inb : ∀ (v352 : IVec S16 32) (k0_hw111 : k0_chk111 v352), ∀ a x, ((![v352] : Fin 1 → IVec S16 32) a x).toNat < S16384.size a := fun v352 k0_hw111 => k0_hw111

def k0_chk112 (v355 : IVec S16 32) : Prop :=
  (∀ a x, ((![v355] : Fin 1 → IVec S16 32) a x).toNat < S16384.size a)
theorem k0_idx112_inb : ∀ (v355 : IVec S16 32) (k0_hw112 : k0_chk112 v355), ∀ a x, ((![v355] : Fin 1 → IVec S16 32) a x).toNat < S16384.size a := fun v355 k0_hw112 => k0_hw112

def k0_chk113 (v358 : IVec S16 32) : Prop :=
  (∀ a x, ((![v358] : Fin 1 → IVec S16 32) a x).toNat < S16384.size a)
theorem k0_idx113_inb : ∀ (v358 : IVec S16 32) (k0_hw113 : k0_chk113 v358), ∀ a x, ((![v358] : Fin 1 → IVec S16 32) a x).toNat < S16384.size a := fun v358 k0_hw113 => k0_hw113

def k0_chk114 (v361 : IVec S16 32) : Prop :=
  (∀ a x, ((![v361] : Fin 1 → IVec S16 32) a x).toNat < S16384.size a)
theorem k0_idx114_inb : ∀ (v361 : IVec S16 32) (k0_hw114 : k0_chk114 v361), ∀ a x, ((![v361] : Fin 1 → IVec S16 32) a x).toNat < S16384.size a := fun v361 k0_hw114 => k0_hw114

def k0_chk115 (v364 : IVec S16 32) : Prop :=
  (∀ a x, ((![v364] : Fin 1 → IVec S16 32) a x).toNat < S16384.size a)
theorem k0_idx115_inb : ∀ (v364 : IVec S16 32) (k0_hw115 : k0_chk115 v364), ∀ a x, ((![v364] : Fin 1 → IVec S16 32) a x).toNat < S16384.size a := fun v364 k0_hw115 => k0_hw115

def k0_chk116 (v367 : IVec S16 32) : Prop :=
  (∀ a x, ((![v367] : Fin 1 → IVec S16 32) a x).toNat < S16384.size a)
theorem k0_idx116_inb : ∀ (v367 : IVec S16 32) (k0_hw116 : k0_chk116 v367), ∀ a x, ((![v367] : Fin 1 → IVec S16 32) a x).toNat < S16384.size a := fun v367 k0_hw116 => k0_hw116

def k0_chk117 (v370 : IVec S16 32) : Prop :=
  (∀ a x, ((![v370] : Fin 1 → IVec S16 32) a x).toNat < S16384.size a)
theorem k0_idx117_inb : ∀ (v370 : IVec S16 32) (k0_hw117 : k0_chk117 v370), ∀ a x, ((![v370] : Fin 1 → IVec S16 32) a x).toNat < S16384.size a := fun v370 k0_hw117 => k0_hw117

def k0_chk118 (v373 : IVec S16 32) : Prop :=
  (∀ a x, ((![v373] : Fin 1 → IVec S16 32) a x).toNat < S16384.size a)
theorem k0_idx118_inb : ∀ (v373 : IVec S16 32) (k0_hw118 : k0_chk118 v373), ∀ a x, ((![v373] : Fin 1 → IVec S16 32) a x).toNat < S16384.size a := fun v373 k0_hw118 => k0_hw118

def k0_chk119 (v376 : IVec S16 32) : Prop :=
  (∀ a x, ((![v376] : Fin 1 → IVec S16 32) a x).toNat < S16384.size a)
theorem k0_idx119_inb : ∀ (v376 : IVec S16 32) (k0_hw119 : k0_chk119 v376), ∀ a x, ((![v376] : Fin 1 → IVec S16 32) a x).toNat < S16384.size a := fun v376 k0_hw119 => k0_hw119

def k0_chk120 (v379 : IVec S16 32) : Prop :=
  (∀ a x, ((![v379] : Fin 1 → IVec S16 32) a x).toNat < S16384.size a)
theorem k0_idx120_inb : ∀ (v379 : IVec S16 32) (k0_hw120 : k0_chk120 v379), ∀ a x, ((![v379] : Fin 1 → IVec S16 32) a x).toNat < S16384.size a := fun v379 k0_hw120 => k0_hw120

def k0_chk121 (v382 : IVec S16 32) : Prop :=
  (∀ a x, ((![v382] : Fin 1 → IVec S16 32) a x).toNat < S16384.size a)
theorem k0_idx121_inb : ∀ (v382 : IVec S16 32) (k0_hw121 : k0_chk121 v382), ∀ a x, ((![v382] : Fin 1 → IVec S16 32) a x).toNat < S16384.size a := fun v382 k0_hw121 => k0_hw121

def k0_chk122 (v385 : IVec S16 32) : Prop :=
  (∀ a x, ((![v385] : Fin 1 → IVec S16 32) a x).toNat < S16384.size a)
theorem k0_idx122_inb : ∀ (v385 : IVec S16 32) (k0_hw122 : k0_chk122 v385), ∀ a x, ((![v385] : Fin 1 → IVec S16 32) a x).toNat < S16384.size a := fun v385 k0_hw122 => k0_hw122

def k0_chk123 (v388 : IVec S16 32) : Prop :=
  (∀ a x, ((![v388] : Fin 1 → IVec S16 32) a x).toNat < S16384.size a)
theorem k0_idx123_inb : ∀ (v388 : IVec S16 32) (k0_hw123 : k0_chk123 v388), ∀ a x, ((![v388] : Fin 1 → IVec S16 32) a x).toNat < S16384.size a := fun v388 k0_hw123 => k0_hw123

def k0_chk124 (v391 : IVec S16 32) : Prop :=
  (∀ a x, ((![v391] : Fin 1 → IVec S16 32) a x).toNat < S16384.size a)
theorem k0_idx124_inb : ∀ (v391 : IVec S16 32) (k0_hw124 : k0_chk124 v391), ∀ a x, ((![v391] : Fin 1 → IVec S16 32) a x).toNat < S16384.size a := fun v391 k0_hw124 => k0_hw124

def k0_chk125 (v394 : IVec S16 32) : Prop :=
  (∀ a x, ((![v394] : Fin 1 → IVec S16 32) a x).toNat < S16384.size a)
theorem k0_idx125_inb : ∀ (v394 : IVec S16 32) (k0_hw125 : k0_chk125 v394), ∀ a x, ((![v394] : Fin 1 → IVec S16 32) a x).toNat < S16384.size a := fun v394 k0_hw125 => k0_hw125

def k0_chk126 (v397 : IVec S16 32) : Prop :=
  (∀ a x, ((![v397] : Fin 1 → IVec S16 32) a x).toNat < S16384.size a)
theorem k0_idx126_inb : ∀ (v397 : IVec S16 32) (k0_hw126 : k0_chk126 v397), ∀ a x, ((![v397] : Fin 1 → IVec S16 32) a x).toNat < S16384.size a := fun v397 k0_hw126 => k0_hw126

def k0_chk127 (v400 : IVec S16 32) : Prop :=
  (∀ a x, ((![v400] : Fin 1 → IVec S16 32) a x).toNat < S16384.size a)
theorem k0_idx127_inb : ∀ (v400 : IVec S16 32) (k0_hw127 : k0_chk127 v400), ∀ a x, ((![v400] : Fin 1 → IVec S16 32) a x).toNat < S16384.size a := fun v400 k0_hw127 => k0_hw127

def k0_chk128 (v403 : IVec S16 32) : Prop :=
  (∀ a x, ((![v403] : Fin 1 → IVec S16 32) a x).toNat < S16384.size a)
theorem k0_idx128_inb : ∀ (v403 : IVec S16 32) (k0_hw128 : k0_chk128 v403), ∀ a x, ((![v403] : Fin 1 → IVec S16 32) a x).toNat < S16384.size a := fun v403 k0_hw128 => k0_hw128

def k0_chk129 (v406 : IVec S16 32) : Prop :=
  (∀ a x, ((![v406] : Fin 1 → IVec S16 32) a x).toNat < S16384.size a)
theorem k0_idx129_inb : ∀ (v406 : IVec S16 32) (k0_hw129 : k0_chk129 v406), ∀ a x, ((![v406] : Fin 1 → IVec S16 32) a x).toNat < S16384.size a := fun v406 k0_hw129 => k0_hw129

def k0_chk130 (v409 : IVec S16 32) : Prop :=
  (∀ a x, ((![v409] : Fin 1 → IVec S16 32) a x).toNat < S16384.size a)
theorem k0_idx130_inb : ∀ (v409 : IVec S16 32) (k0_hw130 : k0_chk130 v409), ∀ a x, ((![v409] : Fin 1 → IVec S16 32) a x).toNat < S16384.size a := fun v409 k0_hw130 => k0_hw130

def k0_chk131 (v412 : IVec S16 32) : Prop :=
  (∀ a x, ((![v412] : Fin 1 → IVec S16 32) a x).toNat < S16384.size a)
theorem k0_idx131_inb : ∀ (v412 : IVec S16 32) (k0_hw131 : k0_chk131 v412), ∀ a x, ((![v412] : Fin 1 → IVec S16 32) a x).toNat < S16384.size a := fun v412 k0_hw131 => k0_hw131

def k0_chk132 (v415 : IVec S16 32) : Prop :=
  (∀ a x, ((![v415] : Fin 1 → IVec S16 32) a x).toNat < S16384.size a)
theorem k0_idx132_inb : ∀ (v415 : IVec S16 32) (k0_hw132 : k0_chk132 v415), ∀ a x, ((![v415] : Fin 1 → IVec S16 32) a x).toNat < S16384.size a := fun v415 k0_hw132 => k0_hw132

def k0_chk133 (v418 : IVec S16 32) : Prop :=
  (∀ a x, ((![v418] : Fin 1 → IVec S16 32) a x).toNat < S16384.size a)
theorem k0_idx133_inb : ∀ (v418 : IVec S16 32) (k0_hw133 : k0_chk133 v418), ∀ a x, ((![v418] : Fin 1 → IVec S16 32) a x).toNat < S16384.size a := fun v418 k0_hw133 => k0_hw133

def k0_chk134 (v421 : IVec S16 32) : Prop :=
  (∀ a x, ((![v421] : Fin 1 → IVec S16 32) a x).toNat < S16384.size a)
theorem k0_idx134_inb : ∀ (v421 : IVec S16 32) (k0_hw134 : k0_chk134 v421), ∀ a x, ((![v421] : Fin 1 → IVec S16 32) a x).toNat < S16384.size a := fun v421 k0_hw134 => k0_hw134

def k0_chk135 (v424 : IVec S16 32) : Prop :=
  (∀ a x, ((![v424] : Fin 1 → IVec S16 32) a x).toNat < S16384.size a)
theorem k0_idx135_inb : ∀ (v424 : IVec S16 32) (k0_hw135 : k0_chk135 v424), ∀ a x, ((![v424] : Fin 1 → IVec S16 32) a x).toNat < S16384.size a := fun v424 k0_hw135 => k0_hw135

def k0_chk136 (v427 : IVec S16 32) : Prop :=
  (∀ a x, ((![v427] : Fin 1 → IVec S16 32) a x).toNat < S16384.size a)
theorem k0_idx136_inb : ∀ (v427 : IVec S16 32) (k0_hw136 : k0_chk136 v427), ∀ a x, ((![v427] : Fin 1 → IVec S16 32) a x).toNat < S16384.size a := fun v427 k0_hw136 => k0_hw136

def k0_chk137 (v430 : IVec S16 32) : Prop :=
  (∀ a x, ((![v430] : Fin 1 → IVec S16 32) a x).toNat < S16384.size a)
theorem k0_idx137_inb : ∀ (v430 : IVec S16 32) (k0_hw137 : k0_chk137 v430), ∀ a x, ((![v430] : Fin 1 → IVec S16 32) a x).toNat < S16384.size a := fun v430 k0_hw137 => k0_hw137

def k0_chk138 (v433 : IVec S16 32) : Prop :=
  (∀ a x, ((![v433] : Fin 1 → IVec S16 32) a x).toNat < S16384.size a)
theorem k0_idx138_inb : ∀ (v433 : IVec S16 32) (k0_hw138 : k0_chk138 v433), ∀ a x, ((![v433] : Fin 1 → IVec S16 32) a x).toNat < S16384.size a := fun v433 k0_hw138 => k0_hw138

def k0_chk139 (v436 : IVec S16 32) : Prop :=
  (∀ a x, ((![v436] : Fin 1 → IVec S16 32) a x).toNat < S16384.size a)
theorem k0_idx139_inb : ∀ (v436 : IVec S16 32) (k0_hw139 : k0_chk139 v436), ∀ a x, ((![v436] : Fin 1 → IVec S16 32) a x).toNat < S16384.size a := fun v436 k0_hw139 => k0_hw139

def k0_chk140 (v439 : IVec S16 32) : Prop :=
  (∀ a x, ((![v439] : Fin 1 → IVec S16 32) a x).toNat < S16384.size a)
theorem k0_idx140_inb : ∀ (v439 : IVec S16 32) (k0_hw140 : k0_chk140 v439), ∀ a x, ((![v439] : Fin 1 → IVec S16 32) a x).toNat < S16384.size a := fun v439 k0_hw140 => k0_hw140

def k0_chk141 (v442 : IVec S16 32) : Prop :=
  (∀ a x, ((![v442] : Fin 1 → IVec S16 32) a x).toNat < S16384.size a)
theorem k0_idx141_inb : ∀ (v442 : IVec S16 32) (k0_hw141 : k0_chk141 v442), ∀ a x, ((![v442] : Fin 1 → IVec S16 32) a x).toNat < S16384.size a := fun v442 k0_hw141 => k0_hw141

def k0_chk142 (v445 : IVec S16 32) : Prop :=
  (∀ a x, ((![v445] : Fin 1 → IVec S16 32) a x).toNat < S16384.size a)
theorem k0_idx142_inb : ∀ (v445 : IVec S16 32) (k0_hw142 : k0_chk142 v445), ∀ a x, ((![v445] : Fin 1 → IVec S16 32) a x).toNat < S16384.size a := fun v445 k0_hw142 => k0_hw142

def k0_chk143 (v448 : IVec S16 32) : Prop :=
  (∀ a x, ((![v448] : Fin 1 → IVec S16 32) a x).toNat < S16384.size a)
theorem k0_idx143_inb : ∀ (v448 : IVec S16 32) (k0_hw143 : k0_chk143 v448), ∀ a x, ((![v448] : Fin 1 → IVec S16 32) a x).toNat < S16384.size a := fun v448 k0_hw143 => k0_hw143

def k0_chk144 (v451 : IVec S16 32) : Prop :=
  (∀ a x, ((![v451] : Fin 1 → IVec S16 32) a x).toNat < S16384.size a)
theorem k0_idx144_inb : ∀ (v451 : IVec S16 32) (k0_hw144 : k0_chk144 v451), ∀ a x, ((![v451] : Fin 1 → IVec S16 32) a x).toNat < S16384.size a := fun v451 k0_hw144 => k0_hw144

def k0_chk145 (v454 : IVec S16 32) : Prop :=
  (∀ a x, ((![v454] : Fin 1 → IVec S16 32) a x).toNat < S16384.size a)
theorem k0_idx145_inb : ∀ (v454 : IVec S16 32) (k0_hw145 : k0_chk145 v454), ∀ a x, ((![v454] : Fin 1 → IVec S16 32) a x).toNat < S16384.size a := fun v454 k0_hw145 => k0_hw145

def k0_chk146 (v457 : IVec S16 32) : Prop :=
  (∀ a x, ((![v457] : Fin 1 → IVec S16 32) a x).toNat < S16384.size a)
theorem k0_idx146_inb : ∀ (v457 : IVec S16 32) (k0_hw146 : k0_chk146 v457), ∀ a x, ((![v457] : Fin 1 → IVec S16 32) a x).toNat < S16384.size a := fun v457 k0_hw146 => k0_hw146

def k0_chk147 (v460 : IVec S16 32) : Prop :=
  (∀ a x, ((![v460] : Fin 1 → IVec S16 32) a x).toNat < S16384.size a)
theorem k0_idx147_inb : ∀ (v460 : IVec S16 32) (k0_hw147 : k0_chk147 v460), ∀ a x, ((![v460] : Fin 1 → IVec S16 32) a x).toNat < S16384.size a := fun v460 k0_hw147 => k0_hw147

def k0_chk148 (v463 : IVec S16 32) : Prop :=
  (∀ a x, ((![v463] : Fin 1 → IVec S16 32) a x).toNat < S16384.size a)
theorem k0_idx148_inb : ∀ (v463 : IVec S16 32) (k0_hw148 : k0_chk148 v463), ∀ a x, ((![v463] : Fin 1 → IVec S16 32) a x).toNat < S16384.size a := fun v463 k0_hw148 => k0_hw148

def k0_chk149 (v466 : IVec S16 32) : Prop :=
  (∀ a x, ((![v466] : Fin 1 → IVec S16 32) a x).toNat < S16384.size a)
theorem k0_idx149_inb : ∀ (v466 : IVec S16 32) (k0_hw149 : k0_chk149 v466), ∀ a x, ((![v466] : Fin 1 → IVec S16 32) a x).toNat < S16384.size a := fun v466 k0_hw149 => k0_hw149

def k0_chk150 (v469 : IVec S16 32) : Prop :=
  (∀ a x, ((![v469] : Fin 1 → IVec S16 32) a x).toNat < S16384.size a)
theorem k0_idx150_inb : ∀ (v469 : IVec S16 32) (k0_hw150 : k0_chk150 v469), ∀ a x, ((![v469] : Fin 1 → IVec S16 32) a x).toNat < S16384.size a := fun v469 k0_hw150 => k0_hw150

def k0_chk151 (v472 : IVec S16 32) : Prop :=
  (∀ a x, ((![v472] : Fin 1 → IVec S16 32) a x).toNat < S16384.size a)
theorem k0_idx151_inb : ∀ (v472 : IVec S16 32) (k0_hw151 : k0_chk151 v472), ∀ a x, ((![v472] : Fin 1 → IVec S16 32) a x).toNat < S16384.size a := fun v472 k0_hw151 => k0_hw151

def k0_chk152 (v475 : IVec S16 32) : Prop :=
  (∀ a x, ((![v475] : Fin 1 → IVec S16 32) a x).toNat < S16384.size a)
theorem k0_idx152_inb : ∀ (v475 : IVec S16 32) (k0_hw152 : k0_chk152 v475), ∀ a x, ((![v475] : Fin 1 → IVec S16 32) a x).toNat < S16384.size a := fun v475 k0_hw152 => k0_hw152

def k0_chk153 (v478 : IVec S16 32) : Prop :=
  (∀ a x, ((![v478] : Fin 1 → IVec S16 32) a x).toNat < S16384.size a)
theorem k0_idx153_inb : ∀ (v478 : IVec S16 32) (k0_hw153 : k0_chk153 v478), ∀ a x, ((![v478] : Fin 1 → IVec S16 32) a x).toNat < S16384.size a := fun v478 k0_hw153 => k0_hw153

def k0_chk154 (v481 : IVec S16 32) : Prop :=
  (∀ a x, ((![v481] : Fin 1 → IVec S16 32) a x).toNat < S16384.size a)
theorem k0_idx154_inb : ∀ (v481 : IVec S16 32) (k0_hw154 : k0_chk154 v481), ∀ a x, ((![v481] : Fin 1 → IVec S16 32) a x).toNat < S16384.size a := fun v481 k0_hw154 => k0_hw154

def k0_chk155 (v484 : IVec S16 32) : Prop :=
  (∀ a x, ((![v484] : Fin 1 → IVec S16 32) a x).toNat < S16384.size a)
theorem k0_idx155_inb : ∀ (v484 : IVec S16 32) (k0_hw155 : k0_chk155 v484), ∀ a x, ((![v484] : Fin 1 → IVec S16 32) a x).toNat < S16384.size a := fun v484 k0_hw155 => k0_hw155

def k0_chk156 (v487 : IVec S16 32) : Prop :=
  (∀ a x, ((![v487] : Fin 1 → IVec S16 32) a x).toNat < S16384.size a)
theorem k0_idx156_inb : ∀ (v487 : IVec S16 32) (k0_hw156 : k0_chk156 v487), ∀ a x, ((![v487] : Fin 1 → IVec S16 32) a x).toNat < S16384.size a := fun v487 k0_hw156 => k0_hw156

def k0_chk157 (v490 : IVec S16 32) : Prop :=
  (∀ a x, ((![v490] : Fin 1 → IVec S16 32) a x).toNat < S16384.size a)
theorem k0_idx157_inb : ∀ (v490 : IVec S16 32) (k0_hw157 : k0_chk157 v490), ∀ a x, ((![v490] : Fin 1 → IVec S16 32) a x).toNat < S16384.size a := fun v490 k0_hw157 => k0_hw157

def k0_chk158 (v493 : IVec S16 32) : Prop :=
  (∀ a x, ((![v493] : Fin 1 → IVec S16 32) a x).toNat < S16384.size a)
theorem k0_idx158_inb : ∀ (v493 : IVec S16 32) (k0_hw158 : k0_chk158 v493), ∀ a x, ((![v493] : Fin 1 → IVec S16 32) a x).toNat < S16384.size a := fun v493 k0_hw158 => k0_hw158

def k0_chk159 (v496 : IVec S16 32) : Prop :=
  (∀ a x, ((![v496] : Fin 1 → IVec S16 32) a x).toNat < S16384.size a)
theorem k0_idx159_inb : ∀ (v496 : IVec S16 32) (k0_hw159 : k0_chk159 v496), ∀ a x, ((![v496] : Fin 1 → IVec S16 32) a x).toNat < S16384.size a := fun v496 k0_hw159 => k0_hw159

def k0_chk160 (v499 : IVec S16 32) : Prop :=
  (∀ a x, ((![v499] : Fin 1 → IVec S16 32) a x).toNat < S16384.size a)
theorem k0_idx160_inb : ∀ (v499 : IVec S16 32) (k0_hw160 : k0_chk160 v499), ∀ a x, ((![v499] : Fin 1 → IVec S16 32) a x).toNat < S16384.size a := fun v499 k0_hw160 => k0_hw160
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32 : BitVec 32 := 16#32
  let v500 : BitVec 32 := Scalar.addi v2 c16_i32
  let c2048_i32_224 : BitVec 32 := 2048#32
  let v501 : BitVec 32 := Scalar.muli v500 c2048_i32_224
  ![v501.toNat]

def k0_chk161 (v508 : IVec S16 32) : Prop :=
  (∀ a x, ((![v508] : Fin 1 → IVec S16 32) a x).toNat < S16384.size a)
theorem k0_idx161_inb : ∀ (v508 : IVec S16 32) (k0_hw161 : k0_chk161 v508), ∀ a x, ((![v508] : Fin 1 → IVec S16 32) a x).toNat < S16384.size a := fun v508 k0_hw161 => k0_hw161

def k0_chk162 (v511 : IVec S16 32) : Prop :=
  (∀ a x, ((![v511] : Fin 1 → IVec S16 32) a x).toNat < S16384.size a)
theorem k0_idx162_inb : ∀ (v511 : IVec S16 32) (k0_hw162 : k0_chk162 v511), ∀ a x, ((![v511] : Fin 1 → IVec S16 32) a x).toNat < S16384.size a := fun v511 k0_hw162 => k0_hw162

def k0_chk163 (v514 : IVec S16 32) : Prop :=
  (∀ a x, ((![v514] : Fin 1 → IVec S16 32) a x).toNat < S16384.size a)
theorem k0_idx163_inb : ∀ (v514 : IVec S16 32) (k0_hw163 : k0_chk163 v514), ∀ a x, ((![v514] : Fin 1 → IVec S16 32) a x).toNat < S16384.size a := fun v514 k0_hw163 => k0_hw163

def k0_chk164 (v517 : IVec S16 32) : Prop :=
  (∀ a x, ((![v517] : Fin 1 → IVec S16 32) a x).toNat < S16384.size a)
theorem k0_idx164_inb : ∀ (v517 : IVec S16 32) (k0_hw164 : k0_chk164 v517), ∀ a x, ((![v517] : Fin 1 → IVec S16 32) a x).toNat < S16384.size a := fun v517 k0_hw164 => k0_hw164

def k0_chk165 (v520 : IVec S16 32) : Prop :=
  (∀ a x, ((![v520] : Fin 1 → IVec S16 32) a x).toNat < S16384.size a)
theorem k0_idx165_inb : ∀ (v520 : IVec S16 32) (k0_hw165 : k0_chk165 v520), ∀ a x, ((![v520] : Fin 1 → IVec S16 32) a x).toNat < S16384.size a := fun v520 k0_hw165 => k0_hw165

def k0_chk166 (v523 : IVec S16 32) : Prop :=
  (∀ a x, ((![v523] : Fin 1 → IVec S16 32) a x).toNat < S16384.size a)
theorem k0_idx166_inb : ∀ (v523 : IVec S16 32) (k0_hw166 : k0_chk166 v523), ∀ a x, ((![v523] : Fin 1 → IVec S16 32) a x).toNat < S16384.size a := fun v523 k0_hw166 => k0_hw166

def k0_chk167 (v526 : IVec S16 32) : Prop :=
  (∀ a x, ((![v526] : Fin 1 → IVec S16 32) a x).toNat < S16384.size a)
theorem k0_idx167_inb : ∀ (v526 : IVec S16 32) (k0_hw167 : k0_chk167 v526), ∀ a x, ((![v526] : Fin 1 → IVec S16 32) a x).toNat < S16384.size a := fun v526 k0_hw167 => k0_hw167

def k0_chk168 (v529 : IVec S16 32) : Prop :=
  (∀ a x, ((![v529] : Fin 1 → IVec S16 32) a x).toNat < S16384.size a)
theorem k0_idx168_inb : ∀ (v529 : IVec S16 32) (k0_hw168 : k0_chk168 v529), ∀ a x, ((![v529] : Fin 1 → IVec S16 32) a x).toNat < S16384.size a := fun v529 k0_hw168 => k0_hw168

def k0_chk169 (v532 : IVec S16 32) : Prop :=
  (∀ a x, ((![v532] : Fin 1 → IVec S16 32) a x).toNat < S16384.size a)
theorem k0_idx169_inb : ∀ (v532 : IVec S16 32) (k0_hw169 : k0_chk169 v532), ∀ a x, ((![v532] : Fin 1 → IVec S16 32) a x).toNat < S16384.size a := fun v532 k0_hw169 => k0_hw169

def k0_chk170 (v535 : IVec S16 32) : Prop :=
  (∀ a x, ((![v535] : Fin 1 → IVec S16 32) a x).toNat < S16384.size a)
theorem k0_idx170_inb : ∀ (v535 : IVec S16 32) (k0_hw170 : k0_chk170 v535), ∀ a x, ((![v535] : Fin 1 → IVec S16 32) a x).toNat < S16384.size a := fun v535 k0_hw170 => k0_hw170

def k0_chk171 (v538 : IVec S16 32) : Prop :=
  (∀ a x, ((![v538] : Fin 1 → IVec S16 32) a x).toNat < S16384.size a)
theorem k0_idx171_inb : ∀ (v538 : IVec S16 32) (k0_hw171 : k0_chk171 v538), ∀ a x, ((![v538] : Fin 1 → IVec S16 32) a x).toNat < S16384.size a := fun v538 k0_hw171 => k0_hw171

def k0_chk172 (v541 : IVec S16 32) : Prop :=
  (∀ a x, ((![v541] : Fin 1 → IVec S16 32) a x).toNat < S16384.size a)
theorem k0_idx172_inb : ∀ (v541 : IVec S16 32) (k0_hw172 : k0_chk172 v541), ∀ a x, ((![v541] : Fin 1 → IVec S16 32) a x).toNat < S16384.size a := fun v541 k0_hw172 => k0_hw172

def k0_chk173 (v544 : IVec S16 32) : Prop :=
  (∀ a x, ((![v544] : Fin 1 → IVec S16 32) a x).toNat < S16384.size a)
theorem k0_idx173_inb : ∀ (v544 : IVec S16 32) (k0_hw173 : k0_chk173 v544), ∀ a x, ((![v544] : Fin 1 → IVec S16 32) a x).toNat < S16384.size a := fun v544 k0_hw173 => k0_hw173

def k0_chk174 (v547 : IVec S16 32) : Prop :=
  (∀ a x, ((![v547] : Fin 1 → IVec S16 32) a x).toNat < S16384.size a)
theorem k0_idx174_inb : ∀ (v547 : IVec S16 32) (k0_hw174 : k0_chk174 v547), ∀ a x, ((![v547] : Fin 1 → IVec S16 32) a x).toNat < S16384.size a := fun v547 k0_hw174 => k0_hw174

def k0_chk175 (v550 : IVec S16 32) : Prop :=
  (∀ a x, ((![v550] : Fin 1 → IVec S16 32) a x).toNat < S16384.size a)
theorem k0_idx175_inb : ∀ (v550 : IVec S16 32) (k0_hw175 : k0_chk175 v550), ∀ a x, ((![v550] : Fin 1 → IVec S16 32) a x).toNat < S16384.size a := fun v550 k0_hw175 => k0_hw175

def k0_chk176 (v553 : IVec S16 32) : Prop :=
  (∀ a x, ((![v553] : Fin 1 → IVec S16 32) a x).toNat < S16384.size a)
theorem k0_idx176_inb : ∀ (v553 : IVec S16 32) (k0_hw176 : k0_chk176 v553), ∀ a x, ((![v553] : Fin 1 → IVec S16 32) a x).toNat < S16384.size a := fun v553 k0_hw176 => k0_hw176

def k0_chk177 (v556 : IVec S16 32) : Prop :=
  (∀ a x, ((![v556] : Fin 1 → IVec S16 32) a x).toNat < S16384.size a)
theorem k0_idx177_inb : ∀ (v556 : IVec S16 32) (k0_hw177 : k0_chk177 v556), ∀ a x, ((![v556] : Fin 1 → IVec S16 32) a x).toNat < S16384.size a := fun v556 k0_hw177 => k0_hw177

def k0_chk178 (v559 : IVec S16 32) : Prop :=
  (∀ a x, ((![v559] : Fin 1 → IVec S16 32) a x).toNat < S16384.size a)
theorem k0_idx178_inb : ∀ (v559 : IVec S16 32) (k0_hw178 : k0_chk178 v559), ∀ a x, ((![v559] : Fin 1 → IVec S16 32) a x).toNat < S16384.size a := fun v559 k0_hw178 => k0_hw178

def k0_chk179 (v562 : IVec S16 32) : Prop :=
  (∀ a x, ((![v562] : Fin 1 → IVec S16 32) a x).toNat < S16384.size a)
theorem k0_idx179_inb : ∀ (v562 : IVec S16 32) (k0_hw179 : k0_chk179 v562), ∀ a x, ((![v562] : Fin 1 → IVec S16 32) a x).toNat < S16384.size a := fun v562 k0_hw179 => k0_hw179

def k0_chk180 (v565 : IVec S16 32) : Prop :=
  (∀ a x, ((![v565] : Fin 1 → IVec S16 32) a x).toNat < S16384.size a)
theorem k0_idx180_inb : ∀ (v565 : IVec S16 32) (k0_hw180 : k0_chk180 v565), ∀ a x, ((![v565] : Fin 1 → IVec S16 32) a x).toNat < S16384.size a := fun v565 k0_hw180 => k0_hw180

def k0_chk181 (v568 : IVec S16 32) : Prop :=
  (∀ a x, ((![v568] : Fin 1 → IVec S16 32) a x).toNat < S16384.size a)
theorem k0_idx181_inb : ∀ (v568 : IVec S16 32) (k0_hw181 : k0_chk181 v568), ∀ a x, ((![v568] : Fin 1 → IVec S16 32) a x).toNat < S16384.size a := fun v568 k0_hw181 => k0_hw181

def k0_chk182 (v571 : IVec S16 32) : Prop :=
  (∀ a x, ((![v571] : Fin 1 → IVec S16 32) a x).toNat < S16384.size a)
theorem k0_idx182_inb : ∀ (v571 : IVec S16 32) (k0_hw182 : k0_chk182 v571), ∀ a x, ((![v571] : Fin 1 → IVec S16 32) a x).toNat < S16384.size a := fun v571 k0_hw182 => k0_hw182

def k0_chk183 (v574 : IVec S16 32) : Prop :=
  (∀ a x, ((![v574] : Fin 1 → IVec S16 32) a x).toNat < S16384.size a)
theorem k0_idx183_inb : ∀ (v574 : IVec S16 32) (k0_hw183 : k0_chk183 v574), ∀ a x, ((![v574] : Fin 1 → IVec S16 32) a x).toNat < S16384.size a := fun v574 k0_hw183 => k0_hw183

def k0_chk184 (v577 : IVec S16 32) : Prop :=
  (∀ a x, ((![v577] : Fin 1 → IVec S16 32) a x).toNat < S16384.size a)
theorem k0_idx184_inb : ∀ (v577 : IVec S16 32) (k0_hw184 : k0_chk184 v577), ∀ a x, ((![v577] : Fin 1 → IVec S16 32) a x).toNat < S16384.size a := fun v577 k0_hw184 => k0_hw184

def k0_chk185 (v580 : IVec S16 32) : Prop :=
  (∀ a x, ((![v580] : Fin 1 → IVec S16 32) a x).toNat < S16384.size a)
theorem k0_idx185_inb : ∀ (v580 : IVec S16 32) (k0_hw185 : k0_chk185 v580), ∀ a x, ((![v580] : Fin 1 → IVec S16 32) a x).toNat < S16384.size a := fun v580 k0_hw185 => k0_hw185

def k0_chk186 (v583 : IVec S16 32) : Prop :=
  (∀ a x, ((![v583] : Fin 1 → IVec S16 32) a x).toNat < S16384.size a)
theorem k0_idx186_inb : ∀ (v583 : IVec S16 32) (k0_hw186 : k0_chk186 v583), ∀ a x, ((![v583] : Fin 1 → IVec S16 32) a x).toNat < S16384.size a := fun v583 k0_hw186 => k0_hw186

def k0_chk187 (v586 : IVec S16 32) : Prop :=
  (∀ a x, ((![v586] : Fin 1 → IVec S16 32) a x).toNat < S16384.size a)
theorem k0_idx187_inb : ∀ (v586 : IVec S16 32) (k0_hw187 : k0_chk187 v586), ∀ a x, ((![v586] : Fin 1 → IVec S16 32) a x).toNat < S16384.size a := fun v586 k0_hw187 => k0_hw187

def k0_chk188 (v589 : IVec S16 32) : Prop :=
  (∀ a x, ((![v589] : Fin 1 → IVec S16 32) a x).toNat < S16384.size a)
theorem k0_idx188_inb : ∀ (v589 : IVec S16 32) (k0_hw188 : k0_chk188 v589), ∀ a x, ((![v589] : Fin 1 → IVec S16 32) a x).toNat < S16384.size a := fun v589 k0_hw188 => k0_hw188

def k0_chk189 (v592 : IVec S16 32) : Prop :=
  (∀ a x, ((![v592] : Fin 1 → IVec S16 32) a x).toNat < S16384.size a)
theorem k0_idx189_inb : ∀ (v592 : IVec S16 32) (k0_hw189 : k0_chk189 v592), ∀ a x, ((![v592] : Fin 1 → IVec S16 32) a x).toNat < S16384.size a := fun v592 k0_hw189 => k0_hw189

def k0_chk190 (v595 : IVec S16 32) : Prop :=
  (∀ a x, ((![v595] : Fin 1 → IVec S16 32) a x).toNat < S16384.size a)
theorem k0_idx190_inb : ∀ (v595 : IVec S16 32) (k0_hw190 : k0_chk190 v595), ∀ a x, ((![v595] : Fin 1 → IVec S16 32) a x).toNat < S16384.size a := fun v595 k0_hw190 => k0_hw190

def k0_chk191 (v598 : IVec S16 32) : Prop :=
  (∀ a x, ((![v598] : Fin 1 → IVec S16 32) a x).toNat < S16384.size a)
theorem k0_idx191_inb : ∀ (v598 : IVec S16 32) (k0_hw191 : k0_chk191 v598), ∀ a x, ((![v598] : Fin 1 → IVec S16 32) a x).toNat < S16384.size a := fun v598 k0_hw191 => k0_hw191

def k0_chk192 (v601 : IVec S16 32) : Prop :=
  (∀ a x, ((![v601] : Fin 1 → IVec S16 32) a x).toNat < S16384.size a)
theorem k0_idx192_inb : ∀ (v601 : IVec S16 32) (k0_hw192 : k0_chk192 v601), ∀ a x, ((![v601] : Fin 1 → IVec S16 32) a x).toNat < S16384.size a := fun v601 k0_hw192 => k0_hw192

def k0_chk193 (v604 : IVec S16 32) : Prop :=
  (∀ a x, ((![v604] : Fin 1 → IVec S16 32) a x).toNat < S16384.size a)
theorem k0_idx193_inb : ∀ (v604 : IVec S16 32) (k0_hw193 : k0_chk193 v604), ∀ a x, ((![v604] : Fin 1 → IVec S16 32) a x).toNat < S16384.size a := fun v604 k0_hw193 => k0_hw193

def k0_chk194 (v607 : IVec S16 32) : Prop :=
  (∀ a x, ((![v607] : Fin 1 → IVec S16 32) a x).toNat < S16384.size a)
theorem k0_idx194_inb : ∀ (v607 : IVec S16 32) (k0_hw194 : k0_chk194 v607), ∀ a x, ((![v607] : Fin 1 → IVec S16 32) a x).toNat < S16384.size a := fun v607 k0_hw194 => k0_hw194

def k0_chk195 (v610 : IVec S16 32) : Prop :=
  (∀ a x, ((![v610] : Fin 1 → IVec S16 32) a x).toNat < S16384.size a)
theorem k0_idx195_inb : ∀ (v610 : IVec S16 32) (k0_hw195 : k0_chk195 v610), ∀ a x, ((![v610] : Fin 1 → IVec S16 32) a x).toNat < S16384.size a := fun v610 k0_hw195 => k0_hw195

def k0_chk196 (v613 : IVec S16 32) : Prop :=
  (∀ a x, ((![v613] : Fin 1 → IVec S16 32) a x).toNat < S16384.size a)
theorem k0_idx196_inb : ∀ (v613 : IVec S16 32) (k0_hw196 : k0_chk196 v613), ∀ a x, ((![v613] : Fin 1 → IVec S16 32) a x).toNat < S16384.size a := fun v613 k0_hw196 => k0_hw196

def k0_chk197 (v616 : IVec S16 32) : Prop :=
  (∀ a x, ((![v616] : Fin 1 → IVec S16 32) a x).toNat < S16384.size a)
theorem k0_idx197_inb : ∀ (v616 : IVec S16 32) (k0_hw197 : k0_chk197 v616), ∀ a x, ((![v616] : Fin 1 → IVec S16 32) a x).toNat < S16384.size a := fun v616 k0_hw197 => k0_hw197

def k0_chk198 (v619 : IVec S16 32) : Prop :=
  (∀ a x, ((![v619] : Fin 1 → IVec S16 32) a x).toNat < S16384.size a)
theorem k0_idx198_inb : ∀ (v619 : IVec S16 32) (k0_hw198 : k0_chk198 v619), ∀ a x, ((![v619] : Fin 1 → IVec S16 32) a x).toNat < S16384.size a := fun v619 k0_hw198 => k0_hw198

def k0_chk199 (v622 : IVec S16 32) : Prop :=
  (∀ a x, ((![v622] : Fin 1 → IVec S16 32) a x).toNat < S16384.size a)
theorem k0_idx199_inb : ∀ (v622 : IVec S16 32) (k0_hw199 : k0_chk199 v622), ∀ a x, ((![v622] : Fin 1 → IVec S16 32) a x).toNat < S16384.size a := fun v622 k0_hw199 => k0_hw199

def k0_chk200 (v625 : IVec S16 32) : Prop :=
  (∀ a x, ((![v625] : Fin 1 → IVec S16 32) a x).toNat < S16384.size a)
theorem k0_idx200_inb : ∀ (v625 : IVec S16 32) (k0_hw200 : k0_chk200 v625), ∀ a x, ((![v625] : Fin 1 → IVec S16 32) a x).toNat < S16384.size a := fun v625 k0_hw200 => k0_hw200

def k0_chk201 (v628 : IVec S16 32) : Prop :=
  (∀ a x, ((![v628] : Fin 1 → IVec S16 32) a x).toNat < S16384.size a)
theorem k0_idx201_inb : ∀ (v628 : IVec S16 32) (k0_hw201 : k0_chk201 v628), ∀ a x, ((![v628] : Fin 1 → IVec S16 32) a x).toNat < S16384.size a := fun v628 k0_hw201 => k0_hw201

def k0_chk202 (v631 : IVec S16 32) : Prop :=
  (∀ a x, ((![v631] : Fin 1 → IVec S16 32) a x).toNat < S16384.size a)
theorem k0_idx202_inb : ∀ (v631 : IVec S16 32) (k0_hw202 : k0_chk202 v631), ∀ a x, ((![v631] : Fin 1 → IVec S16 32) a x).toNat < S16384.size a := fun v631 k0_hw202 => k0_hw202

def k0_chk203 (v634 : IVec S16 32) : Prop :=
  (∀ a x, ((![v634] : Fin 1 → IVec S16 32) a x).toNat < S16384.size a)
theorem k0_idx203_inb : ∀ (v634 : IVec S16 32) (k0_hw203 : k0_chk203 v634), ∀ a x, ((![v634] : Fin 1 → IVec S16 32) a x).toNat < S16384.size a := fun v634 k0_hw203 => k0_hw203

def k0_chk204 (v637 : IVec S16 32) : Prop :=
  (∀ a x, ((![v637] : Fin 1 → IVec S16 32) a x).toNat < S16384.size a)
theorem k0_idx204_inb : ∀ (v637 : IVec S16 32) (k0_hw204 : k0_chk204 v637), ∀ a x, ((![v637] : Fin 1 → IVec S16 32) a x).toNat < S16384.size a := fun v637 k0_hw204 => k0_hw204

def k0_chk205 (v640 : IVec S16 32) : Prop :=
  (∀ a x, ((![v640] : Fin 1 → IVec S16 32) a x).toNat < S16384.size a)
theorem k0_idx205_inb : ∀ (v640 : IVec S16 32) (k0_hw205 : k0_chk205 v640), ∀ a x, ((![v640] : Fin 1 → IVec S16 32) a x).toNat < S16384.size a := fun v640 k0_hw205 => k0_hw205

def k0_chk206 (v643 : IVec S16 32) : Prop :=
  (∀ a x, ((![v643] : Fin 1 → IVec S16 32) a x).toNat < S16384.size a)
theorem k0_idx206_inb : ∀ (v643 : IVec S16 32) (k0_hw206 : k0_chk206 v643), ∀ a x, ((![v643] : Fin 1 → IVec S16 32) a x).toNat < S16384.size a := fun v643 k0_hw206 => k0_hw206

def k0_chk207 (v646 : IVec S16 32) : Prop :=
  (∀ a x, ((![v646] : Fin 1 → IVec S16 32) a x).toNat < S16384.size a)
theorem k0_idx207_inb : ∀ (v646 : IVec S16 32) (k0_hw207 : k0_chk207 v646), ∀ a x, ((![v646] : Fin 1 → IVec S16 32) a x).toNat < S16384.size a := fun v646 k0_hw207 => k0_hw207

def k0_chk208 (v649 : IVec S16 32) : Prop :=
  (∀ a x, ((![v649] : Fin 1 → IVec S16 32) a x).toNat < S16384.size a)
theorem k0_idx208_inb : ∀ (v649 : IVec S16 32) (k0_hw208 : k0_chk208 v649), ∀ a x, ((![v649] : Fin 1 → IVec S16 32) a x).toNat < S16384.size a := fun v649 k0_hw208 => k0_hw208

def k0_chk209 (v652 : IVec S16 32) : Prop :=
  (∀ a x, ((![v652] : Fin 1 → IVec S16 32) a x).toNat < S16384.size a)
theorem k0_idx209_inb : ∀ (v652 : IVec S16 32) (k0_hw209 : k0_chk209 v652), ∀ a x, ((![v652] : Fin 1 → IVec S16 32) a x).toNat < S16384.size a := fun v652 k0_hw209 => k0_hw209

def k0_chk210 (v655 : IVec S16 32) : Prop :=
  (∀ a x, ((![v655] : Fin 1 → IVec S16 32) a x).toNat < S16384.size a)
theorem k0_idx210_inb : ∀ (v655 : IVec S16 32) (k0_hw210 : k0_chk210 v655), ∀ a x, ((![v655] : Fin 1 → IVec S16 32) a x).toNat < S16384.size a := fun v655 k0_hw210 => k0_hw210

def k0_chk211 (v658 : IVec S16 32) : Prop :=
  (∀ a x, ((![v658] : Fin 1 → IVec S16 32) a x).toNat < S16384.size a)
theorem k0_idx211_inb : ∀ (v658 : IVec S16 32) (k0_hw211 : k0_chk211 v658), ∀ a x, ((![v658] : Fin 1 → IVec S16 32) a x).toNat < S16384.size a := fun v658 k0_hw211 => k0_hw211

def k0_chk212 (v661 : IVec S16 32) : Prop :=
  (∀ a x, ((![v661] : Fin 1 → IVec S16 32) a x).toNat < S16384.size a)
theorem k0_idx212_inb : ∀ (v661 : IVec S16 32) (k0_hw212 : k0_chk212 v661), ∀ a x, ((![v661] : Fin 1 → IVec S16 32) a x).toNat < S16384.size a := fun v661 k0_hw212 => k0_hw212

def k0_chk213 (v664 : IVec S16 32) : Prop :=
  (∀ a x, ((![v664] : Fin 1 → IVec S16 32) a x).toNat < S16384.size a)
theorem k0_idx213_inb : ∀ (v664 : IVec S16 32) (k0_hw213 : k0_chk213 v664), ∀ a x, ((![v664] : Fin 1 → IVec S16 32) a x).toNat < S16384.size a := fun v664 k0_hw213 => k0_hw213

def k0_chk214 (v667 : IVec S16 32) : Prop :=
  (∀ a x, ((![v667] : Fin 1 → IVec S16 32) a x).toNat < S16384.size a)
theorem k0_idx214_inb : ∀ (v667 : IVec S16 32) (k0_hw214 : k0_chk214 v667), ∀ a x, ((![v667] : Fin 1 → IVec S16 32) a x).toNat < S16384.size a := fun v667 k0_hw214 => k0_hw214

def k0_chk215 (v670 : IVec S16 32) : Prop :=
  (∀ a x, ((![v670] : Fin 1 → IVec S16 32) a x).toNat < S16384.size a)
theorem k0_idx215_inb : ∀ (v670 : IVec S16 32) (k0_hw215 : k0_chk215 v670), ∀ a x, ((![v670] : Fin 1 → IVec S16 32) a x).toNat < S16384.size a := fun v670 k0_hw215 => k0_hw215

def k0_chk216 (v673 : IVec S16 32) : Prop :=
  (∀ a x, ((![v673] : Fin 1 → IVec S16 32) a x).toNat < S16384.size a)
theorem k0_idx216_inb : ∀ (v673 : IVec S16 32) (k0_hw216 : k0_chk216 v673), ∀ a x, ((![v673] : Fin 1 → IVec S16 32) a x).toNat < S16384.size a := fun v673 k0_hw216 => k0_hw216

def k0_chk217 (v676 : IVec S16 32) : Prop :=
  (∀ a x, ((![v676] : Fin 1 → IVec S16 32) a x).toNat < S16384.size a)
theorem k0_idx217_inb : ∀ (v676 : IVec S16 32) (k0_hw217 : k0_chk217 v676), ∀ a x, ((![v676] : Fin 1 → IVec S16 32) a x).toNat < S16384.size a := fun v676 k0_hw217 => k0_hw217

def k0_chk218 (v679 : IVec S16 32) : Prop :=
  (∀ a x, ((![v679] : Fin 1 → IVec S16 32) a x).toNat < S16384.size a)
theorem k0_idx218_inb : ∀ (v679 : IVec S16 32) (k0_hw218 : k0_chk218 v679), ∀ a x, ((![v679] : Fin 1 → IVec S16 32) a x).toNat < S16384.size a := fun v679 k0_hw218 => k0_hw218

def k0_chk219 (v682 : IVec S16 32) : Prop :=
  (∀ a x, ((![v682] : Fin 1 → IVec S16 32) a x).toNat < S16384.size a)
theorem k0_idx219_inb : ∀ (v682 : IVec S16 32) (k0_hw219 : k0_chk219 v682), ∀ a x, ((![v682] : Fin 1 → IVec S16 32) a x).toNat < S16384.size a := fun v682 k0_hw219 => k0_hw219

def k0_chk220 (v685 : IVec S16 32) : Prop :=
  (∀ a x, ((![v685] : Fin 1 → IVec S16 32) a x).toNat < S16384.size a)
theorem k0_idx220_inb : ∀ (v685 : IVec S16 32) (k0_hw220 : k0_chk220 v685), ∀ a x, ((![v685] : Fin 1 → IVec S16 32) a x).toNat < S16384.size a := fun v685 k0_hw220 => k0_hw220

def k0_chk221 (v688 : IVec S16 32) : Prop :=
  (∀ a x, ((![v688] : Fin 1 → IVec S16 32) a x).toNat < S16384.size a)
theorem k0_idx221_inb : ∀ (v688 : IVec S16 32) (k0_hw221 : k0_chk221 v688), ∀ a x, ((![v688] : Fin 1 → IVec S16 32) a x).toNat < S16384.size a := fun v688 k0_hw221 => k0_hw221

def k0_chk222 (v691 : IVec S16 32) : Prop :=
  (∀ a x, ((![v691] : Fin 1 → IVec S16 32) a x).toNat < S16384.size a)
theorem k0_idx222_inb : ∀ (v691 : IVec S16 32) (k0_hw222 : k0_chk222 v691), ∀ a x, ((![v691] : Fin 1 → IVec S16 32) a x).toNat < S16384.size a := fun v691 k0_hw222 => k0_hw222

def k0_chk223 (v694 : IVec S16 32) : Prop :=
  (∀ a x, ((![v694] : Fin 1 → IVec S16 32) a x).toNat < S16384.size a)
theorem k0_idx223_inb : ∀ (v694 : IVec S16 32) (k0_hw223 : k0_chk223 v694), ∀ a x, ((![v694] : Fin 1 → IVec S16 32) a x).toNat < S16384.size a := fun v694 k0_hw223 => k0_hw223

def k0_chk224 (v697 : IVec S16 32) : Prop :=
  (∀ a x, ((![v697] : Fin 1 → IVec S16 32) a x).toNat < S16384.size a)
theorem k0_idx224_inb : ∀ (v697 : IVec S16 32) (k0_hw224 : k0_chk224 v697), ∀ a x, ((![v697] : Fin 1 → IVec S16 32) a x).toNat < S16384.size a := fun v697 k0_hw224 => k0_hw224
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32 : BitVec 32 := 24#32
  let v698 : BitVec 32 := Scalar.addi v2 c24_i32
  let c2048_i32_321 : BitVec 32 := 2048#32
  let v699 : BitVec 32 := Scalar.muli v698 c2048_i32_321
  ![v699.toNat]

def k0_chk225 (v706 : IVec S16 32) : Prop :=
  (∀ a x, ((![v706] : Fin 1 → IVec S16 32) a x).toNat < S16384.size a)
theorem k0_idx225_inb : ∀ (v706 : IVec S16 32) (k0_hw225 : k0_chk225 v706), ∀ a x, ((![v706] : Fin 1 → IVec S16 32) a x).toNat < S16384.size a := fun v706 k0_hw225 => k0_hw225

def k0_chk226 (v709 : IVec S16 32) : Prop :=
  (∀ a x, ((![v709] : Fin 1 → IVec S16 32) a x).toNat < S16384.size a)
theorem k0_idx226_inb : ∀ (v709 : IVec S16 32) (k0_hw226 : k0_chk226 v709), ∀ a x, ((![v709] : Fin 1 → IVec S16 32) a x).toNat < S16384.size a := fun v709 k0_hw226 => k0_hw226

def k0_chk227 (v712 : IVec S16 32) : Prop :=
  (∀ a x, ((![v712] : Fin 1 → IVec S16 32) a x).toNat < S16384.size a)
theorem k0_idx227_inb : ∀ (v712 : IVec S16 32) (k0_hw227 : k0_chk227 v712), ∀ a x, ((![v712] : Fin 1 → IVec S16 32) a x).toNat < S16384.size a := fun v712 k0_hw227 => k0_hw227

def k0_chk228 (v715 : IVec S16 32) : Prop :=
  (∀ a x, ((![v715] : Fin 1 → IVec S16 32) a x).toNat < S16384.size a)
theorem k0_idx228_inb : ∀ (v715 : IVec S16 32) (k0_hw228 : k0_chk228 v715), ∀ a x, ((![v715] : Fin 1 → IVec S16 32) a x).toNat < S16384.size a := fun v715 k0_hw228 => k0_hw228

def k0_chk229 (v718 : IVec S16 32) : Prop :=
  (∀ a x, ((![v718] : Fin 1 → IVec S16 32) a x).toNat < S16384.size a)
theorem k0_idx229_inb : ∀ (v718 : IVec S16 32) (k0_hw229 : k0_chk229 v718), ∀ a x, ((![v718] : Fin 1 → IVec S16 32) a x).toNat < S16384.size a := fun v718 k0_hw229 => k0_hw229

def k0_chk230 (v721 : IVec S16 32) : Prop :=
  (∀ a x, ((![v721] : Fin 1 → IVec S16 32) a x).toNat < S16384.size a)
theorem k0_idx230_inb : ∀ (v721 : IVec S16 32) (k0_hw230 : k0_chk230 v721), ∀ a x, ((![v721] : Fin 1 → IVec S16 32) a x).toNat < S16384.size a := fun v721 k0_hw230 => k0_hw230

def k0_chk231 (v724 : IVec S16 32) : Prop :=
  (∀ a x, ((![v724] : Fin 1 → IVec S16 32) a x).toNat < S16384.size a)
theorem k0_idx231_inb : ∀ (v724 : IVec S16 32) (k0_hw231 : k0_chk231 v724), ∀ a x, ((![v724] : Fin 1 → IVec S16 32) a x).toNat < S16384.size a := fun v724 k0_hw231 => k0_hw231

def k0_chk232 (v727 : IVec S16 32) : Prop :=
  (∀ a x, ((![v727] : Fin 1 → IVec S16 32) a x).toNat < S16384.size a)
theorem k0_idx232_inb : ∀ (v727 : IVec S16 32) (k0_hw232 : k0_chk232 v727), ∀ a x, ((![v727] : Fin 1 → IVec S16 32) a x).toNat < S16384.size a := fun v727 k0_hw232 => k0_hw232

def k0_chk233 (v730 : IVec S16 32) : Prop :=
  (∀ a x, ((![v730] : Fin 1 → IVec S16 32) a x).toNat < S16384.size a)
theorem k0_idx233_inb : ∀ (v730 : IVec S16 32) (k0_hw233 : k0_chk233 v730), ∀ a x, ((![v730] : Fin 1 → IVec S16 32) a x).toNat < S16384.size a := fun v730 k0_hw233 => k0_hw233

def k0_chk234 (v733 : IVec S16 32) : Prop :=
  (∀ a x, ((![v733] : Fin 1 → IVec S16 32) a x).toNat < S16384.size a)
theorem k0_idx234_inb : ∀ (v733 : IVec S16 32) (k0_hw234 : k0_chk234 v733), ∀ a x, ((![v733] : Fin 1 → IVec S16 32) a x).toNat < S16384.size a := fun v733 k0_hw234 => k0_hw234

def k0_chk235 (v736 : IVec S16 32) : Prop :=
  (∀ a x, ((![v736] : Fin 1 → IVec S16 32) a x).toNat < S16384.size a)
theorem k0_idx235_inb : ∀ (v736 : IVec S16 32) (k0_hw235 : k0_chk235 v736), ∀ a x, ((![v736] : Fin 1 → IVec S16 32) a x).toNat < S16384.size a := fun v736 k0_hw235 => k0_hw235

def k0_chk236 (v739 : IVec S16 32) : Prop :=
  (∀ a x, ((![v739] : Fin 1 → IVec S16 32) a x).toNat < S16384.size a)
theorem k0_idx236_inb : ∀ (v739 : IVec S16 32) (k0_hw236 : k0_chk236 v739), ∀ a x, ((![v739] : Fin 1 → IVec S16 32) a x).toNat < S16384.size a := fun v739 k0_hw236 => k0_hw236

def k0_chk237 (v742 : IVec S16 32) : Prop :=
  (∀ a x, ((![v742] : Fin 1 → IVec S16 32) a x).toNat < S16384.size a)
theorem k0_idx237_inb : ∀ (v742 : IVec S16 32) (k0_hw237 : k0_chk237 v742), ∀ a x, ((![v742] : Fin 1 → IVec S16 32) a x).toNat < S16384.size a := fun v742 k0_hw237 => k0_hw237

def k0_chk238 (v745 : IVec S16 32) : Prop :=
  (∀ a x, ((![v745] : Fin 1 → IVec S16 32) a x).toNat < S16384.size a)
theorem k0_idx238_inb : ∀ (v745 : IVec S16 32) (k0_hw238 : k0_chk238 v745), ∀ a x, ((![v745] : Fin 1 → IVec S16 32) a x).toNat < S16384.size a := fun v745 k0_hw238 => k0_hw238

def k0_chk239 (v748 : IVec S16 32) : Prop :=
  (∀ a x, ((![v748] : Fin 1 → IVec S16 32) a x).toNat < S16384.size a)
theorem k0_idx239_inb : ∀ (v748 : IVec S16 32) (k0_hw239 : k0_chk239 v748), ∀ a x, ((![v748] : Fin 1 → IVec S16 32) a x).toNat < S16384.size a := fun v748 k0_hw239 => k0_hw239

def k0_chk240 (v751 : IVec S16 32) : Prop :=
  (∀ a x, ((![v751] : Fin 1 → IVec S16 32) a x).toNat < S16384.size a)
theorem k0_idx240_inb : ∀ (v751 : IVec S16 32) (k0_hw240 : k0_chk240 v751), ∀ a x, ((![v751] : Fin 1 → IVec S16 32) a x).toNat < S16384.size a := fun v751 k0_hw240 => k0_hw240

def k0_chk241 (v754 : IVec S16 32) : Prop :=
  (∀ a x, ((![v754] : Fin 1 → IVec S16 32) a x).toNat < S16384.size a)
theorem k0_idx241_inb : ∀ (v754 : IVec S16 32) (k0_hw241 : k0_chk241 v754), ∀ a x, ((![v754] : Fin 1 → IVec S16 32) a x).toNat < S16384.size a := fun v754 k0_hw241 => k0_hw241

def k0_chk242 (v757 : IVec S16 32) : Prop :=
  (∀ a x, ((![v757] : Fin 1 → IVec S16 32) a x).toNat < S16384.size a)
theorem k0_idx242_inb : ∀ (v757 : IVec S16 32) (k0_hw242 : k0_chk242 v757), ∀ a x, ((![v757] : Fin 1 → IVec S16 32) a x).toNat < S16384.size a := fun v757 k0_hw242 => k0_hw242

def k0_chk243 (v760 : IVec S16 32) : Prop :=
  (∀ a x, ((![v760] : Fin 1 → IVec S16 32) a x).toNat < S16384.size a)
theorem k0_idx243_inb : ∀ (v760 : IVec S16 32) (k0_hw243 : k0_chk243 v760), ∀ a x, ((![v760] : Fin 1 → IVec S16 32) a x).toNat < S16384.size a := fun v760 k0_hw243 => k0_hw243

def k0_chk244 (v763 : IVec S16 32) : Prop :=
  (∀ a x, ((![v763] : Fin 1 → IVec S16 32) a x).toNat < S16384.size a)
theorem k0_idx244_inb : ∀ (v763 : IVec S16 32) (k0_hw244 : k0_chk244 v763), ∀ a x, ((![v763] : Fin 1 → IVec S16 32) a x).toNat < S16384.size a := fun v763 k0_hw244 => k0_hw244

def k0_chk245 (v766 : IVec S16 32) : Prop :=
  (∀ a x, ((![v766] : Fin 1 → IVec S16 32) a x).toNat < S16384.size a)
theorem k0_idx245_inb : ∀ (v766 : IVec S16 32) (k0_hw245 : k0_chk245 v766), ∀ a x, ((![v766] : Fin 1 → IVec S16 32) a x).toNat < S16384.size a := fun v766 k0_hw245 => k0_hw245

def k0_chk246 (v769 : IVec S16 32) : Prop :=
  (∀ a x, ((![v769] : Fin 1 → IVec S16 32) a x).toNat < S16384.size a)
theorem k0_idx246_inb : ∀ (v769 : IVec S16 32) (k0_hw246 : k0_chk246 v769), ∀ a x, ((![v769] : Fin 1 → IVec S16 32) a x).toNat < S16384.size a := fun v769 k0_hw246 => k0_hw246

def k0_chk247 (v772 : IVec S16 32) : Prop :=
  (∀ a x, ((![v772] : Fin 1 → IVec S16 32) a x).toNat < S16384.size a)
theorem k0_idx247_inb : ∀ (v772 : IVec S16 32) (k0_hw247 : k0_chk247 v772), ∀ a x, ((![v772] : Fin 1 → IVec S16 32) a x).toNat < S16384.size a := fun v772 k0_hw247 => k0_hw247

def k0_chk248 (v775 : IVec S16 32) : Prop :=
  (∀ a x, ((![v775] : Fin 1 → IVec S16 32) a x).toNat < S16384.size a)
theorem k0_idx248_inb : ∀ (v775 : IVec S16 32) (k0_hw248 : k0_chk248 v775), ∀ a x, ((![v775] : Fin 1 → IVec S16 32) a x).toNat < S16384.size a := fun v775 k0_hw248 => k0_hw248

def k0_chk249 (v778 : IVec S16 32) : Prop :=
  (∀ a x, ((![v778] : Fin 1 → IVec S16 32) a x).toNat < S16384.size a)
theorem k0_idx249_inb : ∀ (v778 : IVec S16 32) (k0_hw249 : k0_chk249 v778), ∀ a x, ((![v778] : Fin 1 → IVec S16 32) a x).toNat < S16384.size a := fun v778 k0_hw249 => k0_hw249

def k0_chk250 (v781 : IVec S16 32) : Prop :=
  (∀ a x, ((![v781] : Fin 1 → IVec S16 32) a x).toNat < S16384.size a)
theorem k0_idx250_inb : ∀ (v781 : IVec S16 32) (k0_hw250 : k0_chk250 v781), ∀ a x, ((![v781] : Fin 1 → IVec S16 32) a x).toNat < S16384.size a := fun v781 k0_hw250 => k0_hw250

def k0_chk251 (v784 : IVec S16 32) : Prop :=
  (∀ a x, ((![v784] : Fin 1 → IVec S16 32) a x).toNat < S16384.size a)
theorem k0_idx251_inb : ∀ (v784 : IVec S16 32) (k0_hw251 : k0_chk251 v784), ∀ a x, ((![v784] : Fin 1 → IVec S16 32) a x).toNat < S16384.size a := fun v784 k0_hw251 => k0_hw251

def k0_chk252 (v787 : IVec S16 32) : Prop :=
  (∀ a x, ((![v787] : Fin 1 → IVec S16 32) a x).toNat < S16384.size a)
theorem k0_idx252_inb : ∀ (v787 : IVec S16 32) (k0_hw252 : k0_chk252 v787), ∀ a x, ((![v787] : Fin 1 → IVec S16 32) a x).toNat < S16384.size a := fun v787 k0_hw252 => k0_hw252

def k0_chk253 (v790 : IVec S16 32) : Prop :=
  (∀ a x, ((![v790] : Fin 1 → IVec S16 32) a x).toNat < S16384.size a)
theorem k0_idx253_inb : ∀ (v790 : IVec S16 32) (k0_hw253 : k0_chk253 v790), ∀ a x, ((![v790] : Fin 1 → IVec S16 32) a x).toNat < S16384.size a := fun v790 k0_hw253 => k0_hw253

def k0_chk254 (v793 : IVec S16 32) : Prop :=
  (∀ a x, ((![v793] : Fin 1 → IVec S16 32) a x).toNat < S16384.size a)
theorem k0_idx254_inb : ∀ (v793 : IVec S16 32) (k0_hw254 : k0_chk254 v793), ∀ a x, ((![v793] : Fin 1 → IVec S16 32) a x).toNat < S16384.size a := fun v793 k0_hw254 => k0_hw254

def k0_chk255 (v796 : IVec S16 32) : Prop :=
  (∀ a x, ((![v796] : Fin 1 → IVec S16 32) a x).toNat < S16384.size a)
theorem k0_idx255_inb : ∀ (v796 : IVec S16 32) (k0_hw255 : k0_chk255 v796), ∀ a x, ((![v796] : Fin 1 → IVec S16 32) a x).toNat < S16384.size a := fun v796 k0_hw255 => k0_hw255

def k0_chk256 (v799 : IVec S16 32) : Prop :=
  (∀ a x, ((![v799] : Fin 1 → IVec S16 32) a x).toNat < S16384.size a)
theorem k0_idx256_inb : ∀ (v799 : IVec S16 32) (k0_hw256 : k0_chk256 v799), ∀ a x, ((![v799] : Fin 1 → IVec S16 32) a x).toNat < S16384.size a := fun v799 k0_hw256 => k0_hw256

def k0_chk257 (v802 : IVec S16 32) : Prop :=
  (∀ a x, ((![v802] : Fin 1 → IVec S16 32) a x).toNat < S16384.size a)
theorem k0_idx257_inb : ∀ (v802 : IVec S16 32) (k0_hw257 : k0_chk257 v802), ∀ a x, ((![v802] : Fin 1 → IVec S16 32) a x).toNat < S16384.size a := fun v802 k0_hw257 => k0_hw257

def k0_chk258 (v805 : IVec S16 32) : Prop :=
  (∀ a x, ((![v805] : Fin 1 → IVec S16 32) a x).toNat < S16384.size a)
theorem k0_idx258_inb : ∀ (v805 : IVec S16 32) (k0_hw258 : k0_chk258 v805), ∀ a x, ((![v805] : Fin 1 → IVec S16 32) a x).toNat < S16384.size a := fun v805 k0_hw258 => k0_hw258

def k0_chk259 (v808 : IVec S16 32) : Prop :=
  (∀ a x, ((![v808] : Fin 1 → IVec S16 32) a x).toNat < S16384.size a)
theorem k0_idx259_inb : ∀ (v808 : IVec S16 32) (k0_hw259 : k0_chk259 v808), ∀ a x, ((![v808] : Fin 1 → IVec S16 32) a x).toNat < S16384.size a := fun v808 k0_hw259 => k0_hw259

def k0_chk260 (v811 : IVec S16 32) : Prop :=
  (∀ a x, ((![v811] : Fin 1 → IVec S16 32) a x).toNat < S16384.size a)
theorem k0_idx260_inb : ∀ (v811 : IVec S16 32) (k0_hw260 : k0_chk260 v811), ∀ a x, ((![v811] : Fin 1 → IVec S16 32) a x).toNat < S16384.size a := fun v811 k0_hw260 => k0_hw260

def k0_chk261 (v814 : IVec S16 32) : Prop :=
  (∀ a x, ((![v814] : Fin 1 → IVec S16 32) a x).toNat < S16384.size a)
theorem k0_idx261_inb : ∀ (v814 : IVec S16 32) (k0_hw261 : k0_chk261 v814), ∀ a x, ((![v814] : Fin 1 → IVec S16 32) a x).toNat < S16384.size a := fun v814 k0_hw261 => k0_hw261

def k0_chk262 (v817 : IVec S16 32) : Prop :=
  (∀ a x, ((![v817] : Fin 1 → IVec S16 32) a x).toNat < S16384.size a)
theorem k0_idx262_inb : ∀ (v817 : IVec S16 32) (k0_hw262 : k0_chk262 v817), ∀ a x, ((![v817] : Fin 1 → IVec S16 32) a x).toNat < S16384.size a := fun v817 k0_hw262 => k0_hw262

def k0_chk263 (v820 : IVec S16 32) : Prop :=
  (∀ a x, ((![v820] : Fin 1 → IVec S16 32) a x).toNat < S16384.size a)
theorem k0_idx263_inb : ∀ (v820 : IVec S16 32) (k0_hw263 : k0_chk263 v820), ∀ a x, ((![v820] : Fin 1 → IVec S16 32) a x).toNat < S16384.size a := fun v820 k0_hw263 => k0_hw263

def k0_chk264 (v823 : IVec S16 32) : Prop :=
  (∀ a x, ((![v823] : Fin 1 → IVec S16 32) a x).toNat < S16384.size a)
theorem k0_idx264_inb : ∀ (v823 : IVec S16 32) (k0_hw264 : k0_chk264 v823), ∀ a x, ((![v823] : Fin 1 → IVec S16 32) a x).toNat < S16384.size a := fun v823 k0_hw264 => k0_hw264

def k0_chk265 (v826 : IVec S16 32) : Prop :=
  (∀ a x, ((![v826] : Fin 1 → IVec S16 32) a x).toNat < S16384.size a)
theorem k0_idx265_inb : ∀ (v826 : IVec S16 32) (k0_hw265 : k0_chk265 v826), ∀ a x, ((![v826] : Fin 1 → IVec S16 32) a x).toNat < S16384.size a := fun v826 k0_hw265 => k0_hw265

def k0_chk266 (v829 : IVec S16 32) : Prop :=
  (∀ a x, ((![v829] : Fin 1 → IVec S16 32) a x).toNat < S16384.size a)
theorem k0_idx266_inb : ∀ (v829 : IVec S16 32) (k0_hw266 : k0_chk266 v829), ∀ a x, ((![v829] : Fin 1 → IVec S16 32) a x).toNat < S16384.size a := fun v829 k0_hw266 => k0_hw266

def k0_chk267 (v832 : IVec S16 32) : Prop :=
  (∀ a x, ((![v832] : Fin 1 → IVec S16 32) a x).toNat < S16384.size a)
theorem k0_idx267_inb : ∀ (v832 : IVec S16 32) (k0_hw267 : k0_chk267 v832), ∀ a x, ((![v832] : Fin 1 → IVec S16 32) a x).toNat < S16384.size a := fun v832 k0_hw267 => k0_hw267

def k0_chk268 (v835 : IVec S16 32) : Prop :=
  (∀ a x, ((![v835] : Fin 1 → IVec S16 32) a x).toNat < S16384.size a)
theorem k0_idx268_inb : ∀ (v835 : IVec S16 32) (k0_hw268 : k0_chk268 v835), ∀ a x, ((![v835] : Fin 1 → IVec S16 32) a x).toNat < S16384.size a := fun v835 k0_hw268 => k0_hw268

def k0_chk269 (v838 : IVec S16 32) : Prop :=
  (∀ a x, ((![v838] : Fin 1 → IVec S16 32) a x).toNat < S16384.size a)
theorem k0_idx269_inb : ∀ (v838 : IVec S16 32) (k0_hw269 : k0_chk269 v838), ∀ a x, ((![v838] : Fin 1 → IVec S16 32) a x).toNat < S16384.size a := fun v838 k0_hw269 => k0_hw269

def k0_chk270 (v841 : IVec S16 32) : Prop :=
  (∀ a x, ((![v841] : Fin 1 → IVec S16 32) a x).toNat < S16384.size a)
theorem k0_idx270_inb : ∀ (v841 : IVec S16 32) (k0_hw270 : k0_chk270 v841), ∀ a x, ((![v841] : Fin 1 → IVec S16 32) a x).toNat < S16384.size a := fun v841 k0_hw270 => k0_hw270

def k0_chk271 (v844 : IVec S16 32) : Prop :=
  (∀ a x, ((![v844] : Fin 1 → IVec S16 32) a x).toNat < S16384.size a)
theorem k0_idx271_inb : ∀ (v844 : IVec S16 32) (k0_hw271 : k0_chk271 v844), ∀ a x, ((![v844] : Fin 1 → IVec S16 32) a x).toNat < S16384.size a := fun v844 k0_hw271 => k0_hw271

def k0_chk272 (v847 : IVec S16 32) : Prop :=
  (∀ a x, ((![v847] : Fin 1 → IVec S16 32) a x).toNat < S16384.size a)
theorem k0_idx272_inb : ∀ (v847 : IVec S16 32) (k0_hw272 : k0_chk272 v847), ∀ a x, ((![v847] : Fin 1 → IVec S16 32) a x).toNat < S16384.size a := fun v847 k0_hw272 => k0_hw272

def k0_chk273 (v850 : IVec S16 32) : Prop :=
  (∀ a x, ((![v850] : Fin 1 → IVec S16 32) a x).toNat < S16384.size a)
theorem k0_idx273_inb : ∀ (v850 : IVec S16 32) (k0_hw273 : k0_chk273 v850), ∀ a x, ((![v850] : Fin 1 → IVec S16 32) a x).toNat < S16384.size a := fun v850 k0_hw273 => k0_hw273

def k0_chk274 (v853 : IVec S16 32) : Prop :=
  (∀ a x, ((![v853] : Fin 1 → IVec S16 32) a x).toNat < S16384.size a)
theorem k0_idx274_inb : ∀ (v853 : IVec S16 32) (k0_hw274 : k0_chk274 v853), ∀ a x, ((![v853] : Fin 1 → IVec S16 32) a x).toNat < S16384.size a := fun v853 k0_hw274 => k0_hw274

def k0_chk275 (v856 : IVec S16 32) : Prop :=
  (∀ a x, ((![v856] : Fin 1 → IVec S16 32) a x).toNat < S16384.size a)
theorem k0_idx275_inb : ∀ (v856 : IVec S16 32) (k0_hw275 : k0_chk275 v856), ∀ a x, ((![v856] : Fin 1 → IVec S16 32) a x).toNat < S16384.size a := fun v856 k0_hw275 => k0_hw275

def k0_chk276 (v859 : IVec S16 32) : Prop :=
  (∀ a x, ((![v859] : Fin 1 → IVec S16 32) a x).toNat < S16384.size a)
theorem k0_idx276_inb : ∀ (v859 : IVec S16 32) (k0_hw276 : k0_chk276 v859), ∀ a x, ((![v859] : Fin 1 → IVec S16 32) a x).toNat < S16384.size a := fun v859 k0_hw276 => k0_hw276

def k0_chk277 (v862 : IVec S16 32) : Prop :=
  (∀ a x, ((![v862] : Fin 1 → IVec S16 32) a x).toNat < S16384.size a)
theorem k0_idx277_inb : ∀ (v862 : IVec S16 32) (k0_hw277 : k0_chk277 v862), ∀ a x, ((![v862] : Fin 1 → IVec S16 32) a x).toNat < S16384.size a := fun v862 k0_hw277 => k0_hw277

def k0_chk278 (v865 : IVec S16 32) : Prop :=
  (∀ a x, ((![v865] : Fin 1 → IVec S16 32) a x).toNat < S16384.size a)
theorem k0_idx278_inb : ∀ (v865 : IVec S16 32) (k0_hw278 : k0_chk278 v865), ∀ a x, ((![v865] : Fin 1 → IVec S16 32) a x).toNat < S16384.size a := fun v865 k0_hw278 => k0_hw278

def k0_chk279 (v868 : IVec S16 32) : Prop :=
  (∀ a x, ((![v868] : Fin 1 → IVec S16 32) a x).toNat < S16384.size a)
theorem k0_idx279_inb : ∀ (v868 : IVec S16 32) (k0_hw279 : k0_chk279 v868), ∀ a x, ((![v868] : Fin 1 → IVec S16 32) a x).toNat < S16384.size a := fun v868 k0_hw279 => k0_hw279

def k0_chk280 (v871 : IVec S16 32) : Prop :=
  (∀ a x, ((![v871] : Fin 1 → IVec S16 32) a x).toNat < S16384.size a)
theorem k0_idx280_inb : ∀ (v871 : IVec S16 32) (k0_hw280 : k0_chk280 v871), ∀ a x, ((![v871] : Fin 1 → IVec S16 32) a x).toNat < S16384.size a := fun v871 k0_hw280 => k0_hw280

def k0_chk281 (v874 : IVec S16 32) : Prop :=
  (∀ a x, ((![v874] : Fin 1 → IVec S16 32) a x).toNat < S16384.size a)
theorem k0_idx281_inb : ∀ (v874 : IVec S16 32) (k0_hw281 : k0_chk281 v874), ∀ a x, ((![v874] : Fin 1 → IVec S16 32) a x).toNat < S16384.size a := fun v874 k0_hw281 => k0_hw281

def k0_chk282 (v877 : IVec S16 32) : Prop :=
  (∀ a x, ((![v877] : Fin 1 → IVec S16 32) a x).toNat < S16384.size a)
theorem k0_idx282_inb : ∀ (v877 : IVec S16 32) (k0_hw282 : k0_chk282 v877), ∀ a x, ((![v877] : Fin 1 → IVec S16 32) a x).toNat < S16384.size a := fun v877 k0_hw282 => k0_hw282

def k0_chk283 (v880 : IVec S16 32) : Prop :=
  (∀ a x, ((![v880] : Fin 1 → IVec S16 32) a x).toNat < S16384.size a)
theorem k0_idx283_inb : ∀ (v880 : IVec S16 32) (k0_hw283 : k0_chk283 v880), ∀ a x, ((![v880] : Fin 1 → IVec S16 32) a x).toNat < S16384.size a := fun v880 k0_hw283 => k0_hw283

def k0_chk284 (v883 : IVec S16 32) : Prop :=
  (∀ a x, ((![v883] : Fin 1 → IVec S16 32) a x).toNat < S16384.size a)
theorem k0_idx284_inb : ∀ (v883 : IVec S16 32) (k0_hw284 : k0_chk284 v883), ∀ a x, ((![v883] : Fin 1 → IVec S16 32) a x).toNat < S16384.size a := fun v883 k0_hw284 => k0_hw284

def k0_chk285 (v886 : IVec S16 32) : Prop :=
  (∀ a x, ((![v886] : Fin 1 → IVec S16 32) a x).toNat < S16384.size a)
theorem k0_idx285_inb : ∀ (v886 : IVec S16 32) (k0_hw285 : k0_chk285 v886), ∀ a x, ((![v886] : Fin 1 → IVec S16 32) a x).toNat < S16384.size a := fun v886 k0_hw285 => k0_hw285

def k0_chk286 (v889 : IVec S16 32) : Prop :=
  (∀ a x, ((![v889] : Fin 1 → IVec S16 32) a x).toNat < S16384.size a)
theorem k0_idx286_inb : ∀ (v889 : IVec S16 32) (k0_hw286 : k0_chk286 v889), ∀ a x, ((![v889] : Fin 1 → IVec S16 32) a x).toNat < S16384.size a := fun v889 k0_hw286 => k0_hw286

def k0_chk287 (v892 : IVec S16 32) : Prop :=
  (∀ a x, ((![v892] : Fin 1 → IVec S16 32) a x).toNat < S16384.size a)
theorem k0_idx287_inb : ∀ (v892 : IVec S16 32) (k0_hw287 : k0_chk287 v892), ∀ a x, ((![v892] : Fin 1 → IVec S16 32) a x).toNat < S16384.size a := fun v892 k0_hw287 => k0_hw287

def k0_chk288 (v895 : IVec S16 32) : Prop :=
  (∀ a x, ((![v895] : Fin 1 → IVec S16 32) a x).toNat < S16384.size a)
theorem k0_idx288_inb : ∀ (v895 : IVec S16 32) (k0_hw288 : k0_chk288 v895), ∀ a x, ((![v895] : Fin 1 → IVec S16 32) a x).toNat < S16384.size a := fun v895 k0_hw288 => k0_hw288
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32 : BitVec 32 := 32#32
  let v896 : BitVec 32 := Scalar.addi v2 c32_i32
  let c2048_i32_418 : BitVec 32 := 2048#32
  let v897 : BitVec 32 := Scalar.muli v896 c2048_i32_418
  ![v897.toNat]

def k0_chk289 (v904 : IVec S16 32) : Prop :=
  (∀ a x, ((![v904] : Fin 1 → IVec S16 32) a x).toNat < S16384.size a)
theorem k0_idx289_inb : ∀ (v904 : IVec S16 32) (k0_hw289 : k0_chk289 v904), ∀ a x, ((![v904] : Fin 1 → IVec S16 32) a x).toNat < S16384.size a := fun v904 k0_hw289 => k0_hw289

def k0_chk290 (v907 : IVec S16 32) : Prop :=
  (∀ a x, ((![v907] : Fin 1 → IVec S16 32) a x).toNat < S16384.size a)
theorem k0_idx290_inb : ∀ (v907 : IVec S16 32) (k0_hw290 : k0_chk290 v907), ∀ a x, ((![v907] : Fin 1 → IVec S16 32) a x).toNat < S16384.size a := fun v907 k0_hw290 => k0_hw290

def k0_chk291 (v910 : IVec S16 32) : Prop :=
  (∀ a x, ((![v910] : Fin 1 → IVec S16 32) a x).toNat < S16384.size a)
theorem k0_idx291_inb : ∀ (v910 : IVec S16 32) (k0_hw291 : k0_chk291 v910), ∀ a x, ((![v910] : Fin 1 → IVec S16 32) a x).toNat < S16384.size a := fun v910 k0_hw291 => k0_hw291

def k0_chk292 (v913 : IVec S16 32) : Prop :=
  (∀ a x, ((![v913] : Fin 1 → IVec S16 32) a x).toNat < S16384.size a)
theorem k0_idx292_inb : ∀ (v913 : IVec S16 32) (k0_hw292 : k0_chk292 v913), ∀ a x, ((![v913] : Fin 1 → IVec S16 32) a x).toNat < S16384.size a := fun v913 k0_hw292 => k0_hw292

def k0_chk293 (v916 : IVec S16 32) : Prop :=
  (∀ a x, ((![v916] : Fin 1 → IVec S16 32) a x).toNat < S16384.size a)
theorem k0_idx293_inb : ∀ (v916 : IVec S16 32) (k0_hw293 : k0_chk293 v916), ∀ a x, ((![v916] : Fin 1 → IVec S16 32) a x).toNat < S16384.size a := fun v916 k0_hw293 => k0_hw293

def k0_chk294 (v919 : IVec S16 32) : Prop :=
  (∀ a x, ((![v919] : Fin 1 → IVec S16 32) a x).toNat < S16384.size a)
theorem k0_idx294_inb : ∀ (v919 : IVec S16 32) (k0_hw294 : k0_chk294 v919), ∀ a x, ((![v919] : Fin 1 → IVec S16 32) a x).toNat < S16384.size a := fun v919 k0_hw294 => k0_hw294

def k0_chk295 (v922 : IVec S16 32) : Prop :=
  (∀ a x, ((![v922] : Fin 1 → IVec S16 32) a x).toNat < S16384.size a)
theorem k0_idx295_inb : ∀ (v922 : IVec S16 32) (k0_hw295 : k0_chk295 v922), ∀ a x, ((![v922] : Fin 1 → IVec S16 32) a x).toNat < S16384.size a := fun v922 k0_hw295 => k0_hw295

def k0_chk296 (v925 : IVec S16 32) : Prop :=
  (∀ a x, ((![v925] : Fin 1 → IVec S16 32) a x).toNat < S16384.size a)
theorem k0_idx296_inb : ∀ (v925 : IVec S16 32) (k0_hw296 : k0_chk296 v925), ∀ a x, ((![v925] : Fin 1 → IVec S16 32) a x).toNat < S16384.size a := fun v925 k0_hw296 => k0_hw296

def k0_chk297 (v928 : IVec S16 32) : Prop :=
  (∀ a x, ((![v928] : Fin 1 → IVec S16 32) a x).toNat < S16384.size a)
theorem k0_idx297_inb : ∀ (v928 : IVec S16 32) (k0_hw297 : k0_chk297 v928), ∀ a x, ((![v928] : Fin 1 → IVec S16 32) a x).toNat < S16384.size a := fun v928 k0_hw297 => k0_hw297

def k0_chk298 (v931 : IVec S16 32) : Prop :=
  (∀ a x, ((![v931] : Fin 1 → IVec S16 32) a x).toNat < S16384.size a)
theorem k0_idx298_inb : ∀ (v931 : IVec S16 32) (k0_hw298 : k0_chk298 v931), ∀ a x, ((![v931] : Fin 1 → IVec S16 32) a x).toNat < S16384.size a := fun v931 k0_hw298 => k0_hw298

def k0_chk299 (v934 : IVec S16 32) : Prop :=
  (∀ a x, ((![v934] : Fin 1 → IVec S16 32) a x).toNat < S16384.size a)
theorem k0_idx299_inb : ∀ (v934 : IVec S16 32) (k0_hw299 : k0_chk299 v934), ∀ a x, ((![v934] : Fin 1 → IVec S16 32) a x).toNat < S16384.size a := fun v934 k0_hw299 => k0_hw299

def k0_chk300 (v937 : IVec S16 32) : Prop :=
  (∀ a x, ((![v937] : Fin 1 → IVec S16 32) a x).toNat < S16384.size a)
theorem k0_idx300_inb : ∀ (v937 : IVec S16 32) (k0_hw300 : k0_chk300 v937), ∀ a x, ((![v937] : Fin 1 → IVec S16 32) a x).toNat < S16384.size a := fun v937 k0_hw300 => k0_hw300

def k0_chk301 (v940 : IVec S16 32) : Prop :=
  (∀ a x, ((![v940] : Fin 1 → IVec S16 32) a x).toNat < S16384.size a)
theorem k0_idx301_inb : ∀ (v940 : IVec S16 32) (k0_hw301 : k0_chk301 v940), ∀ a x, ((![v940] : Fin 1 → IVec S16 32) a x).toNat < S16384.size a := fun v940 k0_hw301 => k0_hw301

def k0_chk302 (v943 : IVec S16 32) : Prop :=
  (∀ a x, ((![v943] : Fin 1 → IVec S16 32) a x).toNat < S16384.size a)
theorem k0_idx302_inb : ∀ (v943 : IVec S16 32) (k0_hw302 : k0_chk302 v943), ∀ a x, ((![v943] : Fin 1 → IVec S16 32) a x).toNat < S16384.size a := fun v943 k0_hw302 => k0_hw302

def k0_chk303 (v946 : IVec S16 32) : Prop :=
  (∀ a x, ((![v946] : Fin 1 → IVec S16 32) a x).toNat < S16384.size a)
theorem k0_idx303_inb : ∀ (v946 : IVec S16 32) (k0_hw303 : k0_chk303 v946), ∀ a x, ((![v946] : Fin 1 → IVec S16 32) a x).toNat < S16384.size a := fun v946 k0_hw303 => k0_hw303

def k0_chk304 (v949 : IVec S16 32) : Prop :=
  (∀ a x, ((![v949] : Fin 1 → IVec S16 32) a x).toNat < S16384.size a)
theorem k0_idx304_inb : ∀ (v949 : IVec S16 32) (k0_hw304 : k0_chk304 v949), ∀ a x, ((![v949] : Fin 1 → IVec S16 32) a x).toNat < S16384.size a := fun v949 k0_hw304 => k0_hw304

def k0_chk305 (v952 : IVec S16 32) : Prop :=
  (∀ a x, ((![v952] : Fin 1 → IVec S16 32) a x).toNat < S16384.size a)
theorem k0_idx305_inb : ∀ (v952 : IVec S16 32) (k0_hw305 : k0_chk305 v952), ∀ a x, ((![v952] : Fin 1 → IVec S16 32) a x).toNat < S16384.size a := fun v952 k0_hw305 => k0_hw305

def k0_chk306 (v955 : IVec S16 32) : Prop :=
  (∀ a x, ((![v955] : Fin 1 → IVec S16 32) a x).toNat < S16384.size a)
theorem k0_idx306_inb : ∀ (v955 : IVec S16 32) (k0_hw306 : k0_chk306 v955), ∀ a x, ((![v955] : Fin 1 → IVec S16 32) a x).toNat < S16384.size a := fun v955 k0_hw306 => k0_hw306

def k0_chk307 (v958 : IVec S16 32) : Prop :=
  (∀ a x, ((![v958] : Fin 1 → IVec S16 32) a x).toNat < S16384.size a)
theorem k0_idx307_inb : ∀ (v958 : IVec S16 32) (k0_hw307 : k0_chk307 v958), ∀ a x, ((![v958] : Fin 1 → IVec S16 32) a x).toNat < S16384.size a := fun v958 k0_hw307 => k0_hw307

def k0_chk308 (v961 : IVec S16 32) : Prop :=
  (∀ a x, ((![v961] : Fin 1 → IVec S16 32) a x).toNat < S16384.size a)
theorem k0_idx308_inb : ∀ (v961 : IVec S16 32) (k0_hw308 : k0_chk308 v961), ∀ a x, ((![v961] : Fin 1 → IVec S16 32) a x).toNat < S16384.size a := fun v961 k0_hw308 => k0_hw308

def k0_chk309 (v964 : IVec S16 32) : Prop :=
  (∀ a x, ((![v964] : Fin 1 → IVec S16 32) a x).toNat < S16384.size a)
theorem k0_idx309_inb : ∀ (v964 : IVec S16 32) (k0_hw309 : k0_chk309 v964), ∀ a x, ((![v964] : Fin 1 → IVec S16 32) a x).toNat < S16384.size a := fun v964 k0_hw309 => k0_hw309

def k0_chk310 (v967 : IVec S16 32) : Prop :=
  (∀ a x, ((![v967] : Fin 1 → IVec S16 32) a x).toNat < S16384.size a)
theorem k0_idx310_inb : ∀ (v967 : IVec S16 32) (k0_hw310 : k0_chk310 v967), ∀ a x, ((![v967] : Fin 1 → IVec S16 32) a x).toNat < S16384.size a := fun v967 k0_hw310 => k0_hw310

def k0_chk311 (v970 : IVec S16 32) : Prop :=
  (∀ a x, ((![v970] : Fin 1 → IVec S16 32) a x).toNat < S16384.size a)
theorem k0_idx311_inb : ∀ (v970 : IVec S16 32) (k0_hw311 : k0_chk311 v970), ∀ a x, ((![v970] : Fin 1 → IVec S16 32) a x).toNat < S16384.size a := fun v970 k0_hw311 => k0_hw311

def k0_chk312 (v973 : IVec S16 32) : Prop :=
  (∀ a x, ((![v973] : Fin 1 → IVec S16 32) a x).toNat < S16384.size a)
theorem k0_idx312_inb : ∀ (v973 : IVec S16 32) (k0_hw312 : k0_chk312 v973), ∀ a x, ((![v973] : Fin 1 → IVec S16 32) a x).toNat < S16384.size a := fun v973 k0_hw312 => k0_hw312

def k0_chk313 (v976 : IVec S16 32) : Prop :=
  (∀ a x, ((![v976] : Fin 1 → IVec S16 32) a x).toNat < S16384.size a)
theorem k0_idx313_inb : ∀ (v976 : IVec S16 32) (k0_hw313 : k0_chk313 v976), ∀ a x, ((![v976] : Fin 1 → IVec S16 32) a x).toNat < S16384.size a := fun v976 k0_hw313 => k0_hw313

def k0_chk314 (v979 : IVec S16 32) : Prop :=
  (∀ a x, ((![v979] : Fin 1 → IVec S16 32) a x).toNat < S16384.size a)
theorem k0_idx314_inb : ∀ (v979 : IVec S16 32) (k0_hw314 : k0_chk314 v979), ∀ a x, ((![v979] : Fin 1 → IVec S16 32) a x).toNat < S16384.size a := fun v979 k0_hw314 => k0_hw314

def k0_chk315 (v982 : IVec S16 32) : Prop :=
  (∀ a x, ((![v982] : Fin 1 → IVec S16 32) a x).toNat < S16384.size a)
theorem k0_idx315_inb : ∀ (v982 : IVec S16 32) (k0_hw315 : k0_chk315 v982), ∀ a x, ((![v982] : Fin 1 → IVec S16 32) a x).toNat < S16384.size a := fun v982 k0_hw315 => k0_hw315

def k0_chk316 (v985 : IVec S16 32) : Prop :=
  (∀ a x, ((![v985] : Fin 1 → IVec S16 32) a x).toNat < S16384.size a)
theorem k0_idx316_inb : ∀ (v985 : IVec S16 32) (k0_hw316 : k0_chk316 v985), ∀ a x, ((![v985] : Fin 1 → IVec S16 32) a x).toNat < S16384.size a := fun v985 k0_hw316 => k0_hw316

def k0_chk317 (v988 : IVec S16 32) : Prop :=
  (∀ a x, ((![v988] : Fin 1 → IVec S16 32) a x).toNat < S16384.size a)
theorem k0_idx317_inb : ∀ (v988 : IVec S16 32) (k0_hw317 : k0_chk317 v988), ∀ a x, ((![v988] : Fin 1 → IVec S16 32) a x).toNat < S16384.size a := fun v988 k0_hw317 => k0_hw317

def k0_chk318 (v991 : IVec S16 32) : Prop :=
  (∀ a x, ((![v991] : Fin 1 → IVec S16 32) a x).toNat < S16384.size a)
theorem k0_idx318_inb : ∀ (v991 : IVec S16 32) (k0_hw318 : k0_chk318 v991), ∀ a x, ((![v991] : Fin 1 → IVec S16 32) a x).toNat < S16384.size a := fun v991 k0_hw318 => k0_hw318

def k0_chk319 (v994 : IVec S16 32) : Prop :=
  (∀ a x, ((![v994] : Fin 1 → IVec S16 32) a x).toNat < S16384.size a)
theorem k0_idx319_inb : ∀ (v994 : IVec S16 32) (k0_hw319 : k0_chk319 v994), ∀ a x, ((![v994] : Fin 1 → IVec S16 32) a x).toNat < S16384.size a := fun v994 k0_hw319 => k0_hw319

def k0_chk320 (v997 : IVec S16 32) : Prop :=
  (∀ a x, ((![v997] : Fin 1 → IVec S16 32) a x).toNat < S16384.size a)
theorem k0_idx320_inb : ∀ (v997 : IVec S16 32) (k0_hw320 : k0_chk320 v997), ∀ a x, ((![v997] : Fin 1 → IVec S16 32) a x).toNat < S16384.size a := fun v997 k0_hw320 => k0_hw320

def k0_chk321 (v1000 : IVec S16 32) : Prop :=
  (∀ a x, ((![v1000] : Fin 1 → IVec S16 32) a x).toNat < S16384.size a)
theorem k0_idx321_inb : ∀ (v1000 : IVec S16 32) (k0_hw321 : k0_chk321 v1000), ∀ a x, ((![v1000] : Fin 1 → IVec S16 32) a x).toNat < S16384.size a := fun v1000 k0_hw321 => k0_hw321

def k0_chk322 (v1003 : IVec S16 32) : Prop :=
  (∀ a x, ((![v1003] : Fin 1 → IVec S16 32) a x).toNat < S16384.size a)
theorem k0_idx322_inb : ∀ (v1003 : IVec S16 32) (k0_hw322 : k0_chk322 v1003), ∀ a x, ((![v1003] : Fin 1 → IVec S16 32) a x).toNat < S16384.size a := fun v1003 k0_hw322 => k0_hw322

def k0_chk323 (v1006 : IVec S16 32) : Prop :=
  (∀ a x, ((![v1006] : Fin 1 → IVec S16 32) a x).toNat < S16384.size a)
theorem k0_idx323_inb : ∀ (v1006 : IVec S16 32) (k0_hw323 : k0_chk323 v1006), ∀ a x, ((![v1006] : Fin 1 → IVec S16 32) a x).toNat < S16384.size a := fun v1006 k0_hw323 => k0_hw323

def k0_chk324 (v1009 : IVec S16 32) : Prop :=
  (∀ a x, ((![v1009] : Fin 1 → IVec S16 32) a x).toNat < S16384.size a)
theorem k0_idx324_inb : ∀ (v1009 : IVec S16 32) (k0_hw324 : k0_chk324 v1009), ∀ a x, ((![v1009] : Fin 1 → IVec S16 32) a x).toNat < S16384.size a := fun v1009 k0_hw324 => k0_hw324

def k0_chk325 (v1012 : IVec S16 32) : Prop :=
  (∀ a x, ((![v1012] : Fin 1 → IVec S16 32) a x).toNat < S16384.size a)
theorem k0_idx325_inb : ∀ (v1012 : IVec S16 32) (k0_hw325 : k0_chk325 v1012), ∀ a x, ((![v1012] : Fin 1 → IVec S16 32) a x).toNat < S16384.size a := fun v1012 k0_hw325 => k0_hw325

def k0_chk326 (v1015 : IVec S16 32) : Prop :=
  (∀ a x, ((![v1015] : Fin 1 → IVec S16 32) a x).toNat < S16384.size a)
theorem k0_idx326_inb : ∀ (v1015 : IVec S16 32) (k0_hw326 : k0_chk326 v1015), ∀ a x, ((![v1015] : Fin 1 → IVec S16 32) a x).toNat < S16384.size a := fun v1015 k0_hw326 => k0_hw326

def k0_chk327 (v1018 : IVec S16 32) : Prop :=
  (∀ a x, ((![v1018] : Fin 1 → IVec S16 32) a x).toNat < S16384.size a)
theorem k0_idx327_inb : ∀ (v1018 : IVec S16 32) (k0_hw327 : k0_chk327 v1018), ∀ a x, ((![v1018] : Fin 1 → IVec S16 32) a x).toNat < S16384.size a := fun v1018 k0_hw327 => k0_hw327

def k0_chk328 (v1021 : IVec S16 32) : Prop :=
  (∀ a x, ((![v1021] : Fin 1 → IVec S16 32) a x).toNat < S16384.size a)
theorem k0_idx328_inb : ∀ (v1021 : IVec S16 32) (k0_hw328 : k0_chk328 v1021), ∀ a x, ((![v1021] : Fin 1 → IVec S16 32) a x).toNat < S16384.size a := fun v1021 k0_hw328 => k0_hw328

def k0_chk329 (v1024 : IVec S16 32) : Prop :=
  (∀ a x, ((![v1024] : Fin 1 → IVec S16 32) a x).toNat < S16384.size a)
theorem k0_idx329_inb : ∀ (v1024 : IVec S16 32) (k0_hw329 : k0_chk329 v1024), ∀ a x, ((![v1024] : Fin 1 → IVec S16 32) a x).toNat < S16384.size a := fun v1024 k0_hw329 => k0_hw329

def k0_chk330 (v1027 : IVec S16 32) : Prop :=
  (∀ a x, ((![v1027] : Fin 1 → IVec S16 32) a x).toNat < S16384.size a)
theorem k0_idx330_inb : ∀ (v1027 : IVec S16 32) (k0_hw330 : k0_chk330 v1027), ∀ a x, ((![v1027] : Fin 1 → IVec S16 32) a x).toNat < S16384.size a := fun v1027 k0_hw330 => k0_hw330

def k0_chk331 (v1030 : IVec S16 32) : Prop :=
  (∀ a x, ((![v1030] : Fin 1 → IVec S16 32) a x).toNat < S16384.size a)
theorem k0_idx331_inb : ∀ (v1030 : IVec S16 32) (k0_hw331 : k0_chk331 v1030), ∀ a x, ((![v1030] : Fin 1 → IVec S16 32) a x).toNat < S16384.size a := fun v1030 k0_hw331 => k0_hw331

def k0_chk332 (v1033 : IVec S16 32) : Prop :=
  (∀ a x, ((![v1033] : Fin 1 → IVec S16 32) a x).toNat < S16384.size a)
theorem k0_idx332_inb : ∀ (v1033 : IVec S16 32) (k0_hw332 : k0_chk332 v1033), ∀ a x, ((![v1033] : Fin 1 → IVec S16 32) a x).toNat < S16384.size a := fun v1033 k0_hw332 => k0_hw332

def k0_chk333 (v1036 : IVec S16 32) : Prop :=
  (∀ a x, ((![v1036] : Fin 1 → IVec S16 32) a x).toNat < S16384.size a)
theorem k0_idx333_inb : ∀ (v1036 : IVec S16 32) (k0_hw333 : k0_chk333 v1036), ∀ a x, ((![v1036] : Fin 1 → IVec S16 32) a x).toNat < S16384.size a := fun v1036 k0_hw333 => k0_hw333

def k0_chk334 (v1039 : IVec S16 32) : Prop :=
  (∀ a x, ((![v1039] : Fin 1 → IVec S16 32) a x).toNat < S16384.size a)
theorem k0_idx334_inb : ∀ (v1039 : IVec S16 32) (k0_hw334 : k0_chk334 v1039), ∀ a x, ((![v1039] : Fin 1 → IVec S16 32) a x).toNat < S16384.size a := fun v1039 k0_hw334 => k0_hw334

def k0_chk335 (v1042 : IVec S16 32) : Prop :=
  (∀ a x, ((![v1042] : Fin 1 → IVec S16 32) a x).toNat < S16384.size a)
theorem k0_idx335_inb : ∀ (v1042 : IVec S16 32) (k0_hw335 : k0_chk335 v1042), ∀ a x, ((![v1042] : Fin 1 → IVec S16 32) a x).toNat < S16384.size a := fun v1042 k0_hw335 => k0_hw335

def k0_chk336 (v1045 : IVec S16 32) : Prop :=
  (∀ a x, ((![v1045] : Fin 1 → IVec S16 32) a x).toNat < S16384.size a)
theorem k0_idx336_inb : ∀ (v1045 : IVec S16 32) (k0_hw336 : k0_chk336 v1045), ∀ a x, ((![v1045] : Fin 1 → IVec S16 32) a x).toNat < S16384.size a := fun v1045 k0_hw336 => k0_hw336

def k0_chk337 (v1048 : IVec S16 32) : Prop :=
  (∀ a x, ((![v1048] : Fin 1 → IVec S16 32) a x).toNat < S16384.size a)
theorem k0_idx337_inb : ∀ (v1048 : IVec S16 32) (k0_hw337 : k0_chk337 v1048), ∀ a x, ((![v1048] : Fin 1 → IVec S16 32) a x).toNat < S16384.size a := fun v1048 k0_hw337 => k0_hw337

def k0_chk338 (v1051 : IVec S16 32) : Prop :=
  (∀ a x, ((![v1051] : Fin 1 → IVec S16 32) a x).toNat < S16384.size a)
theorem k0_idx338_inb : ∀ (v1051 : IVec S16 32) (k0_hw338 : k0_chk338 v1051), ∀ a x, ((![v1051] : Fin 1 → IVec S16 32) a x).toNat < S16384.size a := fun v1051 k0_hw338 => k0_hw338

def k0_chk339 (v1054 : IVec S16 32) : Prop :=
  (∀ a x, ((![v1054] : Fin 1 → IVec S16 32) a x).toNat < S16384.size a)
theorem k0_idx339_inb : ∀ (v1054 : IVec S16 32) (k0_hw339 : k0_chk339 v1054), ∀ a x, ((![v1054] : Fin 1 → IVec S16 32) a x).toNat < S16384.size a := fun v1054 k0_hw339 => k0_hw339

def k0_chk340 (v1057 : IVec S16 32) : Prop :=
  (∀ a x, ((![v1057] : Fin 1 → IVec S16 32) a x).toNat < S16384.size a)
theorem k0_idx340_inb : ∀ (v1057 : IVec S16 32) (k0_hw340 : k0_chk340 v1057), ∀ a x, ((![v1057] : Fin 1 → IVec S16 32) a x).toNat < S16384.size a := fun v1057 k0_hw340 => k0_hw340

def k0_chk341 (v1060 : IVec S16 32) : Prop :=
  (∀ a x, ((![v1060] : Fin 1 → IVec S16 32) a x).toNat < S16384.size a)
theorem k0_idx341_inb : ∀ (v1060 : IVec S16 32) (k0_hw341 : k0_chk341 v1060), ∀ a x, ((![v1060] : Fin 1 → IVec S16 32) a x).toNat < S16384.size a := fun v1060 k0_hw341 => k0_hw341

def k0_chk342 (v1063 : IVec S16 32) : Prop :=
  (∀ a x, ((![v1063] : Fin 1 → IVec S16 32) a x).toNat < S16384.size a)
theorem k0_idx342_inb : ∀ (v1063 : IVec S16 32) (k0_hw342 : k0_chk342 v1063), ∀ a x, ((![v1063] : Fin 1 → IVec S16 32) a x).toNat < S16384.size a := fun v1063 k0_hw342 => k0_hw342

def k0_chk343 (v1066 : IVec S16 32) : Prop :=
  (∀ a x, ((![v1066] : Fin 1 → IVec S16 32) a x).toNat < S16384.size a)
theorem k0_idx343_inb : ∀ (v1066 : IVec S16 32) (k0_hw343 : k0_chk343 v1066), ∀ a x, ((![v1066] : Fin 1 → IVec S16 32) a x).toNat < S16384.size a := fun v1066 k0_hw343 => k0_hw343

def k0_chk344 (v1069 : IVec S16 32) : Prop :=
  (∀ a x, ((![v1069] : Fin 1 → IVec S16 32) a x).toNat < S16384.size a)
theorem k0_idx344_inb : ∀ (v1069 : IVec S16 32) (k0_hw344 : k0_chk344 v1069), ∀ a x, ((![v1069] : Fin 1 → IVec S16 32) a x).toNat < S16384.size a := fun v1069 k0_hw344 => k0_hw344

def k0_chk345 (v1072 : IVec S16 32) : Prop :=
  (∀ a x, ((![v1072] : Fin 1 → IVec S16 32) a x).toNat < S16384.size a)
theorem k0_idx345_inb : ∀ (v1072 : IVec S16 32) (k0_hw345 : k0_chk345 v1072), ∀ a x, ((![v1072] : Fin 1 → IVec S16 32) a x).toNat < S16384.size a := fun v1072 k0_hw345 => k0_hw345

def k0_chk346 (v1075 : IVec S16 32) : Prop :=
  (∀ a x, ((![v1075] : Fin 1 → IVec S16 32) a x).toNat < S16384.size a)
theorem k0_idx346_inb : ∀ (v1075 : IVec S16 32) (k0_hw346 : k0_chk346 v1075), ∀ a x, ((![v1075] : Fin 1 → IVec S16 32) a x).toNat < S16384.size a := fun v1075 k0_hw346 => k0_hw346

def k0_chk347 (v1078 : IVec S16 32) : Prop :=
  (∀ a x, ((![v1078] : Fin 1 → IVec S16 32) a x).toNat < S16384.size a)
theorem k0_idx347_inb : ∀ (v1078 : IVec S16 32) (k0_hw347 : k0_chk347 v1078), ∀ a x, ((![v1078] : Fin 1 → IVec S16 32) a x).toNat < S16384.size a := fun v1078 k0_hw347 => k0_hw347

def k0_chk348 (v1081 : IVec S16 32) : Prop :=
  (∀ a x, ((![v1081] : Fin 1 → IVec S16 32) a x).toNat < S16384.size a)
theorem k0_idx348_inb : ∀ (v1081 : IVec S16 32) (k0_hw348 : k0_chk348 v1081), ∀ a x, ((![v1081] : Fin 1 → IVec S16 32) a x).toNat < S16384.size a := fun v1081 k0_hw348 => k0_hw348

def k0_chk349 (v1084 : IVec S16 32) : Prop :=
  (∀ a x, ((![v1084] : Fin 1 → IVec S16 32) a x).toNat < S16384.size a)
theorem k0_idx349_inb : ∀ (v1084 : IVec S16 32) (k0_hw349 : k0_chk349 v1084), ∀ a x, ((![v1084] : Fin 1 → IVec S16 32) a x).toNat < S16384.size a := fun v1084 k0_hw349 => k0_hw349

def k0_chk350 (v1087 : IVec S16 32) : Prop :=
  (∀ a x, ((![v1087] : Fin 1 → IVec S16 32) a x).toNat < S16384.size a)
theorem k0_idx350_inb : ∀ (v1087 : IVec S16 32) (k0_hw350 : k0_chk350 v1087), ∀ a x, ((![v1087] : Fin 1 → IVec S16 32) a x).toNat < S16384.size a := fun v1087 k0_hw350 => k0_hw350

def k0_chk351 (v1090 : IVec S16 32) : Prop :=
  (∀ a x, ((![v1090] : Fin 1 → IVec S16 32) a x).toNat < S16384.size a)
theorem k0_idx351_inb : ∀ (v1090 : IVec S16 32) (k0_hw351 : k0_chk351 v1090), ∀ a x, ((![v1090] : Fin 1 → IVec S16 32) a x).toNat < S16384.size a := fun v1090 k0_hw351 => k0_hw351

def k0_chk352 (v1093 : IVec S16 32) : Prop :=
  (∀ a x, ((![v1093] : Fin 1 → IVec S16 32) a x).toNat < S16384.size a)
theorem k0_idx352_inb : ∀ (v1093 : IVec S16 32) (k0_hw352 : k0_chk352 v1093), ∀ a x, ((![v1093] : Fin 1 → IVec S16 32) a x).toNat < S16384.size a := fun v1093 k0_hw352 => k0_hw352
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32 : BitVec 32 := 40#32
  let v1094 : BitVec 32 := Scalar.addi v2 c40_i32
  let c2048_i32_515 : BitVec 32 := 2048#32
  let v1095 : BitVec 32 := Scalar.muli v1094 c2048_i32_515
  ![v1095.toNat]

def k0_chk353 (v1102 : IVec S16 32) : Prop :=
  (∀ a x, ((![v1102] : Fin 1 → IVec S16 32) a x).toNat < S16384.size a)
theorem k0_idx353_inb : ∀ (v1102 : IVec S16 32) (k0_hw353 : k0_chk353 v1102), ∀ a x, ((![v1102] : Fin 1 → IVec S16 32) a x).toNat < S16384.size a := fun v1102 k0_hw353 => k0_hw353

def k0_chk354 (v1105 : IVec S16 32) : Prop :=
  (∀ a x, ((![v1105] : Fin 1 → IVec S16 32) a x).toNat < S16384.size a)
theorem k0_idx354_inb : ∀ (v1105 : IVec S16 32) (k0_hw354 : k0_chk354 v1105), ∀ a x, ((![v1105] : Fin 1 → IVec S16 32) a x).toNat < S16384.size a := fun v1105 k0_hw354 => k0_hw354

def k0_chk355 (v1108 : IVec S16 32) : Prop :=
  (∀ a x, ((![v1108] : Fin 1 → IVec S16 32) a x).toNat < S16384.size a)
theorem k0_idx355_inb : ∀ (v1108 : IVec S16 32) (k0_hw355 : k0_chk355 v1108), ∀ a x, ((![v1108] : Fin 1 → IVec S16 32) a x).toNat < S16384.size a := fun v1108 k0_hw355 => k0_hw355

def k0_chk356 (v1111 : IVec S16 32) : Prop :=
  (∀ a x, ((![v1111] : Fin 1 → IVec S16 32) a x).toNat < S16384.size a)
theorem k0_idx356_inb : ∀ (v1111 : IVec S16 32) (k0_hw356 : k0_chk356 v1111), ∀ a x, ((![v1111] : Fin 1 → IVec S16 32) a x).toNat < S16384.size a := fun v1111 k0_hw356 => k0_hw356

def k0_chk357 (v1114 : IVec S16 32) : Prop :=
  (∀ a x, ((![v1114] : Fin 1 → IVec S16 32) a x).toNat < S16384.size a)
theorem k0_idx357_inb : ∀ (v1114 : IVec S16 32) (k0_hw357 : k0_chk357 v1114), ∀ a x, ((![v1114] : Fin 1 → IVec S16 32) a x).toNat < S16384.size a := fun v1114 k0_hw357 => k0_hw357

def k0_chk358 (v1117 : IVec S16 32) : Prop :=
  (∀ a x, ((![v1117] : Fin 1 → IVec S16 32) a x).toNat < S16384.size a)
theorem k0_idx358_inb : ∀ (v1117 : IVec S16 32) (k0_hw358 : k0_chk358 v1117), ∀ a x, ((![v1117] : Fin 1 → IVec S16 32) a x).toNat < S16384.size a := fun v1117 k0_hw358 => k0_hw358

def k0_chk359 (v1120 : IVec S16 32) : Prop :=
  (∀ a x, ((![v1120] : Fin 1 → IVec S16 32) a x).toNat < S16384.size a)
theorem k0_idx359_inb : ∀ (v1120 : IVec S16 32) (k0_hw359 : k0_chk359 v1120), ∀ a x, ((![v1120] : Fin 1 → IVec S16 32) a x).toNat < S16384.size a := fun v1120 k0_hw359 => k0_hw359

def k0_chk360 (v1123 : IVec S16 32) : Prop :=
  (∀ a x, ((![v1123] : Fin 1 → IVec S16 32) a x).toNat < S16384.size a)
theorem k0_idx360_inb : ∀ (v1123 : IVec S16 32) (k0_hw360 : k0_chk360 v1123), ∀ a x, ((![v1123] : Fin 1 → IVec S16 32) a x).toNat < S16384.size a := fun v1123 k0_hw360 => k0_hw360

def k0_chk361 (v1126 : IVec S16 32) : Prop :=
  (∀ a x, ((![v1126] : Fin 1 → IVec S16 32) a x).toNat < S16384.size a)
theorem k0_idx361_inb : ∀ (v1126 : IVec S16 32) (k0_hw361 : k0_chk361 v1126), ∀ a x, ((![v1126] : Fin 1 → IVec S16 32) a x).toNat < S16384.size a := fun v1126 k0_hw361 => k0_hw361

def k0_chk362 (v1129 : IVec S16 32) : Prop :=
  (∀ a x, ((![v1129] : Fin 1 → IVec S16 32) a x).toNat < S16384.size a)
theorem k0_idx362_inb : ∀ (v1129 : IVec S16 32) (k0_hw362 : k0_chk362 v1129), ∀ a x, ((![v1129] : Fin 1 → IVec S16 32) a x).toNat < S16384.size a := fun v1129 k0_hw362 => k0_hw362

def k0_chk363 (v1132 : IVec S16 32) : Prop :=
  (∀ a x, ((![v1132] : Fin 1 → IVec S16 32) a x).toNat < S16384.size a)
theorem k0_idx363_inb : ∀ (v1132 : IVec S16 32) (k0_hw363 : k0_chk363 v1132), ∀ a x, ((![v1132] : Fin 1 → IVec S16 32) a x).toNat < S16384.size a := fun v1132 k0_hw363 => k0_hw363

def k0_chk364 (v1135 : IVec S16 32) : Prop :=
  (∀ a x, ((![v1135] : Fin 1 → IVec S16 32) a x).toNat < S16384.size a)
theorem k0_idx364_inb : ∀ (v1135 : IVec S16 32) (k0_hw364 : k0_chk364 v1135), ∀ a x, ((![v1135] : Fin 1 → IVec S16 32) a x).toNat < S16384.size a := fun v1135 k0_hw364 => k0_hw364

def k0_chk365 (v1138 : IVec S16 32) : Prop :=
  (∀ a x, ((![v1138] : Fin 1 → IVec S16 32) a x).toNat < S16384.size a)
theorem k0_idx365_inb : ∀ (v1138 : IVec S16 32) (k0_hw365 : k0_chk365 v1138), ∀ a x, ((![v1138] : Fin 1 → IVec S16 32) a x).toNat < S16384.size a := fun v1138 k0_hw365 => k0_hw365

def k0_chk366 (v1141 : IVec S16 32) : Prop :=
  (∀ a x, ((![v1141] : Fin 1 → IVec S16 32) a x).toNat < S16384.size a)
theorem k0_idx366_inb : ∀ (v1141 : IVec S16 32) (k0_hw366 : k0_chk366 v1141), ∀ a x, ((![v1141] : Fin 1 → IVec S16 32) a x).toNat < S16384.size a := fun v1141 k0_hw366 => k0_hw366

def k0_chk367 (v1144 : IVec S16 32) : Prop :=
  (∀ a x, ((![v1144] : Fin 1 → IVec S16 32) a x).toNat < S16384.size a)
theorem k0_idx367_inb : ∀ (v1144 : IVec S16 32) (k0_hw367 : k0_chk367 v1144), ∀ a x, ((![v1144] : Fin 1 → IVec S16 32) a x).toNat < S16384.size a := fun v1144 k0_hw367 => k0_hw367

def k0_chk368 (v1147 : IVec S16 32) : Prop :=
  (∀ a x, ((![v1147] : Fin 1 → IVec S16 32) a x).toNat < S16384.size a)
theorem k0_idx368_inb : ∀ (v1147 : IVec S16 32) (k0_hw368 : k0_chk368 v1147), ∀ a x, ((![v1147] : Fin 1 → IVec S16 32) a x).toNat < S16384.size a := fun v1147 k0_hw368 => k0_hw368

def k0_chk369 (v1150 : IVec S16 32) : Prop :=
  (∀ a x, ((![v1150] : Fin 1 → IVec S16 32) a x).toNat < S16384.size a)
theorem k0_idx369_inb : ∀ (v1150 : IVec S16 32) (k0_hw369 : k0_chk369 v1150), ∀ a x, ((![v1150] : Fin 1 → IVec S16 32) a x).toNat < S16384.size a := fun v1150 k0_hw369 => k0_hw369

def k0_chk370 (v1153 : IVec S16 32) : Prop :=
  (∀ a x, ((![v1153] : Fin 1 → IVec S16 32) a x).toNat < S16384.size a)
theorem k0_idx370_inb : ∀ (v1153 : IVec S16 32) (k0_hw370 : k0_chk370 v1153), ∀ a x, ((![v1153] : Fin 1 → IVec S16 32) a x).toNat < S16384.size a := fun v1153 k0_hw370 => k0_hw370

def k0_chk371 (v1156 : IVec S16 32) : Prop :=
  (∀ a x, ((![v1156] : Fin 1 → IVec S16 32) a x).toNat < S16384.size a)
theorem k0_idx371_inb : ∀ (v1156 : IVec S16 32) (k0_hw371 : k0_chk371 v1156), ∀ a x, ((![v1156] : Fin 1 → IVec S16 32) a x).toNat < S16384.size a := fun v1156 k0_hw371 => k0_hw371

def k0_chk372 (v1159 : IVec S16 32) : Prop :=
  (∀ a x, ((![v1159] : Fin 1 → IVec S16 32) a x).toNat < S16384.size a)
theorem k0_idx372_inb : ∀ (v1159 : IVec S16 32) (k0_hw372 : k0_chk372 v1159), ∀ a x, ((![v1159] : Fin 1 → IVec S16 32) a x).toNat < S16384.size a := fun v1159 k0_hw372 => k0_hw372

def k0_chk373 (v1162 : IVec S16 32) : Prop :=
  (∀ a x, ((![v1162] : Fin 1 → IVec S16 32) a x).toNat < S16384.size a)
theorem k0_idx373_inb : ∀ (v1162 : IVec S16 32) (k0_hw373 : k0_chk373 v1162), ∀ a x, ((![v1162] : Fin 1 → IVec S16 32) a x).toNat < S16384.size a := fun v1162 k0_hw373 => k0_hw373

def k0_chk374 (v1165 : IVec S16 32) : Prop :=
  (∀ a x, ((![v1165] : Fin 1 → IVec S16 32) a x).toNat < S16384.size a)
theorem k0_idx374_inb : ∀ (v1165 : IVec S16 32) (k0_hw374 : k0_chk374 v1165), ∀ a x, ((![v1165] : Fin 1 → IVec S16 32) a x).toNat < S16384.size a := fun v1165 k0_hw374 => k0_hw374

def k0_chk375 (v1168 : IVec S16 32) : Prop :=
  (∀ a x, ((![v1168] : Fin 1 → IVec S16 32) a x).toNat < S16384.size a)
theorem k0_idx375_inb : ∀ (v1168 : IVec S16 32) (k0_hw375 : k0_chk375 v1168), ∀ a x, ((![v1168] : Fin 1 → IVec S16 32) a x).toNat < S16384.size a := fun v1168 k0_hw375 => k0_hw375

def k0_chk376 (v1171 : IVec S16 32) : Prop :=
  (∀ a x, ((![v1171] : Fin 1 → IVec S16 32) a x).toNat < S16384.size a)
theorem k0_idx376_inb : ∀ (v1171 : IVec S16 32) (k0_hw376 : k0_chk376 v1171), ∀ a x, ((![v1171] : Fin 1 → IVec S16 32) a x).toNat < S16384.size a := fun v1171 k0_hw376 => k0_hw376

def k0_chk377 (v1174 : IVec S16 32) : Prop :=
  (∀ a x, ((![v1174] : Fin 1 → IVec S16 32) a x).toNat < S16384.size a)
theorem k0_idx377_inb : ∀ (v1174 : IVec S16 32) (k0_hw377 : k0_chk377 v1174), ∀ a x, ((![v1174] : Fin 1 → IVec S16 32) a x).toNat < S16384.size a := fun v1174 k0_hw377 => k0_hw377

def k0_chk378 (v1177 : IVec S16 32) : Prop :=
  (∀ a x, ((![v1177] : Fin 1 → IVec S16 32) a x).toNat < S16384.size a)
theorem k0_idx378_inb : ∀ (v1177 : IVec S16 32) (k0_hw378 : k0_chk378 v1177), ∀ a x, ((![v1177] : Fin 1 → IVec S16 32) a x).toNat < S16384.size a := fun v1177 k0_hw378 => k0_hw378

def k0_chk379 (v1180 : IVec S16 32) : Prop :=
  (∀ a x, ((![v1180] : Fin 1 → IVec S16 32) a x).toNat < S16384.size a)
theorem k0_idx379_inb : ∀ (v1180 : IVec S16 32) (k0_hw379 : k0_chk379 v1180), ∀ a x, ((![v1180] : Fin 1 → IVec S16 32) a x).toNat < S16384.size a := fun v1180 k0_hw379 => k0_hw379

def k0_chk380 (v1183 : IVec S16 32) : Prop :=
  (∀ a x, ((![v1183] : Fin 1 → IVec S16 32) a x).toNat < S16384.size a)
theorem k0_idx380_inb : ∀ (v1183 : IVec S16 32) (k0_hw380 : k0_chk380 v1183), ∀ a x, ((![v1183] : Fin 1 → IVec S16 32) a x).toNat < S16384.size a := fun v1183 k0_hw380 => k0_hw380

def k0_chk381 (v1186 : IVec S16 32) : Prop :=
  (∀ a x, ((![v1186] : Fin 1 → IVec S16 32) a x).toNat < S16384.size a)
theorem k0_idx381_inb : ∀ (v1186 : IVec S16 32) (k0_hw381 : k0_chk381 v1186), ∀ a x, ((![v1186] : Fin 1 → IVec S16 32) a x).toNat < S16384.size a := fun v1186 k0_hw381 => k0_hw381

def k0_chk382 (v1189 : IVec S16 32) : Prop :=
  (∀ a x, ((![v1189] : Fin 1 → IVec S16 32) a x).toNat < S16384.size a)
theorem k0_idx382_inb : ∀ (v1189 : IVec S16 32) (k0_hw382 : k0_chk382 v1189), ∀ a x, ((![v1189] : Fin 1 → IVec S16 32) a x).toNat < S16384.size a := fun v1189 k0_hw382 => k0_hw382

def k0_chk383 (v1192 : IVec S16 32) : Prop :=
  (∀ a x, ((![v1192] : Fin 1 → IVec S16 32) a x).toNat < S16384.size a)
theorem k0_idx383_inb : ∀ (v1192 : IVec S16 32) (k0_hw383 : k0_chk383 v1192), ∀ a x, ((![v1192] : Fin 1 → IVec S16 32) a x).toNat < S16384.size a := fun v1192 k0_hw383 => k0_hw383

def k0_chk384 (v1195 : IVec S16 32) : Prop :=
  (∀ a x, ((![v1195] : Fin 1 → IVec S16 32) a x).toNat < S16384.size a)
theorem k0_idx384_inb : ∀ (v1195 : IVec S16 32) (k0_hw384 : k0_chk384 v1195), ∀ a x, ((![v1195] : Fin 1 → IVec S16 32) a x).toNat < S16384.size a := fun v1195 k0_hw384 => k0_hw384

def k0_chk385 (v1198 : IVec S16 32) : Prop :=
  (∀ a x, ((![v1198] : Fin 1 → IVec S16 32) a x).toNat < S16384.size a)
theorem k0_idx385_inb : ∀ (v1198 : IVec S16 32) (k0_hw385 : k0_chk385 v1198), ∀ a x, ((![v1198] : Fin 1 → IVec S16 32) a x).toNat < S16384.size a := fun v1198 k0_hw385 => k0_hw385

def k0_chk386 (v1201 : IVec S16 32) : Prop :=
  (∀ a x, ((![v1201] : Fin 1 → IVec S16 32) a x).toNat < S16384.size a)
theorem k0_idx386_inb : ∀ (v1201 : IVec S16 32) (k0_hw386 : k0_chk386 v1201), ∀ a x, ((![v1201] : Fin 1 → IVec S16 32) a x).toNat < S16384.size a := fun v1201 k0_hw386 => k0_hw386

def k0_chk387 (v1204 : IVec S16 32) : Prop :=
  (∀ a x, ((![v1204] : Fin 1 → IVec S16 32) a x).toNat < S16384.size a)
theorem k0_idx387_inb : ∀ (v1204 : IVec S16 32) (k0_hw387 : k0_chk387 v1204), ∀ a x, ((![v1204] : Fin 1 → IVec S16 32) a x).toNat < S16384.size a := fun v1204 k0_hw387 => k0_hw387

def k0_chk388 (v1207 : IVec S16 32) : Prop :=
  (∀ a x, ((![v1207] : Fin 1 → IVec S16 32) a x).toNat < S16384.size a)
theorem k0_idx388_inb : ∀ (v1207 : IVec S16 32) (k0_hw388 : k0_chk388 v1207), ∀ a x, ((![v1207] : Fin 1 → IVec S16 32) a x).toNat < S16384.size a := fun v1207 k0_hw388 => k0_hw388

def k0_chk389 (v1210 : IVec S16 32) : Prop :=
  (∀ a x, ((![v1210] : Fin 1 → IVec S16 32) a x).toNat < S16384.size a)
theorem k0_idx389_inb : ∀ (v1210 : IVec S16 32) (k0_hw389 : k0_chk389 v1210), ∀ a x, ((![v1210] : Fin 1 → IVec S16 32) a x).toNat < S16384.size a := fun v1210 k0_hw389 => k0_hw389

def k0_chk390 (v1213 : IVec S16 32) : Prop :=
  (∀ a x, ((![v1213] : Fin 1 → IVec S16 32) a x).toNat < S16384.size a)
theorem k0_idx390_inb : ∀ (v1213 : IVec S16 32) (k0_hw390 : k0_chk390 v1213), ∀ a x, ((![v1213] : Fin 1 → IVec S16 32) a x).toNat < S16384.size a := fun v1213 k0_hw390 => k0_hw390

def k0_chk391 (v1216 : IVec S16 32) : Prop :=
  (∀ a x, ((![v1216] : Fin 1 → IVec S16 32) a x).toNat < S16384.size a)
theorem k0_idx391_inb : ∀ (v1216 : IVec S16 32) (k0_hw391 : k0_chk391 v1216), ∀ a x, ((![v1216] : Fin 1 → IVec S16 32) a x).toNat < S16384.size a := fun v1216 k0_hw391 => k0_hw391

def k0_chk392 (v1219 : IVec S16 32) : Prop :=
  (∀ a x, ((![v1219] : Fin 1 → IVec S16 32) a x).toNat < S16384.size a)
theorem k0_idx392_inb : ∀ (v1219 : IVec S16 32) (k0_hw392 : k0_chk392 v1219), ∀ a x, ((![v1219] : Fin 1 → IVec S16 32) a x).toNat < S16384.size a := fun v1219 k0_hw392 => k0_hw392

def k0_chk393 (v1222 : IVec S16 32) : Prop :=
  (∀ a x, ((![v1222] : Fin 1 → IVec S16 32) a x).toNat < S16384.size a)
theorem k0_idx393_inb : ∀ (v1222 : IVec S16 32) (k0_hw393 : k0_chk393 v1222), ∀ a x, ((![v1222] : Fin 1 → IVec S16 32) a x).toNat < S16384.size a := fun v1222 k0_hw393 => k0_hw393

def k0_chk394 (v1225 : IVec S16 32) : Prop :=
  (∀ a x, ((![v1225] : Fin 1 → IVec S16 32) a x).toNat < S16384.size a)
theorem k0_idx394_inb : ∀ (v1225 : IVec S16 32) (k0_hw394 : k0_chk394 v1225), ∀ a x, ((![v1225] : Fin 1 → IVec S16 32) a x).toNat < S16384.size a := fun v1225 k0_hw394 => k0_hw394

def k0_chk395 (v1228 : IVec S16 32) : Prop :=
  (∀ a x, ((![v1228] : Fin 1 → IVec S16 32) a x).toNat < S16384.size a)
theorem k0_idx395_inb : ∀ (v1228 : IVec S16 32) (k0_hw395 : k0_chk395 v1228), ∀ a x, ((![v1228] : Fin 1 → IVec S16 32) a x).toNat < S16384.size a := fun v1228 k0_hw395 => k0_hw395

def k0_chk396 (v1231 : IVec S16 32) : Prop :=
  (∀ a x, ((![v1231] : Fin 1 → IVec S16 32) a x).toNat < S16384.size a)
theorem k0_idx396_inb : ∀ (v1231 : IVec S16 32) (k0_hw396 : k0_chk396 v1231), ∀ a x, ((![v1231] : Fin 1 → IVec S16 32) a x).toNat < S16384.size a := fun v1231 k0_hw396 => k0_hw396

def k0_chk397 (v1234 : IVec S16 32) : Prop :=
  (∀ a x, ((![v1234] : Fin 1 → IVec S16 32) a x).toNat < S16384.size a)
theorem k0_idx397_inb : ∀ (v1234 : IVec S16 32) (k0_hw397 : k0_chk397 v1234), ∀ a x, ((![v1234] : Fin 1 → IVec S16 32) a x).toNat < S16384.size a := fun v1234 k0_hw397 => k0_hw397

def k0_chk398 (v1237 : IVec S16 32) : Prop :=
  (∀ a x, ((![v1237] : Fin 1 → IVec S16 32) a x).toNat < S16384.size a)
theorem k0_idx398_inb : ∀ (v1237 : IVec S16 32) (k0_hw398 : k0_chk398 v1237), ∀ a x, ((![v1237] : Fin 1 → IVec S16 32) a x).toNat < S16384.size a := fun v1237 k0_hw398 => k0_hw398

def k0_chk399 (v1240 : IVec S16 32) : Prop :=
  (∀ a x, ((![v1240] : Fin 1 → IVec S16 32) a x).toNat < S16384.size a)
theorem k0_idx399_inb : ∀ (v1240 : IVec S16 32) (k0_hw399 : k0_chk399 v1240), ∀ a x, ((![v1240] : Fin 1 → IVec S16 32) a x).toNat < S16384.size a := fun v1240 k0_hw399 => k0_hw399

def k0_chk400 (v1243 : IVec S16 32) : Prop :=
  (∀ a x, ((![v1243] : Fin 1 → IVec S16 32) a x).toNat < S16384.size a)
theorem k0_idx400_inb : ∀ (v1243 : IVec S16 32) (k0_hw400 : k0_chk400 v1243), ∀ a x, ((![v1243] : Fin 1 → IVec S16 32) a x).toNat < S16384.size a := fun v1243 k0_hw400 => k0_hw400

def k0_chk401 (v1246 : IVec S16 32) : Prop :=
  (∀ a x, ((![v1246] : Fin 1 → IVec S16 32) a x).toNat < S16384.size a)
theorem k0_idx401_inb : ∀ (v1246 : IVec S16 32) (k0_hw401 : k0_chk401 v1246), ∀ a x, ((![v1246] : Fin 1 → IVec S16 32) a x).toNat < S16384.size a := fun v1246 k0_hw401 => k0_hw401

def k0_chk402 (v1249 : IVec S16 32) : Prop :=
  (∀ a x, ((![v1249] : Fin 1 → IVec S16 32) a x).toNat < S16384.size a)
theorem k0_idx402_inb : ∀ (v1249 : IVec S16 32) (k0_hw402 : k0_chk402 v1249), ∀ a x, ((![v1249] : Fin 1 → IVec S16 32) a x).toNat < S16384.size a := fun v1249 k0_hw402 => k0_hw402

def k0_chk403 (v1252 : IVec S16 32) : Prop :=
  (∀ a x, ((![v1252] : Fin 1 → IVec S16 32) a x).toNat < S16384.size a)
theorem k0_idx403_inb : ∀ (v1252 : IVec S16 32) (k0_hw403 : k0_chk403 v1252), ∀ a x, ((![v1252] : Fin 1 → IVec S16 32) a x).toNat < S16384.size a := fun v1252 k0_hw403 => k0_hw403

def k0_chk404 (v1255 : IVec S16 32) : Prop :=
  (∀ a x, ((![v1255] : Fin 1 → IVec S16 32) a x).toNat < S16384.size a)
theorem k0_idx404_inb : ∀ (v1255 : IVec S16 32) (k0_hw404 : k0_chk404 v1255), ∀ a x, ((![v1255] : Fin 1 → IVec S16 32) a x).toNat < S16384.size a := fun v1255 k0_hw404 => k0_hw404

def k0_chk405 (v1258 : IVec S16 32) : Prop :=
  (∀ a x, ((![v1258] : Fin 1 → IVec S16 32) a x).toNat < S16384.size a)
theorem k0_idx405_inb : ∀ (v1258 : IVec S16 32) (k0_hw405 : k0_chk405 v1258), ∀ a x, ((![v1258] : Fin 1 → IVec S16 32) a x).toNat < S16384.size a := fun v1258 k0_hw405 => k0_hw405

def k0_chk406 (v1261 : IVec S16 32) : Prop :=
  (∀ a x, ((![v1261] : Fin 1 → IVec S16 32) a x).toNat < S16384.size a)
theorem k0_idx406_inb : ∀ (v1261 : IVec S16 32) (k0_hw406 : k0_chk406 v1261), ∀ a x, ((![v1261] : Fin 1 → IVec S16 32) a x).toNat < S16384.size a := fun v1261 k0_hw406 => k0_hw406

def k0_chk407 (v1264 : IVec S16 32) : Prop :=
  (∀ a x, ((![v1264] : Fin 1 → IVec S16 32) a x).toNat < S16384.size a)
theorem k0_idx407_inb : ∀ (v1264 : IVec S16 32) (k0_hw407 : k0_chk407 v1264), ∀ a x, ((![v1264] : Fin 1 → IVec S16 32) a x).toNat < S16384.size a := fun v1264 k0_hw407 => k0_hw407

def k0_chk408 (v1267 : IVec S16 32) : Prop :=
  (∀ a x, ((![v1267] : Fin 1 → IVec S16 32) a x).toNat < S16384.size a)
theorem k0_idx408_inb : ∀ (v1267 : IVec S16 32) (k0_hw408 : k0_chk408 v1267), ∀ a x, ((![v1267] : Fin 1 → IVec S16 32) a x).toNat < S16384.size a := fun v1267 k0_hw408 => k0_hw408

def k0_chk409 (v1270 : IVec S16 32) : Prop :=
  (∀ a x, ((![v1270] : Fin 1 → IVec S16 32) a x).toNat < S16384.size a)
theorem k0_idx409_inb : ∀ (v1270 : IVec S16 32) (k0_hw409 : k0_chk409 v1270), ∀ a x, ((![v1270] : Fin 1 → IVec S16 32) a x).toNat < S16384.size a := fun v1270 k0_hw409 => k0_hw409

def k0_chk410 (v1273 : IVec S16 32) : Prop :=
  (∀ a x, ((![v1273] : Fin 1 → IVec S16 32) a x).toNat < S16384.size a)
theorem k0_idx410_inb : ∀ (v1273 : IVec S16 32) (k0_hw410 : k0_chk410 v1273), ∀ a x, ((![v1273] : Fin 1 → IVec S16 32) a x).toNat < S16384.size a := fun v1273 k0_hw410 => k0_hw410

def k0_chk411 (v1276 : IVec S16 32) : Prop :=
  (∀ a x, ((![v1276] : Fin 1 → IVec S16 32) a x).toNat < S16384.size a)
theorem k0_idx411_inb : ∀ (v1276 : IVec S16 32) (k0_hw411 : k0_chk411 v1276), ∀ a x, ((![v1276] : Fin 1 → IVec S16 32) a x).toNat < S16384.size a := fun v1276 k0_hw411 => k0_hw411

def k0_chk412 (v1279 : IVec S16 32) : Prop :=
  (∀ a x, ((![v1279] : Fin 1 → IVec S16 32) a x).toNat < S16384.size a)
theorem k0_idx412_inb : ∀ (v1279 : IVec S16 32) (k0_hw412 : k0_chk412 v1279), ∀ a x, ((![v1279] : Fin 1 → IVec S16 32) a x).toNat < S16384.size a := fun v1279 k0_hw412 => k0_hw412

def k0_chk413 (v1282 : IVec S16 32) : Prop :=
  (∀ a x, ((![v1282] : Fin 1 → IVec S16 32) a x).toNat < S16384.size a)
theorem k0_idx413_inb : ∀ (v1282 : IVec S16 32) (k0_hw413 : k0_chk413 v1282), ∀ a x, ((![v1282] : Fin 1 → IVec S16 32) a x).toNat < S16384.size a := fun v1282 k0_hw413 => k0_hw413

def k0_chk414 (v1285 : IVec S16 32) : Prop :=
  (∀ a x, ((![v1285] : Fin 1 → IVec S16 32) a x).toNat < S16384.size a)
theorem k0_idx414_inb : ∀ (v1285 : IVec S16 32) (k0_hw414 : k0_chk414 v1285), ∀ a x, ((![v1285] : Fin 1 → IVec S16 32) a x).toNat < S16384.size a := fun v1285 k0_hw414 => k0_hw414

def k0_chk415 (v1288 : IVec S16 32) : Prop :=
  (∀ a x, ((![v1288] : Fin 1 → IVec S16 32) a x).toNat < S16384.size a)
theorem k0_idx415_inb : ∀ (v1288 : IVec S16 32) (k0_hw415 : k0_chk415 v1288), ∀ a x, ((![v1288] : Fin 1 → IVec S16 32) a x).toNat < S16384.size a := fun v1288 k0_hw415 => k0_hw415

def k0_chk416 (v1291 : IVec S16 32) : Prop :=
  (∀ a x, ((![v1291] : Fin 1 → IVec S16 32) a x).toNat < S16384.size a)
theorem k0_idx416_inb : ∀ (v1291 : IVec S16 32) (k0_hw416 : k0_chk416 v1291), ∀ a x, ((![v1291] : Fin 1 → IVec S16 32) a x).toNat < S16384.size a := fun v1291 k0_hw416 => k0_hw416
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32 : BitVec 32 := 48#32
  let v1292 : BitVec 32 := Scalar.addi v2 c48_i32
  let c2048_i32_612 : BitVec 32 := 2048#32
  let v1293 : BitVec 32 := Scalar.muli v1292 c2048_i32_612
  ![v1293.toNat]

def k0_chk417 (v1300 : IVec S16 32) : Prop :=
  (∀ a x, ((![v1300] : Fin 1 → IVec S16 32) a x).toNat < S16384.size a)
theorem k0_idx417_inb : ∀ (v1300 : IVec S16 32) (k0_hw417 : k0_chk417 v1300), ∀ a x, ((![v1300] : Fin 1 → IVec S16 32) a x).toNat < S16384.size a := fun v1300 k0_hw417 => k0_hw417

def k0_chk418 (v1303 : IVec S16 32) : Prop :=
  (∀ a x, ((![v1303] : Fin 1 → IVec S16 32) a x).toNat < S16384.size a)
theorem k0_idx418_inb : ∀ (v1303 : IVec S16 32) (k0_hw418 : k0_chk418 v1303), ∀ a x, ((![v1303] : Fin 1 → IVec S16 32) a x).toNat < S16384.size a := fun v1303 k0_hw418 => k0_hw418

def k0_chk419 (v1306 : IVec S16 32) : Prop :=
  (∀ a x, ((![v1306] : Fin 1 → IVec S16 32) a x).toNat < S16384.size a)
theorem k0_idx419_inb : ∀ (v1306 : IVec S16 32) (k0_hw419 : k0_chk419 v1306), ∀ a x, ((![v1306] : Fin 1 → IVec S16 32) a x).toNat < S16384.size a := fun v1306 k0_hw419 => k0_hw419

def k0_chk420 (v1309 : IVec S16 32) : Prop :=
  (∀ a x, ((![v1309] : Fin 1 → IVec S16 32) a x).toNat < S16384.size a)
theorem k0_idx420_inb : ∀ (v1309 : IVec S16 32) (k0_hw420 : k0_chk420 v1309), ∀ a x, ((![v1309] : Fin 1 → IVec S16 32) a x).toNat < S16384.size a := fun v1309 k0_hw420 => k0_hw420

def k0_chk421 (v1312 : IVec S16 32) : Prop :=
  (∀ a x, ((![v1312] : Fin 1 → IVec S16 32) a x).toNat < S16384.size a)
theorem k0_idx421_inb : ∀ (v1312 : IVec S16 32) (k0_hw421 : k0_chk421 v1312), ∀ a x, ((![v1312] : Fin 1 → IVec S16 32) a x).toNat < S16384.size a := fun v1312 k0_hw421 => k0_hw421

def k0_chk422 (v1315 : IVec S16 32) : Prop :=
  (∀ a x, ((![v1315] : Fin 1 → IVec S16 32) a x).toNat < S16384.size a)
theorem k0_idx422_inb : ∀ (v1315 : IVec S16 32) (k0_hw422 : k0_chk422 v1315), ∀ a x, ((![v1315] : Fin 1 → IVec S16 32) a x).toNat < S16384.size a := fun v1315 k0_hw422 => k0_hw422

def k0_chk423 (v1318 : IVec S16 32) : Prop :=
  (∀ a x, ((![v1318] : Fin 1 → IVec S16 32) a x).toNat < S16384.size a)
theorem k0_idx423_inb : ∀ (v1318 : IVec S16 32) (k0_hw423 : k0_chk423 v1318), ∀ a x, ((![v1318] : Fin 1 → IVec S16 32) a x).toNat < S16384.size a := fun v1318 k0_hw423 => k0_hw423

def k0_chk424 (v1321 : IVec S16 32) : Prop :=
  (∀ a x, ((![v1321] : Fin 1 → IVec S16 32) a x).toNat < S16384.size a)
theorem k0_idx424_inb : ∀ (v1321 : IVec S16 32) (k0_hw424 : k0_chk424 v1321), ∀ a x, ((![v1321] : Fin 1 → IVec S16 32) a x).toNat < S16384.size a := fun v1321 k0_hw424 => k0_hw424

def k0_chk425 (v1324 : IVec S16 32) : Prop :=
  (∀ a x, ((![v1324] : Fin 1 → IVec S16 32) a x).toNat < S16384.size a)
theorem k0_idx425_inb : ∀ (v1324 : IVec S16 32) (k0_hw425 : k0_chk425 v1324), ∀ a x, ((![v1324] : Fin 1 → IVec S16 32) a x).toNat < S16384.size a := fun v1324 k0_hw425 => k0_hw425

def k0_chk426 (v1327 : IVec S16 32) : Prop :=
  (∀ a x, ((![v1327] : Fin 1 → IVec S16 32) a x).toNat < S16384.size a)
theorem k0_idx426_inb : ∀ (v1327 : IVec S16 32) (k0_hw426 : k0_chk426 v1327), ∀ a x, ((![v1327] : Fin 1 → IVec S16 32) a x).toNat < S16384.size a := fun v1327 k0_hw426 => k0_hw426

def k0_chk427 (v1330 : IVec S16 32) : Prop :=
  (∀ a x, ((![v1330] : Fin 1 → IVec S16 32) a x).toNat < S16384.size a)
theorem k0_idx427_inb : ∀ (v1330 : IVec S16 32) (k0_hw427 : k0_chk427 v1330), ∀ a x, ((![v1330] : Fin 1 → IVec S16 32) a x).toNat < S16384.size a := fun v1330 k0_hw427 => k0_hw427

def k0_chk428 (v1333 : IVec S16 32) : Prop :=
  (∀ a x, ((![v1333] : Fin 1 → IVec S16 32) a x).toNat < S16384.size a)
theorem k0_idx428_inb : ∀ (v1333 : IVec S16 32) (k0_hw428 : k0_chk428 v1333), ∀ a x, ((![v1333] : Fin 1 → IVec S16 32) a x).toNat < S16384.size a := fun v1333 k0_hw428 => k0_hw428

def k0_chk429 (v1336 : IVec S16 32) : Prop :=
  (∀ a x, ((![v1336] : Fin 1 → IVec S16 32) a x).toNat < S16384.size a)
theorem k0_idx429_inb : ∀ (v1336 : IVec S16 32) (k0_hw429 : k0_chk429 v1336), ∀ a x, ((![v1336] : Fin 1 → IVec S16 32) a x).toNat < S16384.size a := fun v1336 k0_hw429 => k0_hw429

def k0_chk430 (v1339 : IVec S16 32) : Prop :=
  (∀ a x, ((![v1339] : Fin 1 → IVec S16 32) a x).toNat < S16384.size a)
theorem k0_idx430_inb : ∀ (v1339 : IVec S16 32) (k0_hw430 : k0_chk430 v1339), ∀ a x, ((![v1339] : Fin 1 → IVec S16 32) a x).toNat < S16384.size a := fun v1339 k0_hw430 => k0_hw430

def k0_chk431 (v1342 : IVec S16 32) : Prop :=
  (∀ a x, ((![v1342] : Fin 1 → IVec S16 32) a x).toNat < S16384.size a)
theorem k0_idx431_inb : ∀ (v1342 : IVec S16 32) (k0_hw431 : k0_chk431 v1342), ∀ a x, ((![v1342] : Fin 1 → IVec S16 32) a x).toNat < S16384.size a := fun v1342 k0_hw431 => k0_hw431

def k0_chk432 (v1345 : IVec S16 32) : Prop :=
  (∀ a x, ((![v1345] : Fin 1 → IVec S16 32) a x).toNat < S16384.size a)
theorem k0_idx432_inb : ∀ (v1345 : IVec S16 32) (k0_hw432 : k0_chk432 v1345), ∀ a x, ((![v1345] : Fin 1 → IVec S16 32) a x).toNat < S16384.size a := fun v1345 k0_hw432 => k0_hw432

def k0_chk433 (v1348 : IVec S16 32) : Prop :=
  (∀ a x, ((![v1348] : Fin 1 → IVec S16 32) a x).toNat < S16384.size a)
theorem k0_idx433_inb : ∀ (v1348 : IVec S16 32) (k0_hw433 : k0_chk433 v1348), ∀ a x, ((![v1348] : Fin 1 → IVec S16 32) a x).toNat < S16384.size a := fun v1348 k0_hw433 => k0_hw433

def k0_chk434 (v1351 : IVec S16 32) : Prop :=
  (∀ a x, ((![v1351] : Fin 1 → IVec S16 32) a x).toNat < S16384.size a)
theorem k0_idx434_inb : ∀ (v1351 : IVec S16 32) (k0_hw434 : k0_chk434 v1351), ∀ a x, ((![v1351] : Fin 1 → IVec S16 32) a x).toNat < S16384.size a := fun v1351 k0_hw434 => k0_hw434

def k0_chk435 (v1354 : IVec S16 32) : Prop :=
  (∀ a x, ((![v1354] : Fin 1 → IVec S16 32) a x).toNat < S16384.size a)
theorem k0_idx435_inb : ∀ (v1354 : IVec S16 32) (k0_hw435 : k0_chk435 v1354), ∀ a x, ((![v1354] : Fin 1 → IVec S16 32) a x).toNat < S16384.size a := fun v1354 k0_hw435 => k0_hw435

def k0_chk436 (v1357 : IVec S16 32) : Prop :=
  (∀ a x, ((![v1357] : Fin 1 → IVec S16 32) a x).toNat < S16384.size a)
theorem k0_idx436_inb : ∀ (v1357 : IVec S16 32) (k0_hw436 : k0_chk436 v1357), ∀ a x, ((![v1357] : Fin 1 → IVec S16 32) a x).toNat < S16384.size a := fun v1357 k0_hw436 => k0_hw436

def k0_chk437 (v1360 : IVec S16 32) : Prop :=
  (∀ a x, ((![v1360] : Fin 1 → IVec S16 32) a x).toNat < S16384.size a)
theorem k0_idx437_inb : ∀ (v1360 : IVec S16 32) (k0_hw437 : k0_chk437 v1360), ∀ a x, ((![v1360] : Fin 1 → IVec S16 32) a x).toNat < S16384.size a := fun v1360 k0_hw437 => k0_hw437

def k0_chk438 (v1363 : IVec S16 32) : Prop :=
  (∀ a x, ((![v1363] : Fin 1 → IVec S16 32) a x).toNat < S16384.size a)
theorem k0_idx438_inb : ∀ (v1363 : IVec S16 32) (k0_hw438 : k0_chk438 v1363), ∀ a x, ((![v1363] : Fin 1 → IVec S16 32) a x).toNat < S16384.size a := fun v1363 k0_hw438 => k0_hw438

def k0_chk439 (v1366 : IVec S16 32) : Prop :=
  (∀ a x, ((![v1366] : Fin 1 → IVec S16 32) a x).toNat < S16384.size a)
theorem k0_idx439_inb : ∀ (v1366 : IVec S16 32) (k0_hw439 : k0_chk439 v1366), ∀ a x, ((![v1366] : Fin 1 → IVec S16 32) a x).toNat < S16384.size a := fun v1366 k0_hw439 => k0_hw439

def k0_chk440 (v1369 : IVec S16 32) : Prop :=
  (∀ a x, ((![v1369] : Fin 1 → IVec S16 32) a x).toNat < S16384.size a)
theorem k0_idx440_inb : ∀ (v1369 : IVec S16 32) (k0_hw440 : k0_chk440 v1369), ∀ a x, ((![v1369] : Fin 1 → IVec S16 32) a x).toNat < S16384.size a := fun v1369 k0_hw440 => k0_hw440

def k0_chk441 (v1372 : IVec S16 32) : Prop :=
  (∀ a x, ((![v1372] : Fin 1 → IVec S16 32) a x).toNat < S16384.size a)
theorem k0_idx441_inb : ∀ (v1372 : IVec S16 32) (k0_hw441 : k0_chk441 v1372), ∀ a x, ((![v1372] : Fin 1 → IVec S16 32) a x).toNat < S16384.size a := fun v1372 k0_hw441 => k0_hw441

def k0_chk442 (v1375 : IVec S16 32) : Prop :=
  (∀ a x, ((![v1375] : Fin 1 → IVec S16 32) a x).toNat < S16384.size a)
theorem k0_idx442_inb : ∀ (v1375 : IVec S16 32) (k0_hw442 : k0_chk442 v1375), ∀ a x, ((![v1375] : Fin 1 → IVec S16 32) a x).toNat < S16384.size a := fun v1375 k0_hw442 => k0_hw442

def k0_chk443 (v1378 : IVec S16 32) : Prop :=
  (∀ a x, ((![v1378] : Fin 1 → IVec S16 32) a x).toNat < S16384.size a)
theorem k0_idx443_inb : ∀ (v1378 : IVec S16 32) (k0_hw443 : k0_chk443 v1378), ∀ a x, ((![v1378] : Fin 1 → IVec S16 32) a x).toNat < S16384.size a := fun v1378 k0_hw443 => k0_hw443

def k0_chk444 (v1381 : IVec S16 32) : Prop :=
  (∀ a x, ((![v1381] : Fin 1 → IVec S16 32) a x).toNat < S16384.size a)
theorem k0_idx444_inb : ∀ (v1381 : IVec S16 32) (k0_hw444 : k0_chk444 v1381), ∀ a x, ((![v1381] : Fin 1 → IVec S16 32) a x).toNat < S16384.size a := fun v1381 k0_hw444 => k0_hw444

def k0_chk445 (v1384 : IVec S16 32) : Prop :=
  (∀ a x, ((![v1384] : Fin 1 → IVec S16 32) a x).toNat < S16384.size a)
theorem k0_idx445_inb : ∀ (v1384 : IVec S16 32) (k0_hw445 : k0_chk445 v1384), ∀ a x, ((![v1384] : Fin 1 → IVec S16 32) a x).toNat < S16384.size a := fun v1384 k0_hw445 => k0_hw445

def k0_chk446 (v1387 : IVec S16 32) : Prop :=
  (∀ a x, ((![v1387] : Fin 1 → IVec S16 32) a x).toNat < S16384.size a)
theorem k0_idx446_inb : ∀ (v1387 : IVec S16 32) (k0_hw446 : k0_chk446 v1387), ∀ a x, ((![v1387] : Fin 1 → IVec S16 32) a x).toNat < S16384.size a := fun v1387 k0_hw446 => k0_hw446

def k0_chk447 (v1390 : IVec S16 32) : Prop :=
  (∀ a x, ((![v1390] : Fin 1 → IVec S16 32) a x).toNat < S16384.size a)
theorem k0_idx447_inb : ∀ (v1390 : IVec S16 32) (k0_hw447 : k0_chk447 v1390), ∀ a x, ((![v1390] : Fin 1 → IVec S16 32) a x).toNat < S16384.size a := fun v1390 k0_hw447 => k0_hw447

def k0_chk448 (v1393 : IVec S16 32) : Prop :=
  (∀ a x, ((![v1393] : Fin 1 → IVec S16 32) a x).toNat < S16384.size a)
theorem k0_idx448_inb : ∀ (v1393 : IVec S16 32) (k0_hw448 : k0_chk448 v1393), ∀ a x, ((![v1393] : Fin 1 → IVec S16 32) a x).toNat < S16384.size a := fun v1393 k0_hw448 => k0_hw448

def k0_chk449 (v1396 : IVec S16 32) : Prop :=
  (∀ a x, ((![v1396] : Fin 1 → IVec S16 32) a x).toNat < S16384.size a)
theorem k0_idx449_inb : ∀ (v1396 : IVec S16 32) (k0_hw449 : k0_chk449 v1396), ∀ a x, ((![v1396] : Fin 1 → IVec S16 32) a x).toNat < S16384.size a := fun v1396 k0_hw449 => k0_hw449

def k0_chk450 (v1399 : IVec S16 32) : Prop :=
  (∀ a x, ((![v1399] : Fin 1 → IVec S16 32) a x).toNat < S16384.size a)
theorem k0_idx450_inb : ∀ (v1399 : IVec S16 32) (k0_hw450 : k0_chk450 v1399), ∀ a x, ((![v1399] : Fin 1 → IVec S16 32) a x).toNat < S16384.size a := fun v1399 k0_hw450 => k0_hw450

def k0_chk451 (v1402 : IVec S16 32) : Prop :=
  (∀ a x, ((![v1402] : Fin 1 → IVec S16 32) a x).toNat < S16384.size a)
theorem k0_idx451_inb : ∀ (v1402 : IVec S16 32) (k0_hw451 : k0_chk451 v1402), ∀ a x, ((![v1402] : Fin 1 → IVec S16 32) a x).toNat < S16384.size a := fun v1402 k0_hw451 => k0_hw451

def k0_chk452 (v1405 : IVec S16 32) : Prop :=
  (∀ a x, ((![v1405] : Fin 1 → IVec S16 32) a x).toNat < S16384.size a)
theorem k0_idx452_inb : ∀ (v1405 : IVec S16 32) (k0_hw452 : k0_chk452 v1405), ∀ a x, ((![v1405] : Fin 1 → IVec S16 32) a x).toNat < S16384.size a := fun v1405 k0_hw452 => k0_hw452

def k0_chk453 (v1408 : IVec S16 32) : Prop :=
  (∀ a x, ((![v1408] : Fin 1 → IVec S16 32) a x).toNat < S16384.size a)
theorem k0_idx453_inb : ∀ (v1408 : IVec S16 32) (k0_hw453 : k0_chk453 v1408), ∀ a x, ((![v1408] : Fin 1 → IVec S16 32) a x).toNat < S16384.size a := fun v1408 k0_hw453 => k0_hw453

def k0_chk454 (v1411 : IVec S16 32) : Prop :=
  (∀ a x, ((![v1411] : Fin 1 → IVec S16 32) a x).toNat < S16384.size a)
theorem k0_idx454_inb : ∀ (v1411 : IVec S16 32) (k0_hw454 : k0_chk454 v1411), ∀ a x, ((![v1411] : Fin 1 → IVec S16 32) a x).toNat < S16384.size a := fun v1411 k0_hw454 => k0_hw454

def k0_chk455 (v1414 : IVec S16 32) : Prop :=
  (∀ a x, ((![v1414] : Fin 1 → IVec S16 32) a x).toNat < S16384.size a)
theorem k0_idx455_inb : ∀ (v1414 : IVec S16 32) (k0_hw455 : k0_chk455 v1414), ∀ a x, ((![v1414] : Fin 1 → IVec S16 32) a x).toNat < S16384.size a := fun v1414 k0_hw455 => k0_hw455

def k0_chk456 (v1417 : IVec S16 32) : Prop :=
  (∀ a x, ((![v1417] : Fin 1 → IVec S16 32) a x).toNat < S16384.size a)
theorem k0_idx456_inb : ∀ (v1417 : IVec S16 32) (k0_hw456 : k0_chk456 v1417), ∀ a x, ((![v1417] : Fin 1 → IVec S16 32) a x).toNat < S16384.size a := fun v1417 k0_hw456 => k0_hw456

def k0_chk457 (v1420 : IVec S16 32) : Prop :=
  (∀ a x, ((![v1420] : Fin 1 → IVec S16 32) a x).toNat < S16384.size a)
theorem k0_idx457_inb : ∀ (v1420 : IVec S16 32) (k0_hw457 : k0_chk457 v1420), ∀ a x, ((![v1420] : Fin 1 → IVec S16 32) a x).toNat < S16384.size a := fun v1420 k0_hw457 => k0_hw457

def k0_chk458 (v1423 : IVec S16 32) : Prop :=
  (∀ a x, ((![v1423] : Fin 1 → IVec S16 32) a x).toNat < S16384.size a)
theorem k0_idx458_inb : ∀ (v1423 : IVec S16 32) (k0_hw458 : k0_chk458 v1423), ∀ a x, ((![v1423] : Fin 1 → IVec S16 32) a x).toNat < S16384.size a := fun v1423 k0_hw458 => k0_hw458

def k0_chk459 (v1426 : IVec S16 32) : Prop :=
  (∀ a x, ((![v1426] : Fin 1 → IVec S16 32) a x).toNat < S16384.size a)
theorem k0_idx459_inb : ∀ (v1426 : IVec S16 32) (k0_hw459 : k0_chk459 v1426), ∀ a x, ((![v1426] : Fin 1 → IVec S16 32) a x).toNat < S16384.size a := fun v1426 k0_hw459 => k0_hw459

def k0_chk460 (v1429 : IVec S16 32) : Prop :=
  (∀ a x, ((![v1429] : Fin 1 → IVec S16 32) a x).toNat < S16384.size a)
theorem k0_idx460_inb : ∀ (v1429 : IVec S16 32) (k0_hw460 : k0_chk460 v1429), ∀ a x, ((![v1429] : Fin 1 → IVec S16 32) a x).toNat < S16384.size a := fun v1429 k0_hw460 => k0_hw460

def k0_chk461 (v1432 : IVec S16 32) : Prop :=
  (∀ a x, ((![v1432] : Fin 1 → IVec S16 32) a x).toNat < S16384.size a)
theorem k0_idx461_inb : ∀ (v1432 : IVec S16 32) (k0_hw461 : k0_chk461 v1432), ∀ a x, ((![v1432] : Fin 1 → IVec S16 32) a x).toNat < S16384.size a := fun v1432 k0_hw461 => k0_hw461

def k0_chk462 (v1435 : IVec S16 32) : Prop :=
  (∀ a x, ((![v1435] : Fin 1 → IVec S16 32) a x).toNat < S16384.size a)
theorem k0_idx462_inb : ∀ (v1435 : IVec S16 32) (k0_hw462 : k0_chk462 v1435), ∀ a x, ((![v1435] : Fin 1 → IVec S16 32) a x).toNat < S16384.size a := fun v1435 k0_hw462 => k0_hw462

def k0_chk463 (v1438 : IVec S16 32) : Prop :=
  (∀ a x, ((![v1438] : Fin 1 → IVec S16 32) a x).toNat < S16384.size a)
theorem k0_idx463_inb : ∀ (v1438 : IVec S16 32) (k0_hw463 : k0_chk463 v1438), ∀ a x, ((![v1438] : Fin 1 → IVec S16 32) a x).toNat < S16384.size a := fun v1438 k0_hw463 => k0_hw463

def k0_chk464 (v1441 : IVec S16 32) : Prop :=
  (∀ a x, ((![v1441] : Fin 1 → IVec S16 32) a x).toNat < S16384.size a)
theorem k0_idx464_inb : ∀ (v1441 : IVec S16 32) (k0_hw464 : k0_chk464 v1441), ∀ a x, ((![v1441] : Fin 1 → IVec S16 32) a x).toNat < S16384.size a := fun v1441 k0_hw464 => k0_hw464

def k0_chk465 (v1444 : IVec S16 32) : Prop :=
  (∀ a x, ((![v1444] : Fin 1 → IVec S16 32) a x).toNat < S16384.size a)
theorem k0_idx465_inb : ∀ (v1444 : IVec S16 32) (k0_hw465 : k0_chk465 v1444), ∀ a x, ((![v1444] : Fin 1 → IVec S16 32) a x).toNat < S16384.size a := fun v1444 k0_hw465 => k0_hw465

def k0_chk466 (v1447 : IVec S16 32) : Prop :=
  (∀ a x, ((![v1447] : Fin 1 → IVec S16 32) a x).toNat < S16384.size a)
theorem k0_idx466_inb : ∀ (v1447 : IVec S16 32) (k0_hw466 : k0_chk466 v1447), ∀ a x, ((![v1447] : Fin 1 → IVec S16 32) a x).toNat < S16384.size a := fun v1447 k0_hw466 => k0_hw466

def k0_chk467 (v1450 : IVec S16 32) : Prop :=
  (∀ a x, ((![v1450] : Fin 1 → IVec S16 32) a x).toNat < S16384.size a)
theorem k0_idx467_inb : ∀ (v1450 : IVec S16 32) (k0_hw467 : k0_chk467 v1450), ∀ a x, ((![v1450] : Fin 1 → IVec S16 32) a x).toNat < S16384.size a := fun v1450 k0_hw467 => k0_hw467

def k0_chk468 (v1453 : IVec S16 32) : Prop :=
  (∀ a x, ((![v1453] : Fin 1 → IVec S16 32) a x).toNat < S16384.size a)
theorem k0_idx468_inb : ∀ (v1453 : IVec S16 32) (k0_hw468 : k0_chk468 v1453), ∀ a x, ((![v1453] : Fin 1 → IVec S16 32) a x).toNat < S16384.size a := fun v1453 k0_hw468 => k0_hw468

def k0_chk469 (v1456 : IVec S16 32) : Prop :=
  (∀ a x, ((![v1456] : Fin 1 → IVec S16 32) a x).toNat < S16384.size a)
theorem k0_idx469_inb : ∀ (v1456 : IVec S16 32) (k0_hw469 : k0_chk469 v1456), ∀ a x, ((![v1456] : Fin 1 → IVec S16 32) a x).toNat < S16384.size a := fun v1456 k0_hw469 => k0_hw469

def k0_chk470 (v1459 : IVec S16 32) : Prop :=
  (∀ a x, ((![v1459] : Fin 1 → IVec S16 32) a x).toNat < S16384.size a)
theorem k0_idx470_inb : ∀ (v1459 : IVec S16 32) (k0_hw470 : k0_chk470 v1459), ∀ a x, ((![v1459] : Fin 1 → IVec S16 32) a x).toNat < S16384.size a := fun v1459 k0_hw470 => k0_hw470

def k0_chk471 (v1462 : IVec S16 32) : Prop :=
  (∀ a x, ((![v1462] : Fin 1 → IVec S16 32) a x).toNat < S16384.size a)
theorem k0_idx471_inb : ∀ (v1462 : IVec S16 32) (k0_hw471 : k0_chk471 v1462), ∀ a x, ((![v1462] : Fin 1 → IVec S16 32) a x).toNat < S16384.size a := fun v1462 k0_hw471 => k0_hw471

def k0_chk472 (v1465 : IVec S16 32) : Prop :=
  (∀ a x, ((![v1465] : Fin 1 → IVec S16 32) a x).toNat < S16384.size a)
theorem k0_idx472_inb : ∀ (v1465 : IVec S16 32) (k0_hw472 : k0_chk472 v1465), ∀ a x, ((![v1465] : Fin 1 → IVec S16 32) a x).toNat < S16384.size a := fun v1465 k0_hw472 => k0_hw472

def k0_chk473 (v1468 : IVec S16 32) : Prop :=
  (∀ a x, ((![v1468] : Fin 1 → IVec S16 32) a x).toNat < S16384.size a)
theorem k0_idx473_inb : ∀ (v1468 : IVec S16 32) (k0_hw473 : k0_chk473 v1468), ∀ a x, ((![v1468] : Fin 1 → IVec S16 32) a x).toNat < S16384.size a := fun v1468 k0_hw473 => k0_hw473

def k0_chk474 (v1471 : IVec S16 32) : Prop :=
  (∀ a x, ((![v1471] : Fin 1 → IVec S16 32) a x).toNat < S16384.size a)
theorem k0_idx474_inb : ∀ (v1471 : IVec S16 32) (k0_hw474 : k0_chk474 v1471), ∀ a x, ((![v1471] : Fin 1 → IVec S16 32) a x).toNat < S16384.size a := fun v1471 k0_hw474 => k0_hw474

def k0_chk475 (v1474 : IVec S16 32) : Prop :=
  (∀ a x, ((![v1474] : Fin 1 → IVec S16 32) a x).toNat < S16384.size a)
theorem k0_idx475_inb : ∀ (v1474 : IVec S16 32) (k0_hw475 : k0_chk475 v1474), ∀ a x, ((![v1474] : Fin 1 → IVec S16 32) a x).toNat < S16384.size a := fun v1474 k0_hw475 => k0_hw475

def k0_chk476 (v1477 : IVec S16 32) : Prop :=
  (∀ a x, ((![v1477] : Fin 1 → IVec S16 32) a x).toNat < S16384.size a)
theorem k0_idx476_inb : ∀ (v1477 : IVec S16 32) (k0_hw476 : k0_chk476 v1477), ∀ a x, ((![v1477] : Fin 1 → IVec S16 32) a x).toNat < S16384.size a := fun v1477 k0_hw476 => k0_hw476

def k0_chk477 (v1480 : IVec S16 32) : Prop :=
  (∀ a x, ((![v1480] : Fin 1 → IVec S16 32) a x).toNat < S16384.size a)
theorem k0_idx477_inb : ∀ (v1480 : IVec S16 32) (k0_hw477 : k0_chk477 v1480), ∀ a x, ((![v1480] : Fin 1 → IVec S16 32) a x).toNat < S16384.size a := fun v1480 k0_hw477 => k0_hw477

def k0_chk478 (v1483 : IVec S16 32) : Prop :=
  (∀ a x, ((![v1483] : Fin 1 → IVec S16 32) a x).toNat < S16384.size a)
theorem k0_idx478_inb : ∀ (v1483 : IVec S16 32) (k0_hw478 : k0_chk478 v1483), ∀ a x, ((![v1483] : Fin 1 → IVec S16 32) a x).toNat < S16384.size a := fun v1483 k0_hw478 => k0_hw478

def k0_chk479 (v1486 : IVec S16 32) : Prop :=
  (∀ a x, ((![v1486] : Fin 1 → IVec S16 32) a x).toNat < S16384.size a)
theorem k0_idx479_inb : ∀ (v1486 : IVec S16 32) (k0_hw479 : k0_chk479 v1486), ∀ a x, ((![v1486] : Fin 1 → IVec S16 32) a x).toNat < S16384.size a := fun v1486 k0_hw479 => k0_hw479

def k0_chk480 (v1489 : IVec S16 32) : Prop :=
  (∀ a x, ((![v1489] : Fin 1 → IVec S16 32) a x).toNat < S16384.size a)
theorem k0_idx480_inb : ∀ (v1489 : IVec S16 32) (k0_hw480 : k0_chk480 v1489), ∀ a x, ((![v1489] : Fin 1 → IVec S16 32) a x).toNat < S16384.size a := fun v1489 k0_hw480 => k0_hw480
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32 : BitVec 32 := 56#32
  let v1490 : BitVec 32 := Scalar.addi v2 c56_i32
  let c2048_i32_709 : BitVec 32 := 2048#32
  let v1491 : BitVec 32 := Scalar.muli v1490 c2048_i32_709
  ![v1491.toNat]

def k0_chk481 (v1498 : IVec S16 32) : Prop :=
  (∀ a x, ((![v1498] : Fin 1 → IVec S16 32) a x).toNat < S16384.size a)
theorem k0_idx481_inb : ∀ (v1498 : IVec S16 32) (k0_hw481 : k0_chk481 v1498), ∀ a x, ((![v1498] : Fin 1 → IVec S16 32) a x).toNat < S16384.size a := fun v1498 k0_hw481 => k0_hw481

def k0_chk482 (v1501 : IVec S16 32) : Prop :=
  (∀ a x, ((![v1501] : Fin 1 → IVec S16 32) a x).toNat < S16384.size a)
theorem k0_idx482_inb : ∀ (v1501 : IVec S16 32) (k0_hw482 : k0_chk482 v1501), ∀ a x, ((![v1501] : Fin 1 → IVec S16 32) a x).toNat < S16384.size a := fun v1501 k0_hw482 => k0_hw482

def k0_chk483 (v1504 : IVec S16 32) : Prop :=
  (∀ a x, ((![v1504] : Fin 1 → IVec S16 32) a x).toNat < S16384.size a)
theorem k0_idx483_inb : ∀ (v1504 : IVec S16 32) (k0_hw483 : k0_chk483 v1504), ∀ a x, ((![v1504] : Fin 1 → IVec S16 32) a x).toNat < S16384.size a := fun v1504 k0_hw483 => k0_hw483

def k0_chk484 (v1507 : IVec S16 32) : Prop :=
  (∀ a x, ((![v1507] : Fin 1 → IVec S16 32) a x).toNat < S16384.size a)
theorem k0_idx484_inb : ∀ (v1507 : IVec S16 32) (k0_hw484 : k0_chk484 v1507), ∀ a x, ((![v1507] : Fin 1 → IVec S16 32) a x).toNat < S16384.size a := fun v1507 k0_hw484 => k0_hw484

def k0_chk485 (v1510 : IVec S16 32) : Prop :=
  (∀ a x, ((![v1510] : Fin 1 → IVec S16 32) a x).toNat < S16384.size a)
theorem k0_idx485_inb : ∀ (v1510 : IVec S16 32) (k0_hw485 : k0_chk485 v1510), ∀ a x, ((![v1510] : Fin 1 → IVec S16 32) a x).toNat < S16384.size a := fun v1510 k0_hw485 => k0_hw485

def k0_chk486 (v1513 : IVec S16 32) : Prop :=
  (∀ a x, ((![v1513] : Fin 1 → IVec S16 32) a x).toNat < S16384.size a)
theorem k0_idx486_inb : ∀ (v1513 : IVec S16 32) (k0_hw486 : k0_chk486 v1513), ∀ a x, ((![v1513] : Fin 1 → IVec S16 32) a x).toNat < S16384.size a := fun v1513 k0_hw486 => k0_hw486

def k0_chk487 (v1516 : IVec S16 32) : Prop :=
  (∀ a x, ((![v1516] : Fin 1 → IVec S16 32) a x).toNat < S16384.size a)
theorem k0_idx487_inb : ∀ (v1516 : IVec S16 32) (k0_hw487 : k0_chk487 v1516), ∀ a x, ((![v1516] : Fin 1 → IVec S16 32) a x).toNat < S16384.size a := fun v1516 k0_hw487 => k0_hw487

def k0_chk488 (v1519 : IVec S16 32) : Prop :=
  (∀ a x, ((![v1519] : Fin 1 → IVec S16 32) a x).toNat < S16384.size a)
theorem k0_idx488_inb : ∀ (v1519 : IVec S16 32) (k0_hw488 : k0_chk488 v1519), ∀ a x, ((![v1519] : Fin 1 → IVec S16 32) a x).toNat < S16384.size a := fun v1519 k0_hw488 => k0_hw488

def k0_chk489 (v1522 : IVec S16 32) : Prop :=
  (∀ a x, ((![v1522] : Fin 1 → IVec S16 32) a x).toNat < S16384.size a)
theorem k0_idx489_inb : ∀ (v1522 : IVec S16 32) (k0_hw489 : k0_chk489 v1522), ∀ a x, ((![v1522] : Fin 1 → IVec S16 32) a x).toNat < S16384.size a := fun v1522 k0_hw489 => k0_hw489

def k0_chk490 (v1525 : IVec S16 32) : Prop :=
  (∀ a x, ((![v1525] : Fin 1 → IVec S16 32) a x).toNat < S16384.size a)
theorem k0_idx490_inb : ∀ (v1525 : IVec S16 32) (k0_hw490 : k0_chk490 v1525), ∀ a x, ((![v1525] : Fin 1 → IVec S16 32) a x).toNat < S16384.size a := fun v1525 k0_hw490 => k0_hw490

def k0_chk491 (v1528 : IVec S16 32) : Prop :=
  (∀ a x, ((![v1528] : Fin 1 → IVec S16 32) a x).toNat < S16384.size a)
theorem k0_idx491_inb : ∀ (v1528 : IVec S16 32) (k0_hw491 : k0_chk491 v1528), ∀ a x, ((![v1528] : Fin 1 → IVec S16 32) a x).toNat < S16384.size a := fun v1528 k0_hw491 => k0_hw491

def k0_chk492 (v1531 : IVec S16 32) : Prop :=
  (∀ a x, ((![v1531] : Fin 1 → IVec S16 32) a x).toNat < S16384.size a)
theorem k0_idx492_inb : ∀ (v1531 : IVec S16 32) (k0_hw492 : k0_chk492 v1531), ∀ a x, ((![v1531] : Fin 1 → IVec S16 32) a x).toNat < S16384.size a := fun v1531 k0_hw492 => k0_hw492

def k0_chk493 (v1534 : IVec S16 32) : Prop :=
  (∀ a x, ((![v1534] : Fin 1 → IVec S16 32) a x).toNat < S16384.size a)
theorem k0_idx493_inb : ∀ (v1534 : IVec S16 32) (k0_hw493 : k0_chk493 v1534), ∀ a x, ((![v1534] : Fin 1 → IVec S16 32) a x).toNat < S16384.size a := fun v1534 k0_hw493 => k0_hw493

def k0_chk494 (v1537 : IVec S16 32) : Prop :=
  (∀ a x, ((![v1537] : Fin 1 → IVec S16 32) a x).toNat < S16384.size a)
theorem k0_idx494_inb : ∀ (v1537 : IVec S16 32) (k0_hw494 : k0_chk494 v1537), ∀ a x, ((![v1537] : Fin 1 → IVec S16 32) a x).toNat < S16384.size a := fun v1537 k0_hw494 => k0_hw494

def k0_chk495 (v1540 : IVec S16 32) : Prop :=
  (∀ a x, ((![v1540] : Fin 1 → IVec S16 32) a x).toNat < S16384.size a)
theorem k0_idx495_inb : ∀ (v1540 : IVec S16 32) (k0_hw495 : k0_chk495 v1540), ∀ a x, ((![v1540] : Fin 1 → IVec S16 32) a x).toNat < S16384.size a := fun v1540 k0_hw495 => k0_hw495

def k0_chk496 (v1543 : IVec S16 32) : Prop :=
  (∀ a x, ((![v1543] : Fin 1 → IVec S16 32) a x).toNat < S16384.size a)
theorem k0_idx496_inb : ∀ (v1543 : IVec S16 32) (k0_hw496 : k0_chk496 v1543), ∀ a x, ((![v1543] : Fin 1 → IVec S16 32) a x).toNat < S16384.size a := fun v1543 k0_hw496 => k0_hw496

def k0_chk497 (v1546 : IVec S16 32) : Prop :=
  (∀ a x, ((![v1546] : Fin 1 → IVec S16 32) a x).toNat < S16384.size a)
theorem k0_idx497_inb : ∀ (v1546 : IVec S16 32) (k0_hw497 : k0_chk497 v1546), ∀ a x, ((![v1546] : Fin 1 → IVec S16 32) a x).toNat < S16384.size a := fun v1546 k0_hw497 => k0_hw497

def k0_chk498 (v1549 : IVec S16 32) : Prop :=
  (∀ a x, ((![v1549] : Fin 1 → IVec S16 32) a x).toNat < S16384.size a)
theorem k0_idx498_inb : ∀ (v1549 : IVec S16 32) (k0_hw498 : k0_chk498 v1549), ∀ a x, ((![v1549] : Fin 1 → IVec S16 32) a x).toNat < S16384.size a := fun v1549 k0_hw498 => k0_hw498

def k0_chk499 (v1552 : IVec S16 32) : Prop :=
  (∀ a x, ((![v1552] : Fin 1 → IVec S16 32) a x).toNat < S16384.size a)
theorem k0_idx499_inb : ∀ (v1552 : IVec S16 32) (k0_hw499 : k0_chk499 v1552), ∀ a x, ((![v1552] : Fin 1 → IVec S16 32) a x).toNat < S16384.size a := fun v1552 k0_hw499 => k0_hw499

def k0_chk500 (v1555 : IVec S16 32) : Prop :=
  (∀ a x, ((![v1555] : Fin 1 → IVec S16 32) a x).toNat < S16384.size a)
theorem k0_idx500_inb : ∀ (v1555 : IVec S16 32) (k0_hw500 : k0_chk500 v1555), ∀ a x, ((![v1555] : Fin 1 → IVec S16 32) a x).toNat < S16384.size a := fun v1555 k0_hw500 => k0_hw500

def k0_chk501 (v1558 : IVec S16 32) : Prop :=
  (∀ a x, ((![v1558] : Fin 1 → IVec S16 32) a x).toNat < S16384.size a)
theorem k0_idx501_inb : ∀ (v1558 : IVec S16 32) (k0_hw501 : k0_chk501 v1558), ∀ a x, ((![v1558] : Fin 1 → IVec S16 32) a x).toNat < S16384.size a := fun v1558 k0_hw501 => k0_hw501

def k0_chk502 (v1561 : IVec S16 32) : Prop :=
  (∀ a x, ((![v1561] : Fin 1 → IVec S16 32) a x).toNat < S16384.size a)
theorem k0_idx502_inb : ∀ (v1561 : IVec S16 32) (k0_hw502 : k0_chk502 v1561), ∀ a x, ((![v1561] : Fin 1 → IVec S16 32) a x).toNat < S16384.size a := fun v1561 k0_hw502 => k0_hw502

def k0_chk503 (v1564 : IVec S16 32) : Prop :=
  (∀ a x, ((![v1564] : Fin 1 → IVec S16 32) a x).toNat < S16384.size a)
theorem k0_idx503_inb : ∀ (v1564 : IVec S16 32) (k0_hw503 : k0_chk503 v1564), ∀ a x, ((![v1564] : Fin 1 → IVec S16 32) a x).toNat < S16384.size a := fun v1564 k0_hw503 => k0_hw503

def k0_chk504 (v1567 : IVec S16 32) : Prop :=
  (∀ a x, ((![v1567] : Fin 1 → IVec S16 32) a x).toNat < S16384.size a)
theorem k0_idx504_inb : ∀ (v1567 : IVec S16 32) (k0_hw504 : k0_chk504 v1567), ∀ a x, ((![v1567] : Fin 1 → IVec S16 32) a x).toNat < S16384.size a := fun v1567 k0_hw504 => k0_hw504

def k0_chk505 (v1570 : IVec S16 32) : Prop :=
  (∀ a x, ((![v1570] : Fin 1 → IVec S16 32) a x).toNat < S16384.size a)
theorem k0_idx505_inb : ∀ (v1570 : IVec S16 32) (k0_hw505 : k0_chk505 v1570), ∀ a x, ((![v1570] : Fin 1 → IVec S16 32) a x).toNat < S16384.size a := fun v1570 k0_hw505 => k0_hw505

def k0_chk506 (v1573 : IVec S16 32) : Prop :=
  (∀ a x, ((![v1573] : Fin 1 → IVec S16 32) a x).toNat < S16384.size a)
theorem k0_idx506_inb : ∀ (v1573 : IVec S16 32) (k0_hw506 : k0_chk506 v1573), ∀ a x, ((![v1573] : Fin 1 → IVec S16 32) a x).toNat < S16384.size a := fun v1573 k0_hw506 => k0_hw506

def k0_chk507 (v1576 : IVec S16 32) : Prop :=
  (∀ a x, ((![v1576] : Fin 1 → IVec S16 32) a x).toNat < S16384.size a)
theorem k0_idx507_inb : ∀ (v1576 : IVec S16 32) (k0_hw507 : k0_chk507 v1576), ∀ a x, ((![v1576] : Fin 1 → IVec S16 32) a x).toNat < S16384.size a := fun v1576 k0_hw507 => k0_hw507

def k0_chk508 (v1579 : IVec S16 32) : Prop :=
  (∀ a x, ((![v1579] : Fin 1 → IVec S16 32) a x).toNat < S16384.size a)
theorem k0_idx508_inb : ∀ (v1579 : IVec S16 32) (k0_hw508 : k0_chk508 v1579), ∀ a x, ((![v1579] : Fin 1 → IVec S16 32) a x).toNat < S16384.size a := fun v1579 k0_hw508 => k0_hw508

def k0_chk509 (v1582 : IVec S16 32) : Prop :=
  (∀ a x, ((![v1582] : Fin 1 → IVec S16 32) a x).toNat < S16384.size a)
theorem k0_idx509_inb : ∀ (v1582 : IVec S16 32) (k0_hw509 : k0_chk509 v1582), ∀ a x, ((![v1582] : Fin 1 → IVec S16 32) a x).toNat < S16384.size a := fun v1582 k0_hw509 => k0_hw509

def k0_chk510 (v1585 : IVec S16 32) : Prop :=
  (∀ a x, ((![v1585] : Fin 1 → IVec S16 32) a x).toNat < S16384.size a)
theorem k0_idx510_inb : ∀ (v1585 : IVec S16 32) (k0_hw510 : k0_chk510 v1585), ∀ a x, ((![v1585] : Fin 1 → IVec S16 32) a x).toNat < S16384.size a := fun v1585 k0_hw510 => k0_hw510

def k0_chk511 (v1588 : IVec S16 32) : Prop :=
  (∀ a x, ((![v1588] : Fin 1 → IVec S16 32) a x).toNat < S16384.size a)
theorem k0_idx511_inb : ∀ (v1588 : IVec S16 32) (k0_hw511 : k0_chk511 v1588), ∀ a x, ((![v1588] : Fin 1 → IVec S16 32) a x).toNat < S16384.size a := fun v1588 k0_hw511 => k0_hw511

def k0_chk512 (v1591 : IVec S16 32) : Prop :=
  (∀ a x, ((![v1591] : Fin 1 → IVec S16 32) a x).toNat < S16384.size a)
theorem k0_idx512_inb : ∀ (v1591 : IVec S16 32) (k0_hw512 : k0_chk512 v1591), ∀ a x, ((![v1591] : Fin 1 → IVec S16 32) a x).toNat < S16384.size a := fun v1591 k0_hw512 => k0_hw512
abbrev grid1 : Pipeline.Grid := ⟨1, ![8], ![false]⟩

@[reducible] def k1_t1_loop : Scf.Loop 32 :=
  let c0_i32_17 : BitVec 32 := 0#32
  let c64_i32 : BitVec 32 := 64#32
  let v27 : BitVec 32 := Scalar.addi c0_i32_17 c64_i32
  let c1_i32 : BitVec 32 := 1#32
  ⟨c0_i32_17, v27, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x64 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x64 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x256 : Shape := ⟨2, ![2048, 256]⟩
abbrev S2048x2048 : Shape := ⟨2, ![2048, 2048]⟩
abbrev S2048x64 : Shape := ⟨2, ![2048, 64]⟩
abbrev S2048 : Shape := ⟨1, ![2048]⟩
abbrev S131072 : Shape := ⟨1, ![131072]⟩
abbrev S_ : Shape := ⟨0, ![]⟩
abbrev S131072x1 : Shape := ⟨2, ![131072, 1]⟩
abbrev S131072x2 : Shape := ⟨2, ![131072, 2]⟩
abbrev S256x2048 : Shape := ⟨2, ![256, 2048]⟩
abbrev S2048x1 : Shape := ⟨2, ![2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .i32⟩
  | .hbm, ⟨2, _⟩ => ⟨S2048x64, .i32⟩
  | .hbm, ⟨3, _⟩ => ⟨S2048, .i32⟩
  | .hbm, ⟨4, _⟩ => ⟨S2048x64, .i32⟩
  | .hbm, ⟨5, _⟩ => ⟨S131072, .i32⟩
  | .hbm, ⟨6, _⟩ => ⟨S_, .f32⟩
  | .hbm, ⟨7, _⟩ => ⟨S2048x2048, .f32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S_, .f32⟩
  | .hbm, ⟨27, _⟩ => ⟨S131072, .f32⟩
  | .hbm, ⟨28, _⟩ => ⟨S2048x2048, .f32⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .i1⟩
  | .hbm, ⟨37, _⟩ => ⟨S_, .f32⟩
  | .hbm, ⟨38, _⟩ => ⟨S2048x2048, .f32⟩
  | .hbm, ⟨39, _⟩ => ⟨S2048x2048, .i1⟩
  | .hbm, ⟨40, _⟩ => ⟨S2048x2048, .i1⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .i1⟩
  | .hbm, ⟨46, _⟩ => ⟨S256x2048, .f32⟩
  | .hbm, ⟨47, _⟩ => ⟨S2048x2048, .f32⟩
  | .hbm, ⟨48, _⟩ => ⟨S_, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x64, .f32⟩
  | .hbm, ⟨53, _⟩ => ⟨S2048x64, .i32⟩
  | .hbm, ⟨54, _⟩ => ⟨S2048x1, .i1⟩
  | .hbm, ⟨55, _⟩ => ⟨S2048x64, .i1⟩
  | .hbm, ⟨56, _⟩ => ⟨S2048x64, .i32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_call0_v0 : Ref sig .tc := ⟨.hbm, 49, rfl⟩
abbrev main_call0_v1 : Ref sig .tc := ⟨.hbm, 50, rfl⟩
abbrev main_v34 : Ref sig .tc := ⟨.hbm, 51, rfl⟩
abbrev main_values : Ref sig .tc := ⟨.hbm, 52, rfl⟩
abbrev main_indices : Ref sig .tc := ⟨.hbm, 53, rfl⟩
abbrev main_v35 : Ref sig .tc := ⟨.hbm, 54, rfl⟩
abbrev main_call1_v0 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Pre.lean ====
/-
  What the two preconditions say of the arrays, entry by entry.
-/
module

public import proofs.«01_k».proof.Defs
public import Idealize.ShloMosaic.Lib.ReduceAll

@[expose] public section

set_option maxRecDepth 16384

noncomputable section

namespace Cert.Proof

open Idealize.ShloMosaic

/-- A conjunction of two bits is one exactly when both are. -/
theorem andi_one (a b : BitVec 1) : IntOp.andi a b = 1#1 ↔ a = 1#1 ∧ b = 1#1 := by
  revert a b; decide

/-- A word not below zero and below `n`, as signed words, has a value below `n`. -/
theorem word_lt {v : BitVec 32} {n : ℕ} (hn : n < 2 ^ 31)
    (e : IntOp.andi (IntOp.cmpi .sge v 0#32) (IntOp.cmpi .slt v (BitVec.ofNat 32 n)) = 1#1) : v.toNat < n := by
  have one (p : Bool) : (BitVec.ofBool p = 1#1) ↔ p = true := by cases p <;> decide
  rw [andi_one] at e
  simp only [IntOp.cmpi, one, BitVec.sle_eq_decide, BitVec.slt_eq_decide,
    decide_eq_true_eq, BitVec.toInt_eq_toNat_cond, BitVec.toNat_ofNat, Nat.reducePow, Nat.reduceMod] at e
  have := v.isLt
  omega

variable {F : FTy → Type} [FloatOps F]

/-- The inputs predicate's scalars have one index. -/
instance idx0_sub : Subsingleton Cert.Pre_inputs_in_range.S_.Idx := ⟨fun i j => funext fun d => d.elim0⟩
/-- The indices predicate's scalars have one index. -/
instance idx0_sub' : Subsingleton Cert.Pre_indices_in_range.S_.Idx := ⟨fun i j => funext fun d => d.elim0⟩

/-- Under `indices_in_range` every sample is below 2048. -/
theorem indices_lt [Cert.Pre_indices_in_range.Facts] {x : FVec F Cert.Pre_indices_in_range.S2048x256 .f32}
    {a : IVec Cert.Pre_indices_in_range.S2048x2048 32} {s : IVec Cert.Pre_indices_in_range.S2048x64 32}
    (h : Cert.Pre_indices_in_range.fn (F := F) x a s = fun _ => 1#1) (i) : (s i).toNat < 2048 :=
  word_lt (by norm_num) (Host.reduce_andi_all _ _ _ _ (fun d => d.elim0) (congrFun h _) i)

section
variable [Cert.Pre_inputs_in_range.Facts] {x : FVec F Cert.Pre_inputs_in_range.S2048x256 .f32}
  {a : IVec Cert.Pre_inputs_in_range.S2048x2048 32} {s : IVec Cert.Pre_inputs_in_range.S2048x64 32}
  (h : Cert.Pre_inputs_in_range.fn (F := F) x a s = fun _ => 1#1)
include h

/-- Under `inputs_in_range` every sample is below 2048. -/
theorem inputs_sample_lt (i) : (s i).toNat < 2048 :=
  word_lt (by norm_num) (Host.reduce_andi_all _ _ _ _ (fun d => d.elim0) ((andi_one _ _).1 (congrFun h (fun d => d.elim0))).2 i)

/-- Under `inputs_in_range` every adjacency entry is 0 or 1. -/
theorem inputs_adj_lt (i) : (a i).toNat < 2 :=
  word_lt (by norm_num) (Host.reduce_andi_all _ _ _ _ (fun d => d.elim0)
    ((andi_one _ _).1 ((andi_one _ _).1 (congrFun h (fun d => d.elim0))).1).2 i)

/-- Under `inputs_in_range` every similarity is above the kernel's mask constant. -/
theorem inputs_sim_gt (i) : FloatOps.cmpf .ogt
    (Host.dotGeneral Cert.Pre_inputs_in_range.dot_S2048x256_S256x2048_S2048x2048_1_0_0_1_n_n none x
      (transpose Cert.Pre_inputs_in_range.S256x2048 [1, 0] x Cert.Pre_inputs_in_range.Facts.transposes_S2048x256_S256x2048_1_0) i)
    (FloatOps.ofBits (F := F) .f32 0xF149F2CA#32) = 1#1 :=
  Host.reduce_andi_all _ _ _ _ (fun d => d.elim0)
    ((andi_one _ _).1 ((andi_one _ _).1 (congrFun h (fun d => d.elim0))).1).1 i
end

end Cert.Proof
end
-- ==== Proof.ScProg.lean ====
/-
  The SparseCore kernel's body as a program of a few lines. The printed body writes its 512 scatters out one by one; here
  a scatter is one definition (`scat`), thirty-two of them in a row a recursion (`scats`), a batch the ones scattered,
  the copy out and the zeros scattered (`batch`), and the body is the copy in, the zeroing loop and eight batches
  (`body`). `body_eq` says that the printed body is this program.
-/
module

public import proofs.«01_k».proof.Proof.Gen.KernelIdeal

@[expose] public section

set_option maxRecDepth 100000

noncomputable section

namespace Cert.KernelIdeal.Sc

open Cert.KernelIdeal Cert.KernelIdeal.Gen
open Idealize.ShloMosaic Idealize.SL.Sem

variable {F : FTy → Type} [FloatOps F]

variable (i : grid0.Coords)

/-- The programs of the tile at grid point `i`. -/
abbrev TP (α : Type) : Type 1 := Prog (TpuEff nD τ sig (Elt F) Λ₀ (.scVector ((i 0).castLE hcore0) ((i 1).castLE hsub0))) α

/-- Sixteen words of the fetched samples, from word `o`. -/
theorem inb16 {o : Nat} (h : o + 16 ≤ 4096) : ∀ a, (![o] : Fin 1 → Nat) a + S16.size a ≤ S4096.size a := fun
  | ⟨0, _⟩ => h
  | ⟨_ + 1, ha⟩ => absurd ha (Nat.not_lt.2 (Nat.le_add_left _ _))

/-- One scatter: sixteen sample words from word `o`, moved by `add`, name the places of the row buffer that take `val`. -/
def scat (arg4 : Memref sig .scVector .vmem S4096 .i32) (arg5 : Memref sig .scVector .vmem S16384 .f32)
    (o : Nat) (h : o + 16 ≤ 4096) (add : BitVec 32) (val : FVec F S16 .f32) : TP (F := F) i PUnit := do
  let v : Vec F S16 .i32 ← Prog.lift (.load arg4 (Rect.unit (s := S4096) ![o] S16.size (inb16 h)).toLoadRect (View.loadsAt_vmem h_S16))
  let hw ← Prog.lift (TpuEff.assume (k0_chk1 (addi v (broadcast S16 add))) (k0_chk1.dec (addi v (broadcast S16 add))))
  SparseCore.vectorStoreIdx arg5 ![addi v (broadcast S16 add)] val (fun _ => 1#1) false
    (k0_idx1_inb (addi v (broadcast S16 add)) hw.down) (View.stores_vmem_bits_univ h_S16384 rfl)

/-- The last `n` of batch `b`'s thirty-two scatters of `val`, followed by `k`: scatter `j` takes the samples from word
    `512 b + 16 j` and moves them by 2048 times the row of the buffer, `j / 4`. -/
def scats (arg4 : Memref sig .scVector .vmem S4096 .i32) (arg5 : Memref sig .scVector .vmem S16384 .f32)
    (b : Nat) (hb : b < 8) (val : FVec F S16 .f32) (k : TP (F := F) i PUnit) : (n : Nat) → n ≤ 32 → TP (F := F) i PUnit
  | 0, _ => k
  | n + 1, h => do
    scat i arg4 arg5 (512 * b + 16 * (31 - n)) (by omega) (BitVec.ofNat 32 (2048 * ((31 - n) / 4))) val
    scats arg4 arg5 b hb val k n (by omega)

/-- The copy of the row buffer to the rows of the result at `off`, and the wait for it, followed by `k`. -/
def flush (arg3 : Memref sig .scVector .hbm S4194304 .f32) (arg5 : Memref sig .scVector .vmem S16384 .f32) (harg5 : arg5.IsWhole)
    (arg6 : DmaSems sig S_) (off : Fin 1 → Nat) (hoff : ∀ a, off a + S16384.size a ≤ S4194304.size a) (k : TP (F := F) i PUnit) : TP (F := F) i PUnit := do
  Prog.lift (.enqueueDma arg5 (.here (arg3.slice (Rect.unit (s := S4194304) off S16384.size hoff) (fun _ => rfl))) (.dma arg6.sem)
    harg5.wordExact (View.wordExact_bits rfl) ⟨Or.inl rfl, trivial⟩)
  Prog.lift (.waitDma2 arg6.sem arg5 (arg3.slice (Rect.unit (s := S4194304) off S16384.size hoff) (fun _ => rfl)) harg5.wordExact (View.wordExact_bits rfl))
  k

/-- Where batch `b` goes in the result. -/
def boff (b : Fin 8) : Fin 1 → Nat :=
  match b with
  | 0 => k0_off3 i | 1 => k0_off4 i | 2 => k0_off5 i | 3 => k0_off6 i | 4 => k0_off7 i | 5 => k0_off8 i | 6 => k0_off9 i | 7 => k0_off10 i

/-- Each batch's stretch lies within the result. -/
theorem boff_inb (b : Fin 8) : ∀ a, boff i b a + S16384.size a ≤ S4194304.size a :=
  match b with
  | 0 => k0_off3_inb i | 1 => k0_off4_inb i | 2 => k0_off5_inb i | 3 => k0_off6_inb i
  | 4 => k0_off7_inb i | 5 => k0_off8_inb i | 6 => k0_off9_inb i | 7 => k0_off10_inb i

/-- Sixteen zeros. -/
abbrev zeros : FVec F S16 .f32 := broadcast S16 (Scalar.ofBits .f32 0x00000000#32)
/-- Sixteen ones. -/
abbrev ones : FVec F S16 .f32 := broadcast S16 (Scalar.ofBits .f32 0x3F800000#32)

/-- The last `n` of the eight batches. -/
def batches (arg3 : Memref sig .scVector .hbm S4194304 .f32) (arg4 : Memref sig .scVector .vmem S4096 .i32)
    (arg5 : Memref sig .scVector .vmem S16384 .f32) (harg5 : arg5.IsWhole) (arg6 : DmaSems sig S_) : (n : Nat) → n ≤ 8 → TP (F := F) i PUnit
  | 0, _ => pure ⟨⟩
  | n + 1, h =>
    scats i arg4 arg5 (7 - n) (by omega) ones
      (flush i arg3 arg5 harg5 arg6 (boff i ⟨7 - n, by omega⟩) (boff_inb i ⟨7 - n, by omega⟩)
        (scats i arg4 arg5 (7 - n) (by omega) zeros (batches arg3 arg4 arg5 harg5 arg6 n (by omega)) 32 (by omega))) 32 (by omega)

/-- The store of sixteen zeros at the row buffer's words `128 k + 16 r`, after a load that nothing reads. -/
def zero16 (arg5 : Memref sig .scVector .vmem S16384 .f32) (k : Fin k0_t1_loop.trips) (r : Fin 8) : TP (F := F) i PUnit := do
  let _ : Vec F S16 .f32 ← Prog.lift (.load arg5 (Rect.unit (s := S16384) (k0_off2 k (BitVec.ofNat 32 r.val)) S16.size (k0_off2_inb k r)).toLoadRect (View.loadsAt_vmem h_S16))
  Prog.lift (.store arg5 (Rect.unit (s := S16384) (k0_off2 k (BitVec.ofNat 32 r.val)) S16.size (k0_off2_inb k r)) zeros Finset.univ (View.stores_vmem_bits_univ h_S16 rfl) (.inl rfl))

/-- The whole body: the samples' copy in, the row buffer zeroed, the eight batches. -/
def body (arg2 : Memref sig .scVector .hbm S131072 .i32) (harg2 : arg2.IsWhole) (arg3 : Memref sig .scVector .hbm S4194304 .f32) (harg3 : arg3.IsWhole)
    (arg4 : Memref sig .scVector .vmem S4096 .i32) (harg4 : arg4.IsWhole) (arg5 : Memref sig .scVector .vmem S16384 .f32) (harg5 : arg5.IsWhole)
    (arg6 : DmaSems sig S_) (r0 : DmaSems sig S_) : TP (F := F) i PUnit := do
  Prog.lift (.enqueueDma (arg2.slice (Rect.unit (s := S131072) (k0_off1 i) S4096.size (k0_off1_inb i)) (fun _ => rfl)) (.here arg4) (.dma r0.sem)
    (View.wordExact_bits rfl) harg4.wordExact ⟨Or.inl rfl, trivial⟩)
  Prog.lift (.waitDma2 r0.sem (arg2.slice (Rect.unit (s := S131072) (k0_off1 i) S4096.size (k0_off1_inb i)) (fun _ => rfl)) arg4 (View.wordExact_bits rfl) harg4.wordExact)
  let _ ← Scf.Loop.for k0_t1_loop k0_t1_ok (0#32) fun k _ => do
    zero16 i arg5 k 0; zero16 i arg5 k 1; zero16 i arg5 k 2; zero16 i arg5 k 3
    zero16 i arg5 k 4; zero16 i arg5 k 5; zero16 i arg5 k 6; zero16 i arg5 k 7
    pure (0#32)
  batches i arg3 arg4 arg5 harg5 arg6 8 (by omega)

end Cert.KernelIdeal.Sc
end
-- ==== Proof.ScVal.lean ====
/-
  What a scatter does to the row buffer, as a function. `storeIdx_const` is the scatter of one value sixteen times;
  `marked` is the buffer after the first scatters of a batch, and `marked_step` its next scatter.
-/
module

public import proofs.«01_k».proof.Proof.ScProg

@[expose] public section

set_option maxRecDepth 16384

noncomputable section

namespace Cert.KernelIdeal.Sc

open Cert.KernelIdeal Cert.KernelIdeal.Gen
open Idealize.ShloMosaic Idealize.SL.Sem

variable {F : FTy → Type} [FloatOps F]

omit [FloatOps F] in
/-- Stores of one value one after another, at the places `p k`: the value where some `p k` points, the old element elsewhere. -/
theorem foldl_const {s : Shape} {α κ : Type} (p : κ → s.Idx) (a : α) (l : List κ) (f : s.Idx → α) (j : s.Idx) :
    l.foldl (fun g k => fun j => if (∀ x, (j x).val = (p k x).val) then a else g j) f j
      = if ∃ k ∈ l, ∀ x, (j x).val = (p k x).val then a else f j := by
  induction l generalizing f with
  | nil => simp
  | cons k l ih =>
    rw [List.foldl_cons, ih]
    by_cases h₁ : ∃ k' ∈ l, ∀ x, (j x).val = (p k' x).val
    · rw [if_pos h₁, if_pos (h₁.imp fun k' h => ⟨List.mem_cons_of_mem _ h.1, h.2⟩)]
    · rw [if_neg h₁]
      by_cases h₂ : ∀ x, (j x).val = (p k x).val
      · rw [if_pos h₂, if_pos ⟨k, List.mem_cons_self, h₂⟩]
      · rw [if_neg h₂, if_neg]
        rintro ⟨k', hk', h⟩
        rcases List.mem_cons.mp hk' with rfl | hk'
        · exact h₂ h
        · exact h₁ ⟨k', hk', h⟩

/-- The scatter of one value: it stands at every place a lane names, and nothing else changes. -/
theorem storeIdx_broadcast {s : Shape} {d : Fin 1 → Nat} (f : Vec F s .f32) (idxs : Fin s.rank → IVec ⟨1, d⟩ 32) (a : F .f32)
    (h : ∀ a x, (idxs a x).toNat < s.size a) (j : s.Idx) :
    storeIdx (F := F) (e := .f32) f idxs (broadcast ⟨1, d⟩ a) (fun _ => 1#1) false h j
      = if ∃ k ∈ List.finRange (d 0), ∀ x, (j x).val = (idxs x (Shape.ofLane k)).toNat then a else f j := by
  unfold storeIdx broadcast
  simp only [Bool.false_eq_true, if_false, show ((1#1 : BitVec 1) = 1) = True from eq_true rfl, if_true]
  refine (foldl_const (fun k => idxAt idxs h (Shape.ofLane k)) a _ f j).trans ?_
  by_cases hk : ∃ k ∈ List.finRange (d 0), ∀ x, (j x).val = (idxs x (Shape.ofLane k)).toNat
  · exact (if_pos hk).trans (if_pos hk).symm
  · exact (if_neg hk).trans (if_neg hk).symm

/-- The same in the row buffer. -/
theorem storeIdx_const (f : Vec F S16384 .f32) (v : IVec S16 32) (a : F .f32)
    (h : ∀ a x, ((![v] : Fin 1 → IVec S16 32) a x).toNat < S16384.size a) :
    storeIdx f ![v] (broadcast S16 a) (fun _ => 1#1) false h
      = fun j => if ∃ k : Fin 16, (v (Shape.ofLane k)).toNat = (j 0).val then a else f j := by
  funext j
  rw [storeIdx_broadcast]
  refine if_congr ⟨?_, ?_⟩ rfl rfl
  · rintro ⟨k, -, hk⟩; exact ⟨k, (hk 0).symm⟩
  · rintro ⟨k, hk⟩; exact ⟨k, List.mem_finRange k, fun | 0 => hk.symm⟩

/-- The place in the row buffer of sample `t` of batch `b`: its column, in row `t / 64`. -/
def place (cs : Nat → BitVec 32) (b t : Nat) : Nat := (cs (512 * b + t)).toNat + 2048 * (t / 64)

/-- The buffer `g` with `a` at the places of the first `16 n` samples of batch `b`. -/
def marked (cs : Nat → BitVec 32) (b n : Nat) (a : F .f32) (g : Vec F S16384 .f32) : Vec F S16384 .f32 :=
  fun j => if ∃ t, t < 16 * n ∧ place cs b t = (j 0).val then a else g j

omit [FloatOps F] in
/-- With no sample done, the buffer is as it was. -/
theorem marked_zero (cs : Nat → BitVec 32) (b : Nat) (a : F .f32) (g : Vec F S16384 .f32) : marked cs b 0 a g = g := by
  funext j; exact if_neg (by rintro ⟨t, ht, -⟩; omega)

/-- The next scatter of a batch marks the places of sixteen more samples. -/
theorem marked_step (cs : Nat → BitVec 32) (b n : Nat) (a : F .f32) (g : Vec F S16384 .f32) (v : IVec S16 32)
    (h : ∀ a x, ((![v] : Fin 1 → IVec S16 32) a x).toNat < S16384.size a)
    (hv : ∀ k : Fin 16, (v (Shape.ofLane k)).toNat = place cs b (16 * n + k.val)) :
    storeIdx (marked cs b n a g) ![v] (broadcast S16 a) (fun _ => 1#1) false h = marked cs b (n + 1) a g := by
  rw [storeIdx_const]
  funext j
  simp only [hv]
  unfold marked
  by_cases h₁ : ∃ k : Fin 16, place cs b (16 * n + k.val) = (j 0).val
  · obtain ⟨k, hk⟩ := h₁
    rw [if_pos ⟨k, hk⟩, if_pos ⟨16 * n + k.val, by omega, hk⟩]
  · rw [if_neg h₁]
    refine if_congr ⟨?_, ?_⟩ rfl rfl
    · rintro ⟨t, ht, e⟩; exact ⟨t, by omega, e⟩
    · rintro ⟨t, ht, e⟩
      refine ⟨t, ?_, e⟩
      by_contra hn
      exact h₁ ⟨⟨t - 16 * n, by omega⟩, by rw [← e]; congr 1; show 16 * n + (t - 16 * n) = t; omega⟩

omit [FloatOps F] in
/-- Marking with zeros what was marked in a buffer of zeros leaves zeros. -/
theorem marked_undo (cs : Nat → BitVec 32) (b n : Nat) (a z : F .f32) :
    marked cs b n z (marked cs b n a fun _ => z) = fun _ => z := by
  funext j
  unfold marked
  split <;> rfl

end Cert.KernelIdeal.Sc
end
-- ==== Proof.ScRun.lean ====
/-
  The SparseCore kernel run on one tile. The tile's 4096 samples come in, the row buffer is zeroed, and each of eight
  batches marks its samples' places with ones, copies the buffer to its eight rows of the result and unmarks the places.
  The rows it leaves are the tile's part of the one-hot table (`hot`).
-/
module

public import proofs.«01_k».proof.Proof.ScVal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 16384

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the whole program: the kernels' own and the TensorCore pipeline's. -/
abbrev ΛP : Labels := Pipeline.Sig Λ₀ (Fin 1) fun p => (pcfgs (F := F) p).Adm
/-- The program's SparseCore launches. -/
abbrev K : SparseCore.Cfg τ sig (ΛP (F := F)) 1 := sc (F := F)
/-- The bodies of the program's procedures. -/
abbrev D [FloatOps F] : Defs nD τ sig (Elt F) (ΛP (F := F)) := Pipeline.defs pcfgs defs₀
/-- No loop variants are needed by the kernels. -/
abbrev 𝒱₀ : Variants := Variants.none
/-- The variants of the whole program. -/
abbrev 𝒱 : Variants := 𝒱₀.lift
/-- The variant a kernel's body starts at. -/
abbrev v₀ : 𝒱.V := Sum.inl none

/-- The ghost state of the launch handshakes. -/
abbrev UH : Type := URounds (GSem nD τ sig) ℕ
/-- The ghost state of the TensorCore call's staging cells. -/
abbrev UP : Type := URounds (GSem nD τ sig) Unit
/-- All the ghost state of the proof. -/
abbrev UU : Type := UH × (UP × Counters)

local notation "𝕄" => MT nD τ sig (HIx 1) (Elt F) ℕ UU ℕ

/-- The handshakes' rounds library is the left factor. -/
abbrev EH : Emb UH (MT nD τ sig (HIx 1) (Elt F) ℕ UU ℕ) := embL
/-- The rounds library of the TensorCore call's staging cells is the left of the right factor. -/
abbrev EP : Emb UP (MT nD τ sig (HIx 1) (Elt F) ℕ UU ℕ) := (Emb.inl : Emb UP (UP × Counters)).trans embR

/-- The flat array of 131072 samples. -/
abbrev iV : Memref sig .scVector .hbm S131072 .i32 := Memref.whole main_v0_scv
/-- The flat table of 2048 by 2048 words. -/
abbrev oV : Memref sig .scVector .hbm S4194304 .f32 := Memref.whole main_v1_scv
/-- The tile's buffer of 4096 samples. -/
abbrev aV : Memref sig .scVector .vmem S4096 .i32 := Memref.whole cc0_scratch0
/-- The tile's buffer of eight table rows. -/
abbrev bV : Memref sig .scVector .vmem S16384 .f32 := Memref.whole cc0_scratch1

variable [FloatOps F]
variable (d : Dev nD) (i : grid0.Coords)

/-- The SparseCore of grid point `i`. -/
abbrev cV (i : grid0.Coords) : Fin τ.nSC := (i 0).castLE hcore0
/-- The subcore of grid point `i`. -/
abbrev jV (i : grid0.Coords) : Fin τ.nSub := (i 1).castLE hsub0

/-- The tile's thread. -/
abbrev tile (d : Dev nD) (i : grid0.Coords) : Thread nD τ := V d (cV i) (jV i)

/-- The sample buffer of the samples `cs`. -/
def aBuf (cs : Nat → BitVec 32) : Vec F S4096 .i32 := fun j => cs (j 0).val
/-- The tile's sample buffer holding the samples `cs`. -/
abbrev aPts (cs : Nat → BitVec 32) : sProp 𝕄 := (aV).view.loc (tile d i) ↦{fullShare} (aBuf (F := F) cs)
/-- The tile's row buffer at `g`. -/
abbrev bPts (g : Vec F S16384 .f32) : sProp 𝕄 := (bV).view.loc (tile d i) ↦{fullShare} g

/-- The row buffer held through its whole rectangle is the row buffer held. -/
theorem pts_b (g : Vec F S16384 .f32) :
    (((bV).access (.whole S16384)).loc (tile d i) ↦[((bV).access (.whole S16384)).set]{fullShare} g : sProp 𝕄) = bPts d i g :=
  congrArg (fun S : Finset S16384.Idx => ((bV).view.loc (tile d i) ↦[S]{fullShare} g : sProp 𝕄)) (Memref.set_access_whole cc0_scratch1)

/-- Sixteen samples from sample `o`. -/
def lanes (cs : Nat → BitVec 32) (o : Nat) : IVec S16 32 := fun x => cs (o + (x 0).val)

omit [FloatOps F] in
/-- A load of sixteen words at `o` reads the samples from sample `o`. -/
theorem read_a (cs : Nat → BitVec 32) (o : Nat) (h : o + 16 ≤ 4096) :
    ((aV).access (Rect.unit (s := S4096) ![o] S16.size (inb16 h))).read (Elt F) (aBuf (F := F) cs) = lanes cs o := by
  funext x
  refine (View.read_apply _ _).trans ((cast_eq _ _).trans (congrArg cs ?_))
  show o + 1 * (x 0).val = _
  omega

/-- The place the scatter computes is the sample's place in the row buffer. -/
theorem place_eq (cs : Nat → BitVec 32) (hcs : ∀ t, t < 4096 → (cs t).toNat < 2048) (b n k : Nat) (hb : b < 8) (hn : n < 32) (hk : k < 16) :
    (cs (512 * b + 16 * n + k) + BitVec.ofNat 32 (2048 * (n / 4))).toNat = place cs b (16 * n + k) := by
  have h := hcs (512 * b + 16 * n + k) (by omega)
  unfold place
  rw [BitVec.toNat_add, BitVec.toNat_ofNat, show 512 * b + (16 * n + k) = 512 * b + 16 * n + k by omega,
    show (16 * n + k) / 64 = n / 4 by omega]
  omega

/-- A sample's place lies in the row buffer. -/
theorem place_lt (cs : Nat → BitVec 32) (hcs : ∀ t, t < 4096 → (cs t).toNat < 2048) (b t : Nat) (hb : b < 8) (ht : t < 512) :
    place cs b t < 16384 := by
  have h := hcs (512 * b + t) (by omega)
  unfold place
  omega

/-- Each lane of a scatter's index vector is its sample's place. -/
theorem lane_place (cs : Nat → BitVec 32) (hcs : ∀ t, t < 4096 → (cs t).toNat < 2048) (b n : Nat) (hb : b < 8) (hn : n < 32) (x : S16.Idx) :
    (addi (lanes cs (512 * b + 16 * n)) (broadcast S16 (BitVec.ofNat 32 (2048 * (n / 4)))) x).toNat = place cs b (16 * n + (x 0).val) :=
  place_eq cs hcs b n (x 0).val hb hn (x 0).isLt

/-- The scatter's bounds check holds: every lane's place lies in the row buffer. -/
theorem chk_place (cs : Nat → BitVec 32) (hcs : ∀ t, t < 4096 → (cs t).toNat < 2048) (b n : Nat) (hb : b < 8) (hn : n < 32) :
    k0_chk1 (addi (lanes cs (512 * b + 16 * n)) (broadcast S16 (BitVec.ofNat 32 (2048 * (n / 4))))) := fun a x => by
  match a with
  | 0 =>
    have hx : (x 0).val < 16 := (x 0).isLt
    exact (lane_place cs hcs b n hb hn x).trans_lt (place_lt cs hcs b _ hb (by omega))

/-- A scatter in front of a continuation: its load, its check, its store. -/
theorem scat_bind (o : Nat) (h : o + 16 ≤ 4096) (add : BitVec 32) (val : FVec F S16 .f32) (k : PUnit → TP (F := F) i PUnit) :
    (scat i aV bV o h add val >>= k)
      = .op (TpuEff.load (e := .i32) aV (Rect.unit (s := S4096) ![o] S16.size (inb16 h)).toLoadRect (View.loadsAt_vmem h_S16)) fun v : Vec F S16 .i32 =>
        .op (TpuEff.assume (k0_chk1 (addi v (broadcast S16 add))) (k0_chk1.dec (addi v (broadcast S16 add)))) fun hw =>
        (SparseCore.vectorStoreIdx bV ![addi v (broadcast S16 add)] val (fun _ => 1#1) false
          (k0_idx1_inb (addi v (broadcast S16 add)) hw.down) (View.stores_vmem_bits_univ h_S16384 rfl) >>= k) := rfl

/-- One scatter of a batch: the first `n` of its scatters done, it does the next. -/
theorem wp_scat (cs : Nat → BitVec 32) (hcs : ∀ t, t < 4096 → (cs t).toNat < 2048) (b n : Nat) (hb : b < 8) (hn : n < 32)
    (a : F .f32) (g : Vec F S16384 .f32) (h : 512 * b + 16 * n + 16 ≤ 4096) (k : PUnit → TP (F := F) i PUnit) (Q : PUnit → sProp 𝕄) :
    iprop(aPts d i cs ∗ bPts d i (marked cs b n a g) ∗ (aPts d i cs ∗ bPts d i (marked cs b (n + 1) a g)
        -∗ wp frame (wpE (defs₀ (F := F)) 𝒱₀ (tile d i) none) Set.univ (k ⟨⟩) Q))
      ⊢ wp frame (wpE (defs₀ (F := F)) 𝒱₀ (tile d i) none) Set.univ
          (scat i aV bV (512 * b + 16 * n) h (BitVec.ofNat 32 (2048 * (n / 4))) (broadcast S16 a) >>= k) Q := by
  iintro ⟨Ha, Hb, Hk⟩
  rw [scat_bind]
  iapply (wp_load_rect 𝒱₀ (tile d i) none Set.univ (m := aV) (r := Rect.unit (s := S4096) ![512 * b + 16 * n] S16.size (inb16 h)) (q := fullShare)
    (f := aBuf (F := F) cs) (S := Finset.univ) (Finset.subset_univ _)) $$ Ha; iintro Ha
  rw [read_a _ _ h]
  rw [wp_assume_of _ _ _ _ (chk_place cs hcs b n hb hn)]
  ihave Hb' := (Entails.of_eq (pts_b (F := F) d i _).symm) $$ Hb
  iapply (SparseCore.wp_vectorStoreIdx 𝒱₀ (tile d i) none Set.univ (base := bV)) $$ Hb'; iintro Hb'
  ihave Hb := (Entails.of_eq (pts_b (F := F) d i _)) $$ Hb'
  iapply Hk
  isplitl [Ha]; · iexact Ha
  refine Entails.of_eq (congrArg (bPts d i) ((Memref.write_access_whole_univ (Elt F) cc0_scratch1 _ _).trans ?_))
  rw [show ((bV).access (Rect.whole S16384)).read (Elt F) (marked cs b n a g) = marked cs b n a g from
    Memref.read_access_whole (Elt F) cc0_scratch1 _]
  exact marked_step cs b n a g _ _ fun x => lane_place cs hcs b n hb hn (Shape.ofLane x)

/-- The scatters of a batch that are left, then the rest of the program. -/
theorem wp_scats (cs : Nat → BitVec 32) (hcs : ∀ t, t < 4096 → (cs t).toNat < 2048) (b : Nat) (hb : b < 8)
    (a : F .f32) (g : Vec F S16384 .f32) (k : TP (F := F) i PUnit) (Q : PUnit → sProp 𝕄) (n : Nat) (hn : n ≤ 32) :
    iprop(aPts d i cs ∗ bPts d i (marked cs b (32 - n) a g) ∗ (aPts d i cs ∗ bPts d i (marked cs b 32 a g)
        -∗ wp frame (wpE (defs₀ (F := F)) 𝒱₀ (tile d i) none) Set.univ k Q))
      ⊢ wp frame (wpE (defs₀ (F := F)) 𝒱₀ (tile d i) none) Set.univ (scats i aV bV b hb (broadcast S16 a) k n hn) Q := by
  induction n with
  | zero =>
    iintro ⟨Ha, Hb, Hk⟩
    iapply Hk $$ [Ha Hb]
    isplitl [Ha] <;> iassumption
  | succ n ih =>
    have e : 32 - n = 32 - (n + 1) + 1 := by omega
    have e' : 31 - n = 32 - (n + 1) := by omega
    iintro ⟨Ha, Hb, Hk⟩
    unfold scats
    simp only [e']
    iapply (wp_scat d i cs hcs b (32 - (n + 1)) hb (by omega) a g)
    isplitl [Ha]; · iexact Ha
    isplitl [Hb]; · iexact Hb
    iintro ⟨Ha, Hb⟩
    rw [← e]
    have hn' : n ≤ 32 := by omega
    iapply (ih hn')
    isplitl [Ha]; · iexact Ha
    isplitl [Hb]; · iexact Hb
    iexact Hk

/-! ## The copy out -/

/-- The eight rows of the result that batch `b` fills. -/
abbrev oSl (b : Fin 8) : Memref sig .scVector .hbm S16384 .f32 :=
  (oV).slice (Rect.unit (s := S4194304) (boff i b) S16384.size (boff_inb i b)) (fun _ => rfl)
/-- The rows of batch `b`, held at `f`. -/
abbrev oPts (b : Fin 8) (f : Buf (Elt F) ((oSl i b).view.loc (tile d i))) : sProp 𝕄 :=
  (oSl i b).view.loc (tile d i) ↦[(oSl i b).view.set]{fullShare} f

/-- The cell that the copy in signals. -/
abbrev cell0 : GSem nD τ sig := (tile d i, SemLoc.dma cc0_scoped0.sem)
/-- The cell that the copies out signal. -/
abbrev cell2 : GSem nD τ sig := (tile d i, SemLoc.dma cc0_scratch2.sem)

/-- What the waits need and what they record: what the thread owes, beside the recorded waits. -/
abbrev owed (O : CellTallies nD τ sig (HIx 1)) (W : Waits sig (HIx 1)) : sProp 𝕄 :=
  iprop(∃ W', ⌜∀ p ∈ W', p ∈ W ∨ p.2 = none⌝ ∗ owes (tile d i) O W')

omit [FloatOps F] in
/-- What a whole-view write leaves under the view is any contents that read the same there. -/
theorem pts_writes {c : Thread nD τ} {sp : Space} {s : Shape} {e : EltTy} (m : Memref sig c.2.kind sp s e) (f G : Buf (Elt F) (m.view.loc c)) (w : s.Idx → Elt F e)
    (h : ∀ x, m.view.read (Elt F) G x = w x) :
    ((m.view.loc c ↦[m.view.set]{fullShare} m.view.writes (Elt F) f [⟨Rect.whole s, w⟩]) : sProp 𝕄) = m.view.loc c ↦[m.view.set]{fullShare} G :=
  pointsTo_congr fun j hj => by
    obtain ⟨x, -, rfl⟩ := Finset.mem_map.mp hj
    have h1 := congrFun (View.read_writes_whole m.view f w) x
    rw [← h x, View.read_apply, View.read_apply] at h1
    exact (_root_.cast_inj _).mp h1

set_option maxHeartbeats 1000000 in
/-- The copy out and its wait: the batch's rows, at contents that agree with what the row buffer holds. -/
theorem wp_flush (b : Fin 8) (g : Vec F S16384 .f32) (f G : Vec F S4194304 .f32) (hG : ∀ x, (oSl i b).view.read (Elt F) G x = g x)
    (O : CellTallies nD τ sig (HIx 1)) (W : Waits sig (HIx 1)) (k : TP (F := F) i PUnit) (Q : PUnit → sProp 𝕄) :
    iprop(Transfers.MayWaits (tile d i) (none : HIx 1) O ∗ bPts d i g ∗ oPts d i b f ∗ semVal (cell2 d i) 0 ∗ owed d i O W
        ∗ (bPts d i g ∗ oPts d i b G ∗ semVal (cell2 d i) 0 ∗ owed d i O W
          -∗ wp frame (wpE (defs₀ (F := F)) 𝒱₀ (tile d i) none) Set.univ k Q))
      ⊢ wp frame (wpE (defs₀ (F := F)) 𝒱₀ (tile d i) none) Set.univ
          (flush i oV bV (Memref.isWhole_whole _) cc0_scratch2 (boff i b) (boff_inb i b) k) Q := by
  iintro ⟨#Hmw, Hb, Ho, Hs, ⟨%W', %hW', HO⟩, Hk⟩
  unfold flush
  sl_exec
  iapply Hk
  isplitl [Hb]; · iexact Hb
  isplitl [Ho]
  · iapply (Entails.of_eq (pts_writes (c := (tile d i)) (oSl i b) f G g hG)); iexact Ho
  isplitl [Hs]; · iexact Hs
  iexists _; isplitr
  swap; · iexact HO
  ipureintro; intro p hp
  rcases Finset.mem_insert.mp hp with hp | hp; · exact .inr (hp ▸ rfl)
  exact hW' p hp

/-! ## Where the tile's pieces lie -/

/-- The tile's number. -/
def wid (i : grid0.Coords) : Nat := (i 1).val * 2 + (i 0).val

omit [FloatOps F] in
/-- There are thirty-two tiles. -/
theorem wid_lt : wid i < 32 := by
  have h0 : (i 0).val < 2 := (i 0).isLt
  have h1 : (i 1).val < 16 := (i 1).isLt
  unfold wid; omega

/-- A tile's samples start at 4096 times its number. -/
theorem off1_eq : ∀ i : grid0.Coords, k0_off1 i 0 = 4096 * wid i := by decide +kernel
/-- A batch's rows start at 131072 times the tile's number, plus 16384 times the batch's. -/
theorem boff_eq : ∀ (i : grid0.Coords) (b : Fin 8), boff i b 0 = 131072 * wid i + 16384 * b.val := by decide +kernel
/-- The zeroing loop's store `r` of trip `k` starts at word `16 (8 k + r)`. -/
theorem off2_eq : ∀ (k : Fin k0_t1_loop.trips) (r : Fin 8), k0_off2 k (BitVec.ofNat 32 r.val) 0 = 16 * (8 * k.val + r.val) := by decide +kernel

/-! ## The one-hot table -/

/-- The float zero. -/
abbrev zeroF : F .f32 := Scalar.ofBits .f32 0x00000000#32
/-- The float one. -/
abbrev oneF : F .f32 := Scalar.ofBits .f32 0x3F800000#32

/-- The samples as a sequence of words. -/
def words (x : Vec F S131072 .i32) : Nat → BitVec 32 := fun t => if h : t < 131072 then x (fun | ⟨0, _⟩ => ⟨t, h⟩ | ⟨_ + 1, ha⟩ => absurd ha (Nat.not_lt.2 (Nat.le_add_left _ _))) else 0

/-- The one-hot table of the samples `ws`, 64 to a row, written out row after row: one where the column is among the row's
    samples, zero elsewhere. -/
def hot (ws : Nat → BitVec 32) : Vec F S4194304 .f32 := fun j =>
  if ∃ t : Fin 64, (ws (64 * ((j 0).val / 2048) + t.val)).toNat = (j 0).val % 2048 then oneF else zeroF

/-- A marked row buffer is its rows of the one-hot table. -/
theorem hot_marked (ws : Nat → BitVec 32) (hws : ∀ t, (ws t).toNat < 2048) (b : Fin 8) (x : S16384.Idx) :
    hot (F := F) ws ((oSl i b).view.emb x) = marked (fun t => ws (4096 * wid i + t)) b.val 32 oneF (fun _ => zeroF) x := by
  have hx : (x 0).val < 16384 := (x 0).isLt
  have e : (((oSl i b).view.emb x) 0).val = 131072 * wid i + 16384 * b.val + (x 0).val := by
    show boff i b 0 + 1 * (x 0).val = _
    rw [boff_eq]; omega
  have hw := wid_lt i
  unfold hot marked place
  rw [e]
  refine if_congr ⟨?_, ?_⟩ rfl rfl
  · rintro ⟨⟨t, ht⟩, h⟩
    dsimp only at h ⊢
    refine ⟨64 * ((x 0).val / 2048) + t, by omega, ?_⟩
    dsimp only
    rw [show 4096 * wid i + (512 * b.val + (64 * ((x 0).val / 2048) + t))
      = 64 * ((131072 * wid i + 16384 * b.val + (x 0).val) / 2048) + t by omega, h]
    omega
  · rintro ⟨t, ht, h⟩
    dsimp only at h
    have := hws (4096 * wid i + (512 * b.val + t))
    refine ⟨⟨t % 64, by omega⟩, ?_⟩
    dsimp only
    rw [show 64 * ((131072 * wid i + 16384 * b.val + (x 0).val) / 2048) + t % 64 = 4096 * wid i + (512 * b.val + t) by omega]
    omega

/-! ## The eight batches -/

/-- The rows of the last `n` batches, at the array `f`. -/
def todo (f : Vec F S4194304 .f32) : (n : Nat) → n ≤ 8 → sProp 𝕄
  | 0, _ => iprop(emp)
  | n + 1, h => iprop(oPts d i ⟨7 - n, by omega⟩ f ∗ todo f n (by omega))

/-- The last `n` batches: each fills its rows of the result with the one-hot table and leaves the row buffer at zero. -/
theorem wp_batches (ws : Nat → BitVec 32) (hws : ∀ t, (ws t).toNat < 2048) (f : Vec F S4194304 .f32)
    (O : CellTallies nD τ sig (HIx 1)) (W : Waits sig (HIx 1)) (Q : PUnit → sProp 𝕄) (n : Nat) (hn : n ≤ 8) :
    iprop(Transfers.MayWaits (tile d i) (none : HIx 1) O ∗ aPts d i (fun t => ws (4096 * wid i + t)) ∗ bPts d i (fun _ => zeroF) ∗ todo d i f n hn
        ∗ semVal (cell2 d i) 0 ∗ owed d i O W
        ∗ (aPts d i (fun t => ws (4096 * wid i + t)) ∗ bPts d i (fun _ => zeroF) ∗ todo d i (hot ws) n hn
          ∗ semVal (cell2 d i) 0 ∗ owed d i O W -∗ Q ⟨⟩))
      ⊢ wp frame (wpE (defs₀ (F := F)) 𝒱₀ (tile d i) none) Set.univ (batches i oV aV bV (Memref.isWhole_whole _) cc0_scratch2 n hn) Q := by
  have hcs : ∀ t, t < 4096 → (ws (4096 * wid i + t)).toNat < 2048 := fun t _ => hws _
  induction n with
  | zero =>
    unfold batches todo
    iintro ⟨-, Ha, Hb, Ht, Hs, HO, Hk⟩
    sl_step
    iapply Hk
    isplitl [Ha]; · iexact Ha
    isplitl [Hb]; · iexact Hb
    isplitl [Ht]; · iexact Ht
    isplitl [Hs]; · iexact Hs
    iexact HO
  | succ n ih =>
    unfold batches todo
    have h7 : 7 - n < 8 := by omega
    have hn' : n ≤ 8 := by omega
    have h32 : 32 ≤ 32 := le_rfl
    iintro ⟨#Hmw, Ha, Hb, ⟨Ho, Ht⟩, Hs, HO, Hk⟩
    iapply (wp_scats d i _ hcs (7 - n) h7 oneF (fun _ => zeroF) _ Q 32 h32)
    isplitl [Ha]; · iexact Ha
    isplitl [Hb]; · rw [marked_zero]; iexact Hb
    iintro ⟨Ha, Hb⟩
    iapply (wp_flush d i ⟨7 - n, h7⟩ _ f (hot ws) (hot_marked i ws hws ⟨7 - n, h7⟩) O W)
    isplitr; · iexact Hmw
    isplitl [Hb]; · iexact Hb
    isplitl [Ho]; · iexact Ho
    isplitl [Hs]; · iexact Hs
    isplitl [HO]; · iexact HO
    iintro ⟨Hb, Ho, Hs, HO⟩
    iapply (wp_scats d i _ hcs (7 - n) h7 zeroF (marked _ (7 - n) 32 oneF fun _ => zeroF) _ Q 32 h32)
    isplitl [Ha]; · iexact Ha
    isplitl [Hb]; · rw [marked_zero]; iexact Hb
    iintro ⟨Ha, Hb⟩
    rw [marked_undo]
    iapply (ih hn')
    isplitr; · iexact Hmw
    isplitl [Ha]; · iexact Ha
    isplitl [Hb]; · iexact Hb
    isplitl [Ht]; · iexact Ht
    isplitl [Hs]; · iexact Hs
    isplitl [HO]; · iexact HO
    iintro ⟨Ha, Hb, Ht, Hs, HO⟩
    iapply Hk
    isplitl [Ha]; · iexact Ha
    isplitl [Hb]; · iexact Hb
    isplitl [Ho Ht]; · isplitl [Ho] <;> iassumption
    isplitl [Hs]; · iexact Hs
    iexact HO

/-! ## The zeroing loop -/

/-- The buffer `g` with its first `n` groups of sixteen words at zero. -/
def zeroed (n : Nat) (g : Vec F S16384 .f32) : Vec F S16384 .f32 := fun j => if (j 0).val < 16 * n then zeroF else g j

/-- A store of sixteen zeros after the first `n` groups zeroes one group more. -/
theorem zeroed_step (n : Nat) (g : Vec F S16384 .f32) (off : Fin 1 → Nat) (h : ∀ a, off a + S16.size a ≤ S16384.size a) (ho : off 0 = 16 * n) :
    ((bV).access (Rect.unit (s := S16384) off S16.size h)).write (Elt F) (zeroed n g) zeros Finset.univ = zeroed (n + 1) g := by
  funext j
  by_cases hj : 16 * n ≤ (j 0).val ∧ (j 0).val < 16 * (n + 1)
  · have e : j = ((bV).access (Rect.unit (s := S16384) off S16.size h)).emb
        (fun | ⟨0, _⟩ => ⟨(j 0).val - 16 * n, by show _ < 16; omega⟩ | ⟨_ + 1, ha⟩ => absurd ha (Nat.not_lt.2 (Nat.le_add_left _ _))) := by
      funext a
      match a with
      | 0 => exact Fin.ext (show (j 0).val = off 0 + 1 * ((j 0).val - 16 * n) by omega)
    rw [e, View.write_emb_of_mem _ _ (Finset.mem_univ _), ← e]
    unfold zeroed
    rw [if_pos hj.2]; rfl
  · rw [View.write_of_not_mem]
    · unfold zeroed
      exact if_congr (by omega) rfl rfl
    · intro hm
      obtain ⟨x, -, rfl⟩ := Finset.mem_map.mp hm
      apply hj
      have hx : (x 0).val < 16 := (x 0).isLt
      show 16 * n ≤ off 0 + 1 * (x 0).val ∧ off 0 + 1 * (x 0).val < _
      omega

/-- One store of the zeroing loop zeroes its group of sixteen words. -/
theorem wp_zero16 (k : Fin k0_t1_loop.trips) (r : Fin 8) (g : Vec F S16384 .f32) {α : Type} (k' : PUnit → TP (F := F) i α) (Q : α → sProp 𝕄) :
    iprop(bPts d i (zeroed (8 * k.val + r.val) g) ∗ (bPts d i (zeroed (8 * k.val + r.val + 1) g)
        -∗ wp frame (wpE (defs₀ (F := F)) 𝒱₀ (tile d i) none) Set.univ (k' ⟨⟩) Q))
      ⊢ wp frame (wpE (defs₀ (F := F)) 𝒱₀ (tile d i) none) Set.univ (zero16 i bV k r >>= k') Q := by
  iintro ⟨Hb, Hk⟩
  unfold zero16
  simp only [Idealize.SL.Sem.Prog.bind_assoc]
  iapply (wp_load_rect 𝒱₀ (tile d i) none Set.univ (m := bV) (r := Rect.unit (s := S16384) (k0_off2 k (BitVec.ofNat 32 r.val)) S16.size (k0_off2_inb k r)) (q := fullShare)
    (f := zeroed (8 * k.val + r.val) g) (S := Finset.univ) (Finset.subset_univ _)) $$ Hb; iintro Hb
  iapply (wp_store 𝒱₀ (tile d i) none Set.univ (m := bV) (r := Rect.unit (s := S16384) (k0_off2 k (BitVec.ofNat 32 r.val)) S16.size (k0_off2_inb k r))
    (f := zeroed (8 * k.val + r.val) g) (S := Finset.univ) (Finset.subset_univ _)) $$ Hb; iintro Hb
  rw [zeroed_step _ _ _ _ (off2_eq k r)]
  iapply Hk $$ Hb

end Cert.KernelIdeal.Sc
end
-- ==== Proof.ScBody.lean ====
/-
  The printed SparseCore body is the program of ScProg.lean (`body_eq`).
-/
module
public import proofs.«01_k».proof.Proof.ScProg
@[expose] public section
set_option maxRecDepth 100000
noncomputable section
namespace Cert.KernelIdeal.Sc
open Cert.KernelIdeal Cert.KernelIdeal.Gen
open Idealize.ShloMosaic Idealize.SL.Sem
variable {F : FTy → Type} [FloatOps F]
variable (i : grid0.Coords)
variable  (arg2 : Memref sig .scVector .hbm S131072 .i32) (harg2 : arg2.IsWhole) (arg3 : Memref sig .scVector .hbm S4194304 .f32) (harg3 : arg3.IsWhole)
    (arg4 : Memref sig .scVector .vmem S4096 .i32) (harg4 : arg4.IsWhole) (arg5 : Memref sig .scVector .vmem S16384 .f32) (harg5 : arg5.IsWhole)
    (arg6 : DmaSems sig S_) (r0 : DmaSems sig S_)

/-- The end of the body's first printed window: four scatters, the fifth's load and check, and the values handed on. -/
def part2tail : TP (F := F) i (Σ' (v2 : BitVec 32) (v4 : FVec F S16 .f32) (v5 : FVec F S16 .f32) (v22 : IVec S16 32), k0_chk5 v22) := do
  scat i arg4 arg5 (0) (by omega) (BitVec.ofNat 32 (2048*0)) ones
  scat i arg4 arg5 (16) (by omega) (BitVec.ofNat 32 (2048*0)) ones
  scat i arg4 arg5 (32) (by omega) (BitVec.ofNat 32 (2048*0)) ones
  scat i arg4 arg5 (48) (by omega) (BitVec.ofNat 32 (2048*0)) ones
  let v : Vec F S16 .i32 ← Prog.lift (.load arg4 (Rect.unit (s := S4096) ![64] S16.size (inb16 (o:=64) (by omega))).toLoadRect (View.loadsAt_vmem h_S16))
  let hw ← Prog.lift (TpuEff.assume (k0_chk1 (addi v (broadcast S16 2048#32))) (k0_chk1.dec (addi v (broadcast S16 2048#32))))
  pure ⟨Scalar.muli (Scalar.addi (Scalar.muli (BitVec.ofNat 32 (i 1).val) 2#32) (BitVec.ofNat 32 (i 0).val)) 64#32, zeros, ones, addi v (broadcast S16 2048#32), hw.down⟩

/-- The body's first printed window. -/
theorem part2_eq :
  (k0_part2 (F := F) i arg2 harg2 arg3 harg3 arg4 harg4 arg5 harg5 arg6 r0) =  (do
  Prog.lift (.enqueueDma (arg2.slice (Rect.unit (s := S131072) (k0_off1 i) S4096.size (k0_off1_inb i)) (fun _ => rfl)) (.here arg4) (.dma r0.sem)
    (View.wordExact_bits rfl) harg4.wordExact ⟨Or.inl rfl, trivial⟩)
  Prog.lift (.waitDma2 r0.sem (arg2.slice (Rect.unit (s := S131072) (k0_off1 i) S4096.size (k0_off1_inb i)) (fun _ => rfl)) arg4 (View.wordExact_bits rfl) harg4.wordExact)
  let _ ← Scf.Loop.for k0_t1_loop k0_t1_ok (0#32) fun k _ => do
    zero16 i arg5 k 0; zero16 i arg5 k 1; zero16 i arg5 k 2; zero16 i arg5 k 3
    zero16 i arg5 k 4; zero16 i arg5 k 5; zero16 i arg5 k 6; zero16 i arg5 k 7
    pure (0#32)
  part2tail i arg4 arg5) := rfl

/-- A program of two first steps and a third, with what follows it in three pieces, is the two steps, the third and the
    pieces joined. -/
theorem joined {E : Type → Type} {α β γ δ ε ζ : Type} (e₁ : E α) (e₂ : E β) (l : Prog E γ) (t : γ → Prog E δ) (M : δ → Prog E ε)
    (L : ε → Prog E ζ) (u : γ → Prog E ζ) (h : ∀ c, ((t c).bind M).bind L = u c) :
    (((Prog.lift e₁ >>= fun _ => Prog.lift e₂ >>= fun _ => l >>= t) >>= M) >>= L)
      = (Prog.lift e₁ >>= fun _ => Prog.lift e₂ >>= fun _ => l >>= u) :=
  congrArg (Prog.op e₁) (funext fun _ => congrArg (Prog.op e₂) (funext fun _ =>
    ((congrArg (Prog.bind · L) (Prog.bind_assoc l t M)).trans (Prog.bind_assoc l _ L)).trans
      (congrArg (Prog.bind l) (funext h))))

set_option maxHeartbeats 2000000 in
/-- The printed body is `body`. -/
theorem body_eq :
    cc0__sc_build_s_body (F := F) i arg2 harg2 arg3 harg3 arg4 harg4 arg5 harg5 arg6 r0
      = body i arg2 harg2 arg3 harg3 arg4 harg4 arg5 harg5 arg6 r0 := by
  unfold cc0__sc_build_s_body body k0_part63
  rw [part2_eq]
  exact joined _ _ _ _ _ _ _ (fun _ => rfl)
end Cert.KernelIdeal.Sc
-- ==== Proof.ScTile.lean ====
/-
  The SparseCore kernel's whole run on one tile (`tile_body`): the samples' copy in, the zeroing loop, the eight batches.
-/
module

public import proofs.«01_k».proof.Proof.ScRun
public import proofs.«01_k».proof.Proof.ScBody
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 16384

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (i : grid0.Coords)

/-! ## The tile's whole run -/

/-- The tile's 4096 samples of the flat sample array. -/
abbrev iSl : Memref sig .scVector .hbm S4096 .i32 :=
  (iV).slice (Rect.unit (s := S131072) (k0_off1 i) S4096.size (k0_off1_inb i)) (fun _ => rfl)
/-- The tile's samples, held at `x`. -/
abbrev iPts (x : Vec F S131072 .i32) : sProp 𝕄 := (iSl i).view.loc (tile d i) ↦[(iSl i).view.set]{fullShare} x

/-- The tile's sample `y` is sample `4096 n + y` of the flat array, `n` being the tile's number. -/
theorem read_iSl (x : Vec F S131072 .i32) (y : S4096.Idx) :
    (iSl i).view.read (Elt F) x y = words (F := F) x (4096 * wid i + (y 0).val) := by
  have hy : (y 0).val < 4096 := (y 0).isLt
  have hw := wid_lt i
  have ho := off1_eq i
  unfold words
  rw [dif_pos (by omega)]
  refine (View.read_apply _ _).trans ((cast_eq _ _).trans (congrArg x (funext fun a => ?_)))
  match a with
  | 0 => exact Fin.ext (show k0_off1 i 0 + 1 * (y 0).val = 4096 * wid i + (y 0).val by omega)

omit [FloatOps F] in
/-- The tile's own cells: its two transfer cells, at zero, and the rest. -/
theorem ownSems0_V :
    (ownSems0 (tile d i) : sProp 𝕄)
      = iprop(semVal (cell0 d i) 0 ∗ semVal (cell2 d i) 0
          ∗ bigSep (((ownCells (tile d i)).erase (cell0 d i)).erase (cell2 d i)) fun g => semVal g 0) := by
  unfold SparseCore.Cfg.ownSems0
  rw [SparseCore.bigSep_erase' ((mem_ownCells (g := cell0 d i)).mpr ⟨rfl, by
      show (SemLoc.dma cc0_scoped0.sem : SemLoc sig).isScoped .scVector = true; decide⟩),
    SparseCore.bigSep_erase' (Finset.mem_erase.mpr ⟨by simp [cell0, cell2]; decide,
      (mem_ownCells (g := cell2 d i)).mpr ⟨rfl, by show (SemLoc.dma cc0_scratch2.sem : SemLoc sig).isScoped .scVector = true; decide⟩⟩)]

omit [FloatOps F] in
/-- The tile's own buffers: the sample buffer and the row buffer, at some contents, and the rest. -/
theorem ownBufs_V :
    (ownBufs (tile d i) : sProp 𝕄)
      = iprop((∃ f, ((tile d i)).loc cc0_scratch0 ↦{fullShare} f) ∗ (∃ f, ((tile d i)).loc cc0_scratch1 ↦{fullShare} f)
          ∗ bigSep (((ownRefs (τ := τ) (.scVector (cV i) (jV i))).erase ((Proc.scVector (cV i) (jV i)).devRef cc0_scratch0)).erase
              ((Proc.scVector (cV i) (jV i)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]

/-- The zeroing loop's invariant: before trip `k` the first `8 k` groups of the row buffer are zero. -/
def inv (g : Vec F S16384 .f32) (k : Nat) (_ : BitVec 32) : sProp 𝕄 := bPts d i (zeroed (8 * k) g)

set_option maxHeartbeats 2000000 in
/-- The tile runs: its samples as they were, its rows of the result the one-hot table's. -/
theorem tile_body (hF : (K (F := F)).Facts) (x : Vec F S131072 .i32) (hx : ∀ t, (words (F := F) x t).toNat < 2048) (f : Vec F S4194304 .f32)
    (O : CellTallies nD τ sig (HIx 1)) (W : Waits sig (HIx 1)) (hO : ∀ g, O g none = 0) :
    iprop(levAts (K (F := F)).L (K (F := F)).lev ∗ emp
        ∗ (iPts d i x ∗ todo d i f 8 le_rfl)
        ∗ scopedBufs (tile d i) ∗ scopedSems0 (tile d i) ∗ owes (tile d i) O W)
      ⊢ wp frame (wpE (defs₀ (F := F)) 𝒱₀ (tile d i) none) Set.univ
          (body i iV (Memref.isWhole_whole _) oV (Memref.isWhole_whole _) aV (Memref.isWhole_whole _) bV (Memref.isWhole_whole _) cc0_scratch2 cc0_scoped0)
          fun _ => iprop((iPts d i x ∗ todo d i (hot (words (F := F) x)) 8 le_rfl)
            ∗ scopedBufs (tile d i) ∗ scopedSems0 (tile d i) ∗ owed d i O W) := by
  rw [(K (F := F)).scopedBufs_V hF d (cV i) (jV i), SparseCore.Cfg.scopedSems0_V (Val := Elt F) d (cV i) (jV i), ownSems0_V, ownBufs_V]
  iintro ⟨#Hlv, -, ⟨Hi, Ht⟩, ⟨⟨%fa, Ha⟩, ⟨%fb, Hb⟩, Hbufs⟩, ⟨Hs0, Hs2, Hsems⟩, HO⟩
  ihave #Hmw := (show levAts (K (F := F)).L (K (F := F)).lev ⊢ Transfers.MayWaits (tile d i) (default : HIx 1) O from
    (K (F := F)).mayWaits_none (thr := (tile d i)) hO) $$ Hlv
  ihave Ha' := (Entails.of_eq (show (((tile d i)).loc cc0_scratch0 ↦{fullShare} fa : sProp 𝕄) = (aV).view.loc (tile d i) ↦{fullShare} fa from rfl)) $$ Ha
  ihave Hb' := (Entails.of_eq (show (((tile d i)).loc cc0_scratch1 ↦{fullShare} fb : sProp 𝕄) = bPts d i fb from rfl)) $$ Hb
  unfold body
  sl_exec
  have ha : ∀ w, w = (iSl i).view.read (Elt F) x →
      (((aV).view.loc (tile d i) ↦{fullShare} View.write (Elt F) (aV).view fa w Finset.univ) : sProp 𝕄) = aPts d i (fun t => words (F := F) x (4096 * wid i + t)) :=
    fun w hw => congrArg (fun z : Vec F S4096 .i32 => ((aV).view.loc (tile d i) ↦{fullShare} z : sProp 𝕄))
      ((View.write_whole_univ cc0_scratch0 fa w).trans (hw.trans (funext fun y => read_iSl i x y)))
  ihave Ha := (Entails.of_eq (ha (tile_body.sl.dma0 i x) rfl)) $$ Ha'
  sl_for (inv d i fb) $$ [Hb']
  case region =>
    intro k _
    unfold inv
    iintro Hb
    iapply (wp_zero16 d i k 0); isplitl [Hb]; · iexact Hb
    iintro Hb
    iapply (wp_zero16 d i k 1); isplitl [Hb]; · iexact Hb
    iintro Hb
    iapply (wp_zero16 d i k 2); isplitl [Hb]; · iexact Hb
    iintro Hb
    iapply (wp_zero16 d i k 3); isplitl [Hb]; · iexact Hb
    iintro Hb
    iapply (wp_zero16 d i k 4); isplitl [Hb]; · iexact Hb
    iintro Hb
    iapply (wp_zero16 d i k 5); isplitl [Hb]; · iexact Hb
    iintro Hb
    iapply (wp_zero16 d i k 6); isplitl [Hb]; · iexact Hb
    iintro Hb
    iapply (wp_zero16 d i k 7); isplitl [Hb]; · iexact Hb
    iintro Hb
    sl_step
    iexact Hb
  · unfold inv
    rw [show zeroed (8 * 0) fb = fb from funext fun j => if_neg (by omega)]
    iexact Hb'
  iintro %_ Hb
  unfold inv
  ihave Hb' := (Entails.of_eq (show bPts d i (zeroed (8 * k0_t1_loop.trips) fb) = bPts d i (fun _ => zeroF) from
    congrArg (bPts d i) (funext fun j => if_pos (show (j 0).val < 16 * (8 * 128) from (j 0).isLt)))) $$ Hb
  iapply (wp_batches d i (words (F := F) x) hx f O W _ 8 le_rfl)
  isplitr; · iexact Hmw
  isplitl [Ha]; · iexact Ha
  isplitl [Hb']; · iexact Hb'
  isplitl [Ht]; · iexact Ht
  isplitl [Hs2]; · iexact Hs2
  isplitl [HO]
  · iexists _; isplitr
    swap; · iexact HO
    ipureintro; intro p hp
    rcases Finset.mem_insert.mp hp with hp | hp; · exact .inr (hp ▸ rfl)
    exact .inl hp
  iintro ⟨Ha, Hb, Ht, Hs2, HO⟩
  isplitl [Hi Ht]; · isplitl [Hi] <;> iassumption
  isplitl [Ha Hb Hbufs]
  · isplitl [Ha]; · iexists _; iexact Ha
    isplitl [Hb]; · iexists _; iexact Hb
    iexact Hbufs
  isplitl [Hs0 Hs2 Hsems]
  · isplitl [Hs0]; · iexact Hs0
    isplitl [Hs2]; · iexact Hs2
    iexact Hsems
  iexact HO

end Cert.KernelIdeal.Sc
end
-- ==== Proof.ScPay.lean ====
/-
  What the SparseCore call takes and hands back: each tile its 4096 samples and its 64 rows of the table, the rows at
  whatever they held before and one-hot after; and how the two arrays split over the thirty-two tiles.
-/
module

public import proofs.«01_k».proof.Proof.ScTile

@[expose] public section

set_option maxRecDepth 16384

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays over the tiles -/

/-- The samples' array, as the device's location. -/
abbrev iLoc (d : Dev nD) : Loc nD τ sig := (SparseCore.T d).loc main_v0
/-- The table's array, as the device's location. -/
abbrev oLoc (d : Dev nD) : Loc nD τ sig := (SparseCore.T d).loc main_v1

open Classical in
/-- The elements of an array that satisfy `p`. -/
@[irreducible] def sel (ℓ : Loc nD τ sig) (p : Idx ℓ → Prop) : Finset (Idx ℓ) := Finset.univ.filter p

/-- An element is selected just when it satisfies `p`. -/
theorem mem_sel {ℓ : Loc nD τ sig} {p : Idx ℓ → Prop} {j : Idx ℓ} : j ∈ sel ℓ p ↔ p j := by
  unfold sel; simp

/-- Two disjoint parts of an array at one valuation are their union at it. -/
theorem pts_union (ℓ : Loc nD τ sig) (g : Buf (Elt F) ℓ) {I J : Finset (Idx ℓ)} (h : Disjoint I J) :
    (iprop((ℓ ↦[I]{fullShare} g) ∗ (ℓ ↦[J]{fullShare} g)) : sProp 𝕄) = (ℓ ↦[I ∪ J]{fullShare} g) :=
  have hu : (ℓ ↦[I ∪ J]{fullShare} g : sProp 𝕄) ⊣⊢ iprop((ℓ ↦[I]{fullShare} g) ∗ (ℓ ↦[J]{fullShare} g)) := pointsTo_union h
  (BI.equiv_iff.mp ⟨hu.1, hu.2⟩).symm

/-- A whole array is its thirty-two parts, element `j` in the part of tile `κ j`. -/
theorem tiles_split (ℓ : Loc nD τ sig) (g : Buf (Elt F) ℓ) (κ : Idx ℓ → Nat) (hκ : ∀ j, κ j < 32) :
    (bigSep (Finset.univ : Finset (Fin 2)) fun c => bigSep (Finset.univ : Finset (Fin 16)) fun s =>
      (ℓ ↦[sel ℓ fun j => κ j = s.val * 2 + c.val]{fullShare} g : sProp 𝕄)) = (ℓ ↦{fullShare} g) := by
  rw [← BI.bigSep_univ_prod (fun p : Fin 2 × Fin 16 => (ℓ ↦[sel ℓ fun j => κ j = p.2.val * 2 + p.1.val]{fullShare} g : sProp 𝕄)),
    ← pointsTo_biUnion]
  · congr 1
    refine Finset.eq_univ_iff_forall.2 fun j => Finset.mem_biUnion.2 ⟨(⟨κ j % 2, Nat.mod_lt _ (by omega)⟩, ⟨κ j / 2, by have := hκ j; omega⟩),
      Finset.mem_univ _, mem_sel.2 ?_⟩
    show κ j = κ j / 2 * 2 + κ j % 2
    omega
  · intro t _ t' _ hne
    refine Finset.disjoint_left.2 fun j hj hj' => hne ?_
    have h1 := mem_sel.1 hj
    have h2 := mem_sel.1 hj'
    refine Prod.ext (Fin.ext ?_) (Fin.ext ?_) <;> have := t.1.isLt <;> have := t'.1.isLt <;> omega

variable (d : Dev nD) (i : grid0.Coords)

/-- A tile's samples are those of its number. -/
theorem iPts_eq (x : Vec F S131072 .i32) :
    iPts d i x = (iLoc d ↦[sel (iLoc d) fun j : S131072.Idx => (j 0).val / 4096 = wid i]{fullShare} x : sProp 𝕄) := by
  refine congrArg (fun S : Finset S131072.Idx => (iLoc d ↦[S]{fullShare} x : sProp 𝕄)) (Finset.ext fun j => ?_)
  rw [show (iSl i).view.set = (Rect.unit (s := S131072) (k0_off1 i) S4096.size (k0_off1_inb i)).set from View.set_slice_whole _ _,
    Rect.mem_set_unit, mem_sel]
  have h := off1_eq i
  constructor
  · intro hj
    have h0 := hj 0
    rw [h] at h0
    have : S4096.size 0 = 4096 := rfl
    omega
  · intro hj a
    obtain rfl : a = 0 := Subsingleton.elim _ _
    rw [h]
    have : S4096.size 0 = 4096 := rfl
    omega

/-- A batch's rows are one stretch of the table. -/
theorem oPts_eq (f : Vec F S4194304 .f32) (b : Fin 8) :
    oPts d i b f = (oLoc d ↦[sel (oLoc d) fun j : S4194304.Idx =>
      131072 * wid i + 16384 * b.val ≤ (j 0).val ∧ (j 0).val < 131072 * wid i + 16384 * b.val + 16384]{fullShare} f : sProp 𝕄) := by
  refine congrArg (fun S : Finset S4194304.Idx => (oLoc d ↦[S]{fullShare} f : sProp 𝕄)) (Finset.ext fun j => ?_)
  rw [show (oSl i b).view.set = (Rect.unit (s := S4194304) (boff i b) S16384.size (boff_inb i b)).set from View.set_slice_whole _ _,
    Rect.mem_set_unit, mem_sel]
  have h := boff_eq i b
  have h16 : S16384.size 0 = 16384 := rfl
  constructor
  · intro hj
    have h0 := hj 0
    rw [h] at h0
    omega
  · intro hj a
    obtain rfl : a = 0 := Subsingleton.elim _ _
    rw [h]
    omega

/-- The rows of the last `n` batches are one stretch of the table. -/
theorem todo_eq (f : Vec F S4194304 .f32) (n : Nat) (hn : n ≤ 8) :
    todo d i f n hn = (oLoc d ↦[sel (oLoc d) fun j : S4194304.Idx =>
      131072 * wid i + 16384 * (8 - n) ≤ (j 0).val ∧ (j 0).val < 131072 * (wid i + 1)]{fullShare} f : sProp 𝕄) := by
  induction n with
  | zero =>
    rw [show (sel (oLoc d) fun j : S4194304.Idx => 131072 * wid i + 16384 * (8 - 0) ≤ (j 0).val ∧ (j 0).val < 131072 * (wid i + 1)) = ∅
      from Finset.eq_empty_iff_forall_notMem.2 fun j hj => by have h := mem_sel.1 hj; omega]
    exact (pointsTo_empty).symm
  | succ n ih =>
    rw [todo, ih (by omega), oPts_eq]
    refine (pts_union (oLoc d) f (Finset.disjoint_left.2 fun j hj hj' => ?_)).trans ?_
    · have h1 := mem_sel.1 hj
      have h2 := mem_sel.1 hj'
      dsimp only at h1
      omega
    · refine congrArg (fun S : Finset S4194304.Idx => (oLoc d ↦[S]{fullShare} f : sProp 𝕄)) (Finset.ext fun j => ?_)
      rw [Finset.mem_union, mem_sel, mem_sel, mem_sel]
      dsimp only
      omega

/-- A tile's rows are the stretch of its number. -/
theorem todo8_eq (f : Vec F S4194304 .f32) :
    todo d i f 8 le_rfl = (oLoc d ↦[sel (oLoc d) fun j : S4194304.Idx => (j 0).val / 131072 = wid i]{fullShare} f : sProp 𝕄) := by
  rw [todo_eq]
  refine congrArg (fun S : Finset S4194304.Idx => (oLoc d ↦[S]{fullShare} f : sProp 𝕄)) (Finset.ext fun j => ?_)
  rw [mem_sel, mem_sel]
  omega

/-! ## The payloads -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The call runs on as many SparseCores as its grid has. -/
theorem nCore_zero : (K (F := F)).nCore 0 = grid0.bound 0 := rfl
/-- The call runs on as many subcores as its grid has. -/
theorem nSub_zero : (K (F := F)).nSub 0 = grid0.bound 1 := rfl

/-- A tile's samples `x`, and its rows of the table at `f`. -/
def part (x : Vec F S131072 .i32) (f : Vec F S4194304 .f32) (c : Fin (grid0.bound 0)) (s : Fin (grid0.bound 1)) : sProp 𝕄 :=
  iprop(iPts d (coordsV c s) x ∗ todo d (coordsV c s) f 8 le_rfl)

/-- The samples of tile number `n`. -/
def iPart (x : Vec F S131072 .i32) (n : Nat) : sProp 𝕄 :=
  iLoc d ↦[sel (iLoc d) fun j : S131072.Idx => (j 0).val / 4096 = n]{fullShare} x
/-- The rows of tile number `n`, at `f`. -/
def oPart (f : Vec F S4194304 .f32) (n : Nat) : sProp 𝕄 :=
  oLoc d ↦[sel (oLoc d) fun j : S4194304.Idx => (j 0).val / 131072 = n]{fullShare} f

/-- A tile's part is that of its number. -/
theorem part_eq (x : Vec F S131072 .i32) (f : Vec F S4194304 .f32) (c : Fin (grid0.bound 0)) (s : Fin (grid0.bound 1)) :
    part d x f c s = iprop(iPart d x (s.val * 2 + c.val) ∗ oPart d f (s.val * 2 + c.val)) :=
  congrArg₂ BI.sep (iPts_eq d _ x) (todo8_eq d _ f)

/-- The tiles' samples together are the whole samples' array. -/
theorem iParts_eq (x : Vec F S131072 .i32) : (bigSep (Finset.univ : Finset (Fin 2)) fun c => bigSep (Finset.univ : Finset (Fin 16)) fun s =>
    iPart d x (s.val * 2 + c.val)) = (iLoc d ↦{fullShare} x : sProp 𝕄) :=
  tiles_split (iLoc d) x (fun j : S131072.Idx => (j 0).val / 4096) fun j => by have : (j 0).val < 131072 := (j 0).isLt; omega
/-- The tiles' rows together are the whole table. -/
theorem oParts_eq (f : Vec F S4194304 .f32) : (bigSep (Finset.univ : Finset (Fin 2)) fun c => bigSep (Finset.univ : Finset (Fin 16)) fun s =>
    oPart d f (s.val * 2 + c.val)) = (oLoc d ↦{fullShare} f : sProp 𝕄) :=
  tiles_split (oLoc d) f (fun j : S4194304.Idx => (j 0).val / 131072) fun j => by have : (j 0).val < 4194304 := (j 0).isLt; omega

/-- The tiles' parts are the two arrays whole. -/
theorem parts_eq (x : Vec F S131072 .i32) (f : Vec F S4194304 .f32) :
    (bigSep Finset.univ fun c => bigSep Finset.univ fun s => part d x f c s) = (iprop((iLoc d ↦{fullShare} x) ∗ (oLoc d ↦{fullShare} f)) : sProp 𝕄) := by
  simp only [part_eq, bigSep_sep']
  exact congrArg₂ BI.sep (iParts_eq d x) (oParts_eq d f)

variable (x : Dev nD → Vec F S131072 .i32) (f : Dev nD → Vec F S4194304 .f32)

/-- A tile's rows may be handed over in a launch. -/
instance todo_storable (d : Dev nD) (f : Vec F S4194304 .f32) (i : grid0.Coords) :
    BI.Storable (upEmb : UEmb _ 𝕄) (todo d i f 8 le_rfl) := by
  rw [todo8_eq]
  infer_instance

/-- A tile's part may be handed over in a launch. -/
instance part_storable (d : Dev nD) (x : Vec F S131072 .i32) (f : Vec F S4194304 .f32) (c s) :
    BI.Storable (upEmb : UEmb _ 𝕄) (part d x f c s) := by
  unfold part
  infer_instance

/-- A tile's end in the form the launch asks for: its recorded waits are its own or the call's. -/
theorem obl_post {A B C : sProp 𝕄} {O : CellTallies nD τ sig (HIx 1)} {W : Waits sig (HIx 1)} {q : Fin 1} :
    iprop(A ∗ B ∗ C ∗ owed d i O W)
      ⊢ iprop(A ∗ B ∗ C ∗ ∃ W', ⌜∀ p ∈ W', p ∈ W ∨ p.2 = none ∨ p.2 = some q⌝ ∗ owes (SparseCore.V d (cV i) (jV i)) O W') := by
  iintro ⟨HA, HB, HC, HO⟩
  icases HO with ⟨%W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task, from its part to its part with the rows one-hot. -/
theorem tile_part (d : Dev nD) (c : Fin (grid0.bound 0)) (s : Fin (grid0.bound 1)) (x : Vec F S131072 .i32)
    (hx : ∀ t, (words (F := F) x t).toNat < 2048) (f : Vec F S4194304 .f32) (hF : (K (F := F)).Facts)
    (O : CellTallies nD τ sig (HIx 1)) (W : Waits sig (HIx 1)) (hO : ∀ g, O g none = 0) (q : Fin 1) :
    iprop(levAts (K (F := F)).L (K (F := F)).lev ∗ emp ∗ part d x f c s
        ∗ scopedBufs (SparseCore.V d (cV (coordsV c s)) (jV (coordsV c s))) ∗ scopedSems0 (SparseCore.V d (cV (coordsV c s)) (jV (coordsV c s)))
        ∗ owes (SparseCore.V d (cV (coordsV c s)) (jV (coordsV c s))) O W)
      ⊢ wp frame (wpE (defs₀ (F := F)) 𝒱₀ (SparseCore.V d (cV (coordsV c s)) (jV (coordsV c s))) none) Set.univ
          (body (coordsV c s) iV (Memref.isWhole_whole _) oV (Memref.isWhole_whole _) aV (Memref.isWhole_whole _) bV (Memref.isWhole_whole _) cc0_scratch2 cc0_scoped0)
          fun _ => iprop(part d x (hot (words (F := F) x)) c s
            ∗ scopedBufs (SparseCore.V d (cV (coordsV c s)) (jV (coordsV c s))) ∗ scopedSems0 (SparseCore.V d (cV (coordsV c s)) (jV (coordsV c s)))
            ∗ ∃ W', ⌜∀ p ∈ W', p ∈ W ∨ p.2 = none ∨ p.2 = some q⌝ ∗ owes (SparseCore.V d (cV (coordsV c s)) (jV (coordsV c s))) O W') :=
  (tile_body d (coordsV c s) hF x hx f O W hO).trans (wp_mono frame _ _ fun _ => obl_post d _)

attribute [irreducible] part

/-- The parts of SparseCore `c`'s tiles. -/
def forCore (d : Dev nD) (x : Vec F S131072 .i32) (f : Vec F S4194304 .f32) (c : Fin (grid0.bound 0)) : sProp 𝕄 :=
  bigSep Finset.univ fun s => part d x f c s

/-- A SparseCore's parts may be handed over in a launch. -/
instance forCore_storable (d : Dev nD) (x : Vec F S131072 .i32) (f : Vec F S4194304 .f32) (c) :
    BI.Storable (upEmb : UEmb _ 𝕄) (forCore d x f c) := by
  unfold forCore
  infer_instance

/-- What each sequencer and each tile is handed, and what it hands back: the table one-hot at the samples. -/
def P : (K (F := F)).Pay (nD := nD) (Val := Elt F) (Name := ℕ) (U := UU) where
  st := fun q d c => match q with
    | 0 => forCore d (x d) (f d) (Fin.cast (nCore_zero (F := F)) c)
  dn := fun q d c => match q with
    | 0 => forCore d (x d) (hot (words (F := F) (x d))) (Fin.cast (nCore_zero (F := F)) c)
  go := fun q d c s => match q with
    | 0 => part d (x d) (f d) (Fin.cast (nCore_zero (F := F)) c) (Fin.cast (nSub_zero (F := F)) s)
  td := fun q d c s => match q with
    | 0 => part d (x d) (hot (words (F := F) (x d))) (Fin.cast (nCore_zero (F := F)) c) (Fin.cast (nSub_zero (F := F)) s)
  x := fun _ _ => iprop(emp)

/-- All that the call hands over may be handed over. -/
instance P_storable : (P x f).IsStorable where
  st q d c := match q with
    | 0 => (inferInstance : BI.Storable (upEmb : UEmb _ 𝕄) (forCore d (x d) (f d) (Fin.cast (nCore_zero (F := F)) c)))
  dn q d c := match q with
    | 0 => (inferInstance : BI.Storable (upEmb : UEmb _ 𝕄)
      (forCore d (x d) (hot (words (F := F) (x d))) (Fin.cast (nCore_zero (F := F)) c)))
  go q d c s := match q with
    | 0 => (inferInstance : BI.Storable (upEmb : UEmb _ 𝕄) (part d (x d) (f d) (Fin.cast (nCore_zero (F := F)) c) (Fin.cast (nSub_zero (F := F)) s)))
  td q d c s := match q with
    | 0 => (inferInstance : BI.Storable (upEmb : UEmb _ 𝕄)
      (part d (x d) (hot (words (F := F) (x d))) (Fin.cast (nCore_zero (F := F)) c) (Fin.cast (nSub_zero (F := F)) s)))

/-- The side conditions on the launches' semaphores and arrays hold. -/
theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

/-- The tiles' task is the call's kernel at the tile's coordinates. -/
theorem defs₀_vector (c : Fin τ.nSC) (s : Fin τ.nSub) :
    defs₀ (F := F) (.scVector c s) 0 ()
      = SparseCore.onTile hcore0 hsub0 (fun c s => cc0__sc_build_s_body (coordsV c s)
          iV (Memref.isWhole_whole _) oV (Memref.isWhole_whole _)
          aV (Memref.isWhole_whole _) bV (Memref.isWhole_whole _) cc0_scratch2 cc0_scoped0) ⟨⟩ c s := rfl

/-- Every tile's task leaves its rows one-hot. -/
theorem tileObl (hx : ∀ d t, (words (F := F) (x d) t).toNat < 2048) : (K (F := F)).TileObl (D (F := F)) 𝒱 (P x f) v₀ 0 := by
  intro d c i O W hO _ _
  simp only [show (P x f).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact tile_part d ⟨_, hci.1⟩ ⟨_, hci.2⟩ (x d) (hx d) (f d) facts O W hO 0

/-- A conjunction over the call's SparseCores is one over the grid's. -/
theorem bigSep_cores (Φ : Fin (grid0.bound 0) → sProp 𝕄) :
    (bigSep Finset.univ fun c : Fin ((K (F := F)).nCore 0) => Φ (Fin.cast (nCore_zero (F := F)) c)) = bigSep Finset.univ Φ :=
  bigSep_congr fun _ _ => congrArg Φ (Fin.ext rfl)
/-- A conjunction over the call's subcores is one over the grid's. -/
theorem bigSep_tasks (Φ : Fin (grid0.bound 1) → sProp 𝕄) :
    (bigSep Finset.univ fun s : Fin ((K (F := F)).nSub 0) => Φ (Fin.cast (nSub_zero (F := F)) s)) = bigSep Finset.univ Φ :=
  bigSep_congr fun _ _ => congrArg Φ (Fin.ext rfl)

/-- A sequencer's operands are its tiles', each way. -/
theorem tasks_eq (d : Dev nD) (x : Vec F S131072 .i32) (f : Vec F S4194304 .f32) (c : Fin (grid0.bound 0)) :
    (bigSep Finset.univ fun s : Fin ((K (F := F)).nSub 0) => part d x f c (Fin.cast (nSub_zero (F := F)) s)) = forCore d x f c :=
  bigSep_tasks (F := F) fun s => part d x f c s

/-- A sequencer splits its operands among its tiles, and joins what they hand back. -/
theorem vecSplit : (K (F := F)).VecSplit' (P x f) 0 := by
  intro d c
  have e := tasks_eq d (x d) (f d) (Fin.cast (nCore_zero (F := F)) c)
  have e' := tasks_eq d (x d) (hot (words (F := F) (x d))) (Fin.cast (nCore_zero (F := F)) c)
  have h : ∀ A B A' B' : sProp 𝕄, A' = A → B' = B → (A ⊢ |={Set.univ}=> iprop(A' ∗ (B' -∗ B))) := by
    rintro A B _ _ rfl rfl
    iintro H
    imodintro
    isplitl [H]; · iexact H
    iintro H; iexact H
  exact h _ _ _ _ e e'

/-- What the call takes: the two arrays whole. -/
theorem st_eq (d : Dev nD) : (bigSep Finset.univ fun c : Fin ((K (F := F)).nCore 0) => (P x f).st 0 d c)
    = (iprop((iLoc d ↦{fullShare} x d) ∗ (oLoc d ↦{fullShare} f d)) : sProp 𝕄) := by
  refine Eq.trans ?_ ((bigSep_cores fun c => forCore d (x d) (f d) c).trans (parts_eq d (x d) (f d)))
  rfl
/-- What the call hands back: the samples as they were, and the table one-hot at them. -/
theorem dn_eq (d : Dev nD) : (bigSep Finset.univ fun c : Fin ((K (F := F)).nCore 0) => (P x f).dn 0 d c)
    = (iprop((iLoc d ↦{fullShare} x d) ∗ (oLoc d ↦{fullShare} (hot (words (F := F) (x d)) : Vec F S4194304 .f32))) : sProp 𝕄) := by
  refine Eq.trans ?_ ((bigSep_cores fun c => forCore d (x d) (hot (words (F := F) (x d))) c).trans (parts_eq d (x d) _))
  rfl

end Cert.KernelIdeal.Sc
end
-- ==== Proof.TcRun.lean ====
/-
  The TensorCore call: what its body leaves in the result's block, and the call entered from the program's arrays.
-/
module

public import proofs.«01_k».proof.Proof.ScRun
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameBody
public import Idealize.ShloMosaic.Lib.Pipeline.Value
public import Idealize.ShloMosaic.Lib.Tactic.Stretches

@[expose] public section

set_option maxRecDepth 16384

noncomputable section

namespace Cert.KernelIdeal.Sc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body -/

/-- One trip of the selection loop: the similarities still in play and the indices chosen so far. -/
def trip (k : Fin k1_t1_loop.trips) (acc : FVec F S256x2048 .f32 × IVec S256x64 32) : FVec F S256x2048 .f32 × IVec S256x64 32 :=
  (k1_pay4 acc.1, k1_pay5 k acc.1 acc.2)

/-- What the body leaves of the result: the chosen indices where the row has a neighbour, the samples it had elsewhere. -/
def tcOut (xb : Vec F S256x256 .f32) (xt : Vec F S256x2048 .f32) (ab : Vec F S256x2048 .bf16) (sf : Vec F S2048x2048 .bf16)
    (sb : Vec F S256x2048 .bf16) (cb : Vec F S256x64 .i32) : Vec F S256x64 .i32 :=
  k1_pay6 ab (Scf.fold trip (k1_pay1 xb xt ab sf sb, k1_pay2)).2 cb

/-- The contents of a memref's buffer on core `c`. -/
abbrev Bf (c : Dev nD) {sp : Space} {S : Shape} {e : EltTy} (M : Memref sig .tc sp S e) : Type := Buf (Elt F) (M.view.loc (c : Thread nD τ))
/-- The buffer of a memref on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- The body's run. -/
def tcRun (c : Dev nD) (i : grid1.Coords) (M0 : Memref sig .tc .vmem S256x256 .f32) (h0 : M0.IsWhole) (M1 : Memref sig .tc .vmem S256x2048 .f32) (h1 : M1.IsWhole)
    (M2 : Memref sig .tc .vmem S256x2048 .bf16) (h2 : M2.IsWhole) (M3 : Memref sig .tc .vmem S2048x2048 .bf16) (h3 : M3.IsWhole)
    (M4 : Memref sig .tc .vmem S256x2048 .bf16) (h4 : M4.IsWhole) (M5 : Memref sig .tc .vmem S256x64 .i32) (h5 : M5.IsWhole)
    (M6 : Memref sig .tc .vmem S256x64 .i32) (h6 : M6.IsWhole)
    (f0 : Bf (F := F) c M0) (f1 : Bf (F := F) c M1) (f2 : Bf (F := F) c M2) (f3 : Bf (F := F) c M3) (f4 : Bf (F := F) c M4) (f5 : Bf (F := F) c M5)
    (f6 : Bf (F := F) c M6) :
    { W : Bf (F := F) c M6 // ∀ (Q : PUnit → sProp 𝕄),
        iprop(pt c M0 f0 ∗ pt c M1 f1 ∗ pt c M2 f2 ∗ pt c M3 f3 ∗ pt c M4 f4 ∗ pt c M5 f5 ∗ pt c M6 f6
            ∗ (iprop(pt c M0 f0 ∗ pt c M1 f1 ∗ pt c M2 f2 ∗ pt c M3 f3 ∗ pt c M4 f4 ∗ pt c M5 f5 ∗ pt c M6 W) -∗ Q ⟨⟩))
          ⊢ wp frame (wpE (defs₀ (F := F)) Variants.none c none) Set.univ (cc1__tc_body i M0 h0 M1 h1 M2 h2 M3 h3 M4 h4 M5 h5 M6 h6) Q } := by
  refine ⟨?_, fun Q => ?run⟩
  case run =>
    iintro ⟨H0, H1, H2, H3, H4, H5, H6, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    iexact H6

set_option maxHeartbeats 1000000 in
/-- What it leaves in the result's buffer is `tcOut` of what it found in the inputs'. -/
theorem tcRun_read (c : Dev nD) (i : grid1.Coords) (M0 : Memref sig .tc .vmem S256x256 .f32) (h0 : M0.IsWhole) (M1 : Memref sig .tc .vmem S256x2048 .f32) (h1 : M1.IsWhole)
    (M2 : Memref sig .tc .vmem S256x2048 .bf16) (h2 : M2.IsWhole) (M3 : Memref sig .tc .vmem S2048x2048 .bf16) (h3 : M3.IsWhole)
    (M4 : Memref sig .tc .vmem S256x2048 .bf16) (h4 : M4.IsWhole) (M5 : Memref sig .tc .vmem S256x64 .i32) (h5 : M5.IsWhole)
    (M6 : Memref sig .tc .vmem S256x64 .i32) (h6 : M6.IsWhole)
    (f0 : Bf (F := F) c M0) (f1 : Bf (F := F) c M1) (f2 : Bf (F := F) c M2) (f3 : Bf (F := F) c M3) (f4 : Bf (F := F) c M4) (f5 : Bf (F := F) c M5)
    (f6 : Bf (F := F) c M6) :
    M6.view.read (Elt F) (tcRun c i M0 h0 M1 h1 M2 h2 M3 h3 M4 h4 M5 h5 M6 h6 f0 f1 f2 f3 f4 f5 f6).1
      = tcOut (M0.view.read (Elt F) f0) (M1.view.read (Elt F) f1) (M2.view.read (Elt F) f2) (M3.view.read (Elt F) f3)
          (M4.view.read (Elt F) f4) (M5.view.read (Elt F) f5) := by
  unfold tcRun
  dsimp only
  rw [View.read_writes_junk_eq_canon]
  sl_open_run
  have z : (![0, 0] : Fin 2 → Nat) = fun _ => 0 := by funext a; fin_cases a <;> rfl
  rw [View.canon_unit_zero z]
  simp only [View.readAt_eq_ld]
  rw [View.ld_unit_zero (S := S256x256) z, View.ld_unit_zero (S := S256x2048) z, View.ld_unit_zero (S := S256x2048) z,
    View.ld_unit_zero (S := S2048x2048) z, View.ld_unit_zero (S := S256x2048) z, View.ld_unit_zero (S := S256x64) z]
  rfl

/-- The body from its seven buffers held at contents: the inputs' as they were, the result's at `tcOut` of them. -/
theorem tc_body (c : Dev nD) (i : grid1.Coords) (M0 : Memref sig .tc .vmem S256x256 .f32) (h0 : M0.IsWhole) (M1 : Memref sig .tc .vmem S256x2048 .f32) (h1 : M1.IsWhole)
    (M2 : Memref sig .tc .vmem S256x2048 .bf16) (h2 : M2.IsWhole) (M3 : Memref sig .tc .vmem S2048x2048 .bf16) (h3 : M3.IsWhole)
    (M4 : Memref sig .tc .vmem S256x2048 .bf16) (h4 : M4.IsWhole) (M5 : Memref sig .tc .vmem S256x64 .i32) (h5 : M5.IsWhole)
    (M6 : Memref sig .tc .vmem S256x64 .i32) (h6 : M6.IsWhole)
    (x0 : Vec F S256x256 .f32) (x1 : Vec F S256x2048 .f32) (x2 : Vec F S256x2048 .bf16) (x3 : Vec F S2048x2048 .bf16) (x4 : Vec F S256x2048 .bf16)
    (x5 : Vec F S256x64 .i32) (x6 : Vec F S256x64 .i32) (R : sProp 𝕄) :
    iprop(R ∗ owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6)
      ⊢ wp frame (wpE (defs₀ (F := F)) Variants.none c none) Set.univ (cc1__tc_body i M0 h0 M1 h1 M2 h2 M3 h3 M4 h4 M5 h5 M6 h6) fun _ =>
          iprop(R ∗ owns (c : Thread nD τ) M0 fullShare x0 ∗ owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare (tcOut x0 x1 x2 x3 x4 x5)) := by
  unfold owns
  rw [h0.set_eq_univ, h1.set_eq_univ, h2.set_eq_univ, h3.set_eq_univ, h4.set_eq_univ, h5.set_eq_univ, h6.set_eq_univ]
  iintro ⟨HR, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩
  have hv := tcRun_read c i M0 h0 M1 h1 M2 h2 M3 h3 M4 h4 M5 h5 M6 h6 f0 f1 f2 f3 f4 f5 f6
  rw [e0, e1, e2, e3, e4, e5] at hv
  iapply ((tcRun c i M0 h0 M1 h1 M2 h2 M3 h3 M4 h4 M5 h5 M6 h6 f0 f1 f2 f3 f4 f5 f6).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HR]; · iexact HR
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  iexists _; isplitr; swap; (· iexact H6); ipureintro; exact hv

/-! ## The call's proof data -/

variable (V : (c : Dev nD) → (b : Ref sig .tc) → Buf (Elt F) ((c : Thread nD τ).loc b))

/-- The features' rows of the block at a grid point, as the fetch stages them. -/
abbrev in0 (c : Dev nD) (t : Fin cfg1.N) : Vec F S256x256 .f32 := ((cfg1.win 0).blk t).view.read (Elt F) (V c main_arg0)
/-- The transposed features, whole. -/
abbrev in1 (c : Dev nD) (t : Fin cfg1.N) : Vec F S256x2048 .f32 := ((cfg1.win 1).blk t).view.read (Elt F) (V c main_v5)
/-- The adjacency's rows of the block. -/
abbrev in2 (c : Dev nD) (t : Fin cfg1.N) : Vec F S256x2048 .bf16 := ((cfg1.win 2).blk t).view.read (Elt F) (V c main_v4)
/-- The one-hot table, whole. -/
abbrev in3 (c : Dev nD) (t : Fin cfg1.N) : Vec F S2048x2048 .bf16 := ((cfg1.win 3).blk t).view.read (Elt F) (V c main_v3)
/-- The one-hot table's rows of the block. -/
abbrev in4 (c : Dev nD) (t : Fin cfg1.N) : Vec F S256x2048 .bf16 := ((cfg1.win 4).blk t).view.read (Elt F) (V c main_v3)
/-- The samples' rows of the block. -/
abbrev in5 (c : Dev nD) (t : Fin cfg1.N) : Vec F S256x64 .i32 := ((cfg1.win 5).blk t).view.read (Elt F) (V c main_arg2)
/-- The block of the result the body leaves there. -/
abbrev out6 (c : Dev nD) (t : Fin cfg1.N) : Vec F S256x64 .i32 := tcOut (in0 V c t) (in1 V c t) (in2 V c t) (in3 V c t) (in4 V c t) (in5 V c t)

/-- The waits recorded so far, bounded by level as the launch bounds them after the SparseCore call. -/
def recd (c : Dev nD) : Set (SemLoc sig × HIx 1) := {p | (K (F := F)).lev ((SparseCore.T c : Thread nD τ), p.1) p.2 ≤ 8 * 1}

/-- The proof data from the valuation `V`: the inputs' blocks kept, the result's block written, nothing owed. -/
def dat (c : Dev nD) : Dat τ (Elt F) (HIx 1) ℕ UU ℕ cfg1 c where
  A w := V c (Pipeline.arrRef spec1 w)
  after w t := match w with
    | ⟨0, _⟩ => in0 V c t
    | ⟨1, _⟩ => in1 V c t
    | ⟨2, _⟩ => in2 V c t
    | ⟨3, _⟩ => in3 V c t
    | ⟨4, _⟩ => in4 V c t
    | ⟨5, _⟩ => in5 V c t
    | ⟨6, _⟩ => out6 V c t
  Φ _ := BI.emp
  q w := Pipeline.shareOf spec1 w
  owed _ := 0
  recorded _ := recd (F := F) c

/-- Window 0's buffer holds its block when the body runs. -/
theorem before0 (c : Dev nD) (t : Fin cfg1.N) (d) : (dat V c).before 0 t d = in0 V c t :=
  (Dat.before_in_eq_fetched (dat V c) 0 rfl (fun _ => rfl) (fun _ _ _ => rfl) (fun _ => rfl) t d).trans rfl
/-- Window 1's buffer holds its block when the body runs. -/
theorem before1 (c : Dev nD) (t : Fin cfg1.N) (d) : (dat V c).before 1 t d = in1 V c t :=
  (Dat.before_in_eq_fetched (dat V c) 1 rfl (fun _ => rfl) (fun _ _ _ => rfl) (fun _ => rfl) t d).trans rfl
/-- Window 2's buffer holds its block when the body runs. -/
theorem before2 (c : Dev nD) (t : Fin cfg1.N) (d) : (dat V c).before 2 t d = in2 V c t :=
  (Dat.before_in_eq_fetched (dat V c) 2 rfl (fun _ => rfl) (fun _ _ _ => rfl) (fun _ => rfl) t d).trans rfl
/-- Window 3's buffer holds its block when the body runs. -/
theorem before3 (c : Dev nD) (t : Fin cfg1.N) (d) : (dat V c).before 3 t d = in3 V c t :=
  (Dat.before_in_eq_fetched (dat V c) 3 rfl (fun _ => rfl) (fun _ _ _ => rfl) (fun _ => rfl) t d).trans rfl
/-- Window 4's buffer holds its block when the body runs. -/
theorem before4 (c : Dev nD) (t : Fin cfg1.N) (d) : (dat V c).before 4 t d = in4 V c t :=
  (Dat.before_in_eq_fetched (dat V c) 4 rfl (fun _ => rfl) (fun _ _ _ => rfl) (fun _ => rfl) t d).trans rfl
/-- Window 5's buffer holds its block when the body runs. -/
theorem before5 (c : Dev nD) (t : Fin cfg1.N) (d) : (dat V c).before 5 t d = in5 V c t :=
  (Dat.before_in_eq_fetched (dat V c) 5 rfl (fun _ => rfl) (fun _ _ _ => rfl) (fun _ => rfl) t d).trans rfl

/-- The body at every point of the grid. -/
theorem body_obligation (c : Dev nD) : BodyObligation (dat V c) (defs₀ (F := F)) Variants.none (none : HIx 1) Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  iintro ⟨-, Howes, ⟨%d0, H0⟩, ⟨%d1, H1⟩, ⟨%d2, H2⟩, ⟨%d3, H3⟩, ⟨%d4, H4⟩, ⟨%d5, H5⟩, ⟨%d6, H6⟩⟩
  rw [before0, before1, before2, before3, before4, before5]
  ihave Hwp := (tc_body c (grid1.coords t) (st1_0 t) (hstage1_0 _) (st1_1 t) (hstage1_1 _) (st1_2 t) (hstage1_2 _) (st1_3 t) (hstage1_3 _)
    (st1_4 t) (hstage1_4 _) (st1_5 t) (hstage1_5 _) (st1_6 t) (hstage1_6 _) (in0 V c t) (in1 V c t) (in2 V c t) (in3 V c t) (in4 V c t) (in5 V c t)
    ((dat V c).before 6 t d6) ((dat V c).owesAt none t.castSucc)) $$ [Howes H0 H1 H2 H3 H4 H5 H6]
  · isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  iapply (wp_mono frame _ _ fun _ => ?_) $$ Hwp
  iintro H
  isplitr; · iempintro
  iexact H

end Cert.KernelIdeal.Sc

end
-- ==== Proof.TcSeg.lean ====
/-
  The TensorCore call entered from the program's arrays: every array of the TensorCore's at a valuation before, the same
  with the result's array rewritten block by block after.
-/
module

public import proofs.«01_k».proof.Proof.TcRun

@[expose] public section

set_option maxRecDepth 16384

noncomputable section

namespace Cert.KernelIdeal.Sc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (V : (c : Dev nD) → (b : Ref sig .tc) → Buf (Elt F) ((c : Thread nD τ).loc b))
variable (adm : (p : Fin 1) → (pcfgs (F := F) p).Adm)

/-- The proof data of the program's one TensorCore call. -/
def pdats : (p : Fin 1) → (c : Dev nD) → Dat τ (Elt F) (HIx 1) ℕ UU ℕ (Pipeline.pin (pcfgs (F := F)) adm p) c
  | ⟨0, _⟩ => fun c => dat V c

/-- What the call leaves in the result's array. -/
def tcRes (c : Dev nD) : Buf (Elt F) ((c : Thread nD τ).loc main_v6) := (dat V c).arrAt 6 cfg1.N

variable (Vp : (c : Dev nD) → (b : Ref sig .tc) → Buf (Elt F) ((c : Thread nD τ).loc b))

/-- What the core owes between the calls: nothing, its recorded waits below the launch's bound. -/
abbrev owes1 (c : Dev nD) : sProp 𝕄 :=
  iprop(∃ W, ⌜(K (F := F)).WBelow (SparseCore.T c : Thread nD τ) W (8 * 1)⌝ ∗ owes (c : Thread nD τ) (0 : CellTallies nD τ sig (HIx 1)) W)

set_option backward.isDefEq.respectTransparency.types false in
/-- The call as a segment: from every array at `V` to every array at `Vp`, the result's rewritten and no other. -/
def seg (hVp_out : ∀ c, Vp c main_v6 = tcRes V c) (hVp_ne : ∀ c (b : Ref sig .tc), b ≠ main_v6 → Vp c b = V c b) :
    Pipeline.RegionSeg (pcfgs (F := F)) adm (pdats V adm) (none : HIx 1) defs₀ Variants.none (K (F := F)).L (K (F := F)).lev 0 where
  win := winFacts₀1
  block_pos := block_pos1
  stage_whole := stage_whole1
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owes1 (F := F) c)
  post c := iprop(unscopedBufs c (Vp c) ∗ owes1 (F := F) c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs_shared (p := 0) (pcfgs (F := F)) adm (pdats V adm) winFacts₀1 sharedIn1 arr_whole1 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = BI.emp from rfl]
    iintro -; iempintro
  hout c := by
    rw [Pipeline.ownSems0_none, show (pdats V adm 0 c).Φ (Fin.last _) = BI.emp from rfl]
    iintro -
    isplitr; · iempintro
    isplitr; · iempintro
    iapply (Entails.of_eq (scopedRest1_eq (Ix := HIx 1) (Val := Elt F) (Name := ℕ) (U := UU) (Lvl := ℕ) c).symm)
    iempintro
  hexit c := by
    have hjoin := Pipeline.unscopedBufs_of_arrays_shared (p := 0) (pcfgs (F := F)) adm (Ix := HIx 1) (Name := ℕ) (U := UU) (Lvl := ℕ) winFacts₀1 sharedIn1 arr_whole1 c
      (pdats V adm) (fun _ _ => rfl) (V c) (Vp c) ((pdats V adm 0 c).arrAt · cfg1.N)
      (fun w => by
        fin_cases w
        · exact ((pdats V adm 0 c).arrAt_in 0 rfl _).trans (hVp_ne c main_arg0 (by decide)).symm
        · exact ((pdats V adm 0 c).arrAt_in 1 rfl _).trans (hVp_ne c main_v5 (by decide)).symm
        · exact ((pdats V adm 0 c).arrAt_in 2 rfl _).trans (hVp_ne c main_v4 (by decide)).symm
        · exact ((pdats V adm 0 c).arrAt_in 3 rfl _).trans (hVp_ne c main_v3 (by decide)).symm
        · exact ((pdats V adm 0 c).arrAt_in 4 rfl _).trans (hVp_ne c main_v3 (by decide)).symm
        · exact ((pdats V adm 0 c).arrAt_in 5 rfl _).trans (hVp_ne c main_arg2 (by decide)).symm
        · exact (hVp_out c).symm)
      (fun b hb => hVp_ne c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

/-- The tables prefetched: none. -/
abbrev adm₀ : (p : Fin 1) → (pcfgs (F := F) p).Adm := fun p => (cfgs p).toPCfg_adm

end Cert.KernelIdeal.Sc

end
-- ==== Proof.ScLaunch.lean ====
/-
  The whole program run: the samples flattened, the SparseCore call, the table reshaped and narrowed, the adjacency
  narrowed, the features transposed, the TensorCore call. Every device ends with each of its arrays at a stated value.
-/
module

public import proofs.«01_k».proof.Proof.ScPay
public import proofs.«01_k».proof.Proof.TcSeg

@[expose] public section

set_option maxRecDepth 16384

noncomputable section

namespace Cert.KernelIdeal.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' values along the program -/

/-- The TensorCore's array `b`, as the device's. -/
abbrev dr (b : Ref sig .tc) : DevRef τ sig := Proc.devRef .tc b

/-- The samples flattened. -/
abbrev op1 : HloOp τ sig (Elt F) := StableHlo.reshape main_arg2 main_v0 (rfl) shapeCasts_S2048x64_S131072
/-- The flat table shaped as 2048 rows of 2048 words. -/
abbrev op2 : HloOp τ sig (Elt F) := StableHlo.reshape main_v1 main_v2 (rfl) shapeCasts_S4194304_S2048x2048
/-- The table rounded to `bf16`. -/
abbrev op3 : HloOp τ sig (Elt F) := StableHlo.unary main_v2 main_v3 (fun v => truncf .bf16 v bitsLt_bf16_f32)
/-- The adjacency converted to `bf16`. -/
abbrev op4 : HloOp τ sig (Elt F) := StableHlo.unary main_arg1 main_v4 (fun v => sitofp .bf16 v)
/-- The features transposed. -/
abbrev op5 : HloOp τ sig (Elt F) := StableHlo.unary main_arg0 main_v5 (fun v => transpose S256x2048 [1, 0] v transposes_S2048x256_S256x2048_1_0)

/-- The arrays at launch. -/
def W0 (d : Dev nD) : Valuation τ sig (Elt F) := fun b => m (d, b)
/-- After the samples are flattened. -/
def W1 (d : Dev nD) : Valuation τ sig (Elt F) := (op1 (F := F)).result (W0 m d)
/-- The flattened samples. -/
def xs (d : Dev nD) : Vec F S131072 .i32 := W1 m d (dr main_v0)
/-- The table's array as it was before the SparseCore call. -/
def tb (d : Dev nD) : Vec F S4194304 .f32 := W1 m d (dr main_v1)
/-- After the SparseCore call: the table one-hot. -/
def W2 (d : Dev nD) : Valuation τ sig (Elt F) := Function.update (W1 m d) (dr main_v1) (hot (words (F := F) (xs m d)) : Vec F S4194304 .f32)
/-- After the table is shaped. -/
def W3 (d : Dev nD) : Valuation τ sig (Elt F) := (op2 (F := F)).result (W2 m d)
/-- After the table is rounded. -/
def W4 (d : Dev nD) : Valuation τ sig (Elt F) := (op3 (F := F)).result (W3 m d)
/-- After the adjacency is converted. -/
def W5 (d : Dev nD) : Valuation τ sig (Elt F) := (op4 (F := F)).result (W4 m d)
/-- After the features are transposed. -/
def W6 (d : Dev nD) : Valuation τ sig (Elt F) := (op5 (F := F)).result (W5 m d)
/-- The TensorCore's arrays before its call. -/
def Vr (d : Dev nD) (b : Ref sig .tc) : Buf (Elt F) ((d : Thread nD τ).loc b) := W6 m d (dr b)
/-- The result that the TensorCore call leaves. -/
def res (d : Dev nD) : Vec F S2048x64 .i32 := tcRes (Vr m) d
/-- After the TensorCore call: its result in place, the rest as before. -/
def W7 (d : Dev nD) : Valuation τ sig (Elt F) := Function.update (W6 m d) (dr main_v6) (res m d)
/-- The TensorCore's arrays after its call. -/
def Vq (d : Dev nD) (b : Ref sig .tc) : Buf (Elt F) ((d : Thread nD τ).loc b) := W7 m d (dr b)

/-- After the call the result's array holds the call's result. -/
theorem Vq_out (d : Dev nD) : Vq m d main_v6 = tcRes (Vr m) d := by
  show Function.update (W6 m d) (dr main_v6) (res m d) (dr main_v6) = res m d
  exact Function.update_self (dr main_v6) (res m d) (W6 m d)
/-- The call changes no array but the result's. -/
theorem Vq_ne (d : Dev nD) (b : Ref sig .tc) (h : b ≠ main_v6) : Vq m d b = Vr m d b :=
  Function.update_of_ne (StableHlo.devRef_ne_of_ne h) _ _

/-! ## The launch's ghost state -/

/-- The handshakes' rounds, and the TensorCore call's staging cells'. -/
def u₀ : UU := (initOf (K (F := F)).hsCells (K (F := F)).hsToks,
  (initOf (Pipeline.cells (Pipeline.pin (pcfgs (F := F)) adm₀) cellOf_inj) (Pipeline.launchToks (Pipeline.pin (pcfgs (F := F)) adm₀) cellOf_inj), 1))

/-- What the device's TensorCore starts with for its call. -/
def G (d : Dev nD) : sProp 𝕄 :=
  iprop(Pipeline.cellsGhost (Pipeline.pin (pcfgs (F := F)) adm₀) EP 0 d ∗ Pipeline.toksInit (Pipeline.pin (pcfgs (F := F)) adm₀) EP 0 d)

/-- A conjunction over one index is its one conjunct. -/
theorem bigSep_one (Φ : Fin 1 → sProp 𝕄) : bigSep Finset.univ Φ = Φ 0 := by
  rw [show (Finset.univ : Finset (Fin 1)) = {0} by decide, bigSep_singleton]

/-- The initial ghost state splits into the handshakes', each device's for its TensorCore call, and nothing for the threads. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
      ∗ bigSep Finset.univ fun thr : Thread nD τ => bigSep Finset.univ fun q : Fin 1 => (P (xs m) (tb m)).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm₀) EP cellOf_inj) $$ HP with ⟨Hc, Ht⟩
  imodintro
  isplitl [HH]; · iexact HH
  isplitr []
  · ihave Hc := (Entails.of_eq (bigSep_congr (s := (Finset.univ : Finset (Dev nD))) fun d _ =>
      bigSep_one fun p => (Pipeline.cellsGhost (Pipeline.pin (pcfgs (F := F)) adm₀) EP p d : sProp 𝕄))) $$ Hc
    ihave Ht := (Entails.of_eq (bigSep_congr (s := (Finset.univ : Finset (Dev nD))) fun d _ =>
      bigSep_one fun p => (Pipeline.toksInit (Pipeline.pin (pcfgs (F := F)) adm₀) EP p d : sProp 𝕄))) $$ Ht
    iapply (Entails.of_eq (bigSep_sep' (Finset.univ : Finset (Dev nD)) (fun d => Pipeline.cellsGhost (Pipeline.pin (pcfgs (F := F)) adm₀) EP 0 d)
      (fun d => (Pipeline.toksInit (Pipeline.pin (pcfgs (F := F)) adm₀) EP 0 d : sProp 𝕄))).symm)
    isplitl [Hc] <;> iassumption
  · iapply (Entails.of_eq (show (BI.emp : sProp 𝕄) = bigSep Finset.univ fun thr : Thread nD τ => bigSep Finset.univ fun q : Fin 1 => (P (xs m) (tb m)).x q thr from by
      simp only [show ∀ q (thr : Thread nD τ), (P (xs m) (tb m)).x q thr = (BI.emp : sProp 𝕄) from fun _ _ => rfl, bigSep_emp_const]))
    iempintro

/-! ## @main -/

/-- The TensorCore's unscoped arrays on device `d`, at the launch's contents. -/
theorem unscoped_held (d : Dev nD) : (unscopedBufs d (fun b => m ((SparseCore.T d).loc b)) : sProp 𝕄) = held (SparseCore.T d) (Pipeline.ucRefs τ sig) (W0 m d) :=
  Pipeline.unscopedBufs_held d (W0 m d)

/-- An array that is not scoped is among those the TensorCore holds. -/
theorem mem_uc (b : Ref sig .tc) (hb : b.isScoped = false) : dr b ∈ Pipeline.ucRefs τ sig :=
  Finset.mem_filter.2 ⟨StableHlo.devRef_mem_tcRefs b, by
    rw [show (dr b).isScoped = b.isScoped from Proc.isScoped_devRef .tc b, hb]; decide⟩

/-- The arrays the SparseCore call takes. -/
abbrev two : Finset (DevRef τ sig) := {dr main_v0, dr main_v1}

/-- The SparseCore call's two arrays are among those the TensorCore holds. -/
theorem two_sub : two ⊆ Pipeline.ucRefs τ sig := by
  intro b hb
  rcases Finset.mem_insert.1 hb with rfl | hb
  · exact mem_uc _ rfl
  · rw [Finset.mem_singleton.1 hb]; exact mem_uc _ rfl

/-- The arrays held are the SparseCore call's two and the rest. -/
theorem held_two (d : Dev nD) (W : Valuation τ sig (Elt F)) :
    (held (SparseCore.T d) (Pipeline.ucRefs τ sig) W : sProp 𝕄)
      = iprop(((iLoc d ↦{fullShare} W (dr main_v0)) ∗ (oLoc d ↦{fullShare} W (dr main_v1))) ∗ held (SparseCore.T d) (Pipeline.ucRefs τ sig \ two) W) := by
  rw [StableHlo.held_sub_split _ two_sub W]
  congr 1
  unfold held
  rw [SparseCore.bigSep_insert' (by decide), bigSep_singleton]

/-- What the device ends with: every unscoped array of the TensorCore's at its final value. -/
abbrev FIN (d : Dev nD) : sProp 𝕄 := held (SparseCore.T d) (Pipeline.ucRefs τ sig) (W7 m d)

/-- An operation between two unscoped arrays touches only arrays that the TensorCore holds. -/
theorem hop {op : HloOp τ sig (Elt F)} {x y : Ref sig .tc} (h : op.bufs = {dr x, dr y}) (hx : x.isScoped = false) (hy : y.isScoped = false) :
    op.bufs ⊆ Pipeline.ucRefs τ sig := by
  rw [h]
  intro b hb
  rcases Finset.mem_insert.1 hb with rfl | hb
  · exact mem_uc _ hx
  · rw [Finset.mem_singleton.1 hb]; exact mem_uc _ hy

/-- After the SparseCore call the table's array is one-hot at the samples. -/
theorem W2_v1 (d : Dev nD) : W2 m d (dr main_v1) = (hot (words (F := F) (xs m d)) : Vec F S4194304 .f32) := by
  unfold W2
  exact Function.update_self (dr main_v1) (hot (words (F := F) (xs m d)) : Vec F S4194304 .f32) (W1 m d)
/-- The SparseCore call changes no other array. -/
theorem W2_ne (d : Dev nD) (b : DevRef τ sig) (h : b ≠ dr main_v1) : W2 m d b = W1 m d b := by
  unfold W2
  exact Function.update_of_ne h (hot (words (F := F) (xs m d)) : Vec F S4194304 .f32) (W1 m d)

/-- After the SparseCore call: the samples unchanged, the table one-hot, the rest as before. -/
theorem held_W2 (d : Dev nD) :
    (iprop(((iLoc d ↦{fullShare} xs m d) ∗ (oLoc d ↦{fullShare} (hot (words (F := F) (xs m d)) : Vec F S4194304 .f32)))
      ∗ held (SparseCore.T d) (Pipeline.ucRefs τ sig \ two) (W1 m d)) : sProp 𝕄) = held (SparseCore.T d) (Pipeline.ucRefs τ sig) (W2 m d) := by
  rw [held_two (F := F) d (W2 m d)]
  rw [W2_v1, W2_ne m d (dr main_v0) (StableHlo.devRef_ne_of_ne (by decide)), StableHlo.held_congr (SparseCore.T d) (V := W1 m d) (V' := W2 m d) fun b hb =>
    (W2_ne m d b fun h => (Finset.mem_sdiff.1 hb).2 (h ▸ Finset.mem_insert_of_mem (Finset.mem_singleton_self _))).symm]
  rfl

/-- The TensorCore call, from every array at its value before to every array at its value after. -/
theorem tc_call (d : Dev nD) (Q : PUnit → sProp 𝕄) :
    iprop((iprop(boundary (SparseCore.T d) ∗ held (SparseCore.T d) (Pipeline.ucRefs τ sig) (W7 m d) ∗ owes1 (F := F) d) -∗ Q ⟨⟩)
        ∗ boundary (SparseCore.T d) ∗ held (SparseCore.T d) (Pipeline.ucRefs τ sig) (W6 m d) ∗ owes1 (F := F) d
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have hl := (K (F := F)).wp_liftProg (D (F := F)) 𝒱 (SparseCore.T d) Set.univ none
    (Prog.op (.customCall (Pipeline.entry (0 : Fin 1)) ()) fun x => .ret x : Prog (TpuEff nD τ sig (Elt F) (ΛP (F := F)) (SparseCore.T d : Thread nD τ).2) PUnit) Q
  refine BIBase.Entails.trans ?_ hl
  have h := Pipeline.RegionSeg.wp (pcfgs (F := F)) adm₀ (pdats (Vr m) adm₀) (none : HIx 1) (phinj := cellOf_inj) EP defs₀ Variants.none
    (K (F := F)).L (K (F := F)).lev (seg (Vr m) adm₀ (Vq m) (Vq_out m) (Vq_ne m)) d none (fun _ h => nomatch h) (fun x => .ret x) Q
  rw [show (seg (Vr m) adm₀ (Vq m) (Vq_out m) (Vq_ne m)).pre d = iprop(unscopedBufs d (Vr m d) ∗ owes1 (F := F) d) from rfl,
    show (seg (Vr m) adm₀ (Vq m) (Vq_out m) (Vq_ne m)).post d = iprop(unscopedBufs d (Vq m d) ∗ owes1 (F := F) d) from rfl] at h
  have hu (W : Valuation τ sig (Elt F)) := Pipeline.unscopedBufs_held (Ix := HIx 1) (Name := ℕ) (U := UU) (Lvl := ℕ) d W
  refine BIBase.Entails.trans ?_ h
  unfold G
  iintro ⟨Hk, Hb, Hh, HO, Hl, Hc, Ht⟩
  isplitl [Hk]
  · iintro ⟨Hb, Hp⟩
    icases Hp with ⟨Hu, HO⟩
    rw [wp_ret]; imodintro
    iapply Hk
    isplitl [Hb]; · iexact Hb
    isplitl [Hu]
    · iapply (Entails.of_eq (hu (W7 m d))); iexact Hu
    iexact HO
  isplitl [Hb]; · iexact Hb
  isplitl [Hh HO]
  · isplitl [Hh]
    · iapply (Entails.of_eq (hu (W6 m d)).symm); iexact Hh
    iexact HO
  isplitl [Hl]; · iexact Hl
  isplitl [Hc] <;> iassumption

/-- The device's program runs from its launch contents to every array at its final value. -/
theorem hmain (κ : GSem nD τ sig → ℕ) (d : Dev nD) :
    iprop((K (F := F)).ctx EH (P (xs m) (tb m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  -- the samples flattened
  iapply (wp_hlo_within 𝒱 (SparseCore.T d) none Set.univ (op := op1) (S := Pipeline.ucRefs τ sig)
    (hop rfl rfl rfl) (V := W0 m d)) $$ [Hb Hheld]
  · isplitl [Hb] <;> iassumption
  iintro ⟨Hb, Hheld⟩
  rw [wp_ret, show (op1 (F := F)).result (W0 m d) = W1 m d from rfl]; imodintro
  ihave H := (Entails.of_eq (held_two (F := F) d (W1 m d))) $$ Hheld
  icases H with ⟨Htwo, Hrest⟩
  -- the SparseCore call
  iapply ((K (F := F)).wp_run (D (F := F)) 𝒱 (EH := EH) (P := P (xs m) (tb m)) κ d 0) $$ [Hst Htwo Hb Hrest Hts HG]
  isplitr; · iexact Hctx
  isplitl [Hst]; · iexact Hst
  isplitl [Htwo]
  · rw [st_eq]; iexact Htwo
  iintro ⟨Hst, Hdn⟩
  ihave Htwo := (Entails.of_eq (dn_eq (xs m) (tb m) d)) $$ Hdn
  ihave Hheld := (Entails.of_eq (held_W2 m d)) $$ [Htwo Hrest]
  · isplitl [Htwo] <;> iassumption
  -- the table reshaped and narrowed, the adjacency narrowed, the features transposed
  iapply (wp_hlo_within 𝒱 (SparseCore.T d) none Set.univ (op := op2) (S := Pipeline.ucRefs τ sig) (hop rfl rfl rfl) (V := W2 m d)) $$ [Hb Hheld]
  · isplitl [Hb] <;> iassumption
  iintro ⟨Hb, Hheld⟩
  rw [wp_ret, show (op2 (F := F)).result (W2 m d) = W3 m d from rfl]; imodintro
  iapply (wp_hlo_within 𝒱 (SparseCore.T d) none Set.univ (op := op3) (S := Pipeline.ucRefs τ sig) (hop rfl rfl rfl) (V := W3 m d)) $$ [Hb Hheld]
  · isplitl [Hb] <;> iassumption
  iintro ⟨Hb, Hheld⟩
  rw [wp_ret, show (op3 (F := F)).result (W3 m d) = W4 m d from rfl]; imodintro
  iapply (wp_hlo_within 𝒱 (SparseCore.T d) none Set.univ (op := op4) (S := Pipeline.ucRefs τ sig) (hop rfl rfl rfl) (V := W4 m d)) $$ [Hb Hheld]
  · isplitl [Hb] <;> iassumption
  iintro ⟨Hb, Hheld⟩
  rw [wp_ret, show (op4 (F := F)).result (W4 m d) = W5 m d from rfl]; imodintro
  iapply (wp_hlo_within 𝒱 (SparseCore.T d) none Set.univ (op := op5) (S := Pipeline.ucRefs τ sig) (hop rfl rfl rfl) (V := W5 m d)) $$ [Hb Hheld]
  · isplitl [Hb] <;> iassumption
  iintro ⟨Hb, Hheld⟩
  rw [wp_ret, show (op5 (F := F)).result (W5 m d) = W6 m d from rfl]; imodintro
  -- the TensorCore call
  unfold SparseCore.Cfg.tcSt
  icases Hst with ⟨⟨%W, %hW, HO⟩, Hst⟩
  rw [(K (F := F)).Otc_end d (n := (0 : Fin 1).val + 1) le_rfl, (K (F := F)).Otc_end d (n := 1) le_rfl]
  ihave Hlev := (SparseCore.Cfg.ctx_levAts κ) $$ Hctx
  iapply (tc_call m d _) $$ [Hst Hb Hheld Hts HG HO Hlev]
  isplitl [Hst Hts]
  · iintro ⟨Hb, Hheld, ⟨%W', %hW', HO⟩⟩
    imodintro
    isplitl [Hst HO]
    · isplitl [HO]
      · iexists W'
        isplitr
        · ipureintro; exact hW'
        · iexact HO
      · iexact Hst
    isplitl [Hheld]; · iexact Hheld
    isplitl [Hb] <;> iassumption
  isplitl [Hb]; · iexact Hb
  isplitl [Hheld]; · iexact Hheld
  isplitl [HO]
  · iexists W
    isplitr
    · ipureintro; exact hW
    · iexact HO
  isplitl [Hlev] <;> iassumption

/-- Every unscoped array of the TensorCore's is at its final value. -/
def fq (d : Dev nD) (s' : Phys nD τ sig (Elt F)) : Prop := ∀ b : Ref sig .tc, b.isScoped = false → s'.mem.mem ((SparseCore.T d).loc b) = W7 m d (dr b)

/-- Arrays held at their final values have those values in the memory. -/
theorem hfin (d : Dev nD) (s' : Phys nD τ sig (Elt F)) : iprop(FIN m d ∗ SI s') ⊢ (⌜fq m d s'⌝ : sProp 𝕄) := by
  have h : ∀ b : Ref sig .tc, b.isScoped = false →
      (iprop(FIN m d ∗ SI s') ⊢ (⌜s'.mem.mem ((SparseCore.T d).loc b) = W7 m d (dr b)⌝ : sProp 𝕄)) := by
    intro b hb
    unfold FIN
    rw [StableHlo.held_sub_split (SparseCore.T d) (Finset.singleton_subset_iff.2 (mem_uc b hb)) (W7 m d)]
    unfold held
    rw [bigSep_singleton]
    iintro ⟨⟨Hx, -⟩, HSI⟩
    ihave H := (SI_pointsTo_agree (st := s') (ℓ := (SparseCore.T d).loc b) (I := Finset.univ) (q := fullShare) (f := W7 m d (dr b))) $$ [HSI Hx]
    · isplitl [HSI] <;> iassumption
    icases H with %hx
    ipureintro; exact funext fun i => hx i (Finset.mem_univ i)
  exact fun a ha b hb => h b hb a ha

/-- The whole program's run: every array of the TensorCore's ends at its final value, every semaphore at zero. -/
theorem run_main [∀ e, Nonempty (Elt F e)] (hx : ∀ d t, (words (F := F) (xs m d) t).toNat < 2048) :
    θ_run (Cert.KernelIdeal.defs (F := F)) (Cert.KernelIdeal.threads (F := F)) ⟨m, fun _ => 0, ρ⟩
      fun r => (∀ (d : Dev nD) (b : Ref sig .tc), b.isScoped = false → r.2.mem ((SparseCore.T d).loc b) = W7 m d (dr b)) ∧ r.2.sem = fun _ => 0 :=
  SparseCore.Cfg.θ_run_sc_quiescent (K := K (F := F)) (D := D (F := F)) (𝒱 := 𝒱) (EH := EH) (P := P (xs m) (tb m)) (A := ∅) facts v₀
    (fun q hq => match q with | 0 => nomatch hq)
    (fun q _ => match q with | 0 => tileObl (xs m) (tb m) hx)
    (fun q _ => match q with | 0 => SparseCore.Cfg.VecSplit.of_plain (vecSplit (xs m) (tb m)))
    m ρ main (fun d => G (F := F) d) (FIN m) (u₀ (F := F)) (sep_elim_left.trans (hu₀ m)) (hmain m ρ) (fq m) (hfin m) _ (fun _ h hz => ⟨h, hz⟩)

end Cert.KernelIdeal.Sc
end
-- ==== Proof.ScFrame.lean ====
/-
  The run read at the arguments: each ends as it began.
-/
module

public import proofs.«01_k».proof.Proof.ScLaunch

@[expose] public section

set_option maxRecDepth 16384

noncomputable section

namespace Cert.KernelIdeal.Sc

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- An array that neither a host operation nor the SparseCore call writes is as at launch when the TensorCore call starts. -/
theorem W6_launch (d : Dev nD) (b : Ref sig .tc) (h0 : b ≠ main_v0) (h1 : b ≠ main_v1) (h2 : b ≠ main_v2) (h3 : b ≠ main_v3)
    (h4 : b ≠ main_v4) (h5 : b ≠ main_v5) : W6 m d (dr b) = m (d, dr b) := by
  unfold W6 W5 W4 W3
  rw [StableHlo.unary_result_ne _ _ _ _ _ _ h5, StableHlo.unary_result_ne _ _ _ _ _ _ h4, StableHlo.unary_result_ne _ _ _ _ _ _ h3,
    StableHlo.reshape_result_ne _ _ _ _ _ _ _ h2, W2_ne m d _ (StableHlo.devRef_ne_of_ne h1)]
  unfold W1
  rw [StableHlo.reshape_result_ne _ _ _ _ _ _ _ h0]
  rfl

/-- The same after it. -/
theorem W7_launch (d : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) : W7 m d (dr b) = m (d, dr b) := by
  rw [← W6_launch m d b h0 h1 h2 h3 h4 h5]
  exact Function.update_of_ne (StableHlo.devRef_ne_of_ne h6) _ _

/-- The flattened samples are the samples read in row-major order. -/
theorem xs_eq (d : Dev nD) : xs m d = shapeCast S131072 (m (d, dr main_arg2) : Vec F S2048x64 .i32) shapeCasts_S2048x64_S131072 := by
  unfold xs W1
  exact StableHlo.reshape_result _ _ _ _ _ _ _

/-- Samples below 2048 flatten to samples below 2048. -/
theorem words_lt (d : Dev nD) (h : ∀ j, ((m (d, dr main_arg2) : Vec F S2048x64 .i32) j).toNat < 2048) (t : ℕ) :
    (words (F := F) (xs m d) t).toNat < 2048 := by
  unfold words
  split
  · rw [xs_eq]; exact h _
  · decide

/-- The run: the result array at its value, the arguments unchanged, every semaphore at zero. -/
theorem run_args [∀ e, Nonempty (Elt F e)] (h : ∀ d j, ((m (d, dr main_arg2) : Vec F S2048x64 .i32) j).toNat < 2048) :
    θ_run (Cert.KernelIdeal.defs (F := F)) (Cert.KernelIdeal.threads (F := F)) ⟨m, fun _ => 0, ρ⟩
      fun r => (∀ c : Dev nD, r.2.mem ((c.tc : Thread nD τ).loc main_v6) = res m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run Cert.KernelIdeal.defs _ _).mono (fun _ hr => ⟨fun c =>
    ⟨(hr.1 c main_v6 rfl).trans (Vq_out m c),
      (hr.1 c main_arg0 rfl).trans (W7_launch m c main_arg0 (by decide) (by decide) (by decide) (by decide) (by decide) (by decide) (by decide)),
      (hr.1 c main_arg1 rfl).trans (W7_launch m c main_arg1 (by decide) (by decide) (by decide) (by decide) (by decide) (by decide) (by decide)),
      (hr.1 c main_arg2 rfl).trans (W7_launch m c main_arg2 (by decide) (by decide) (by decide) (by decide) (by decide) (by decide) (by decide))⟩, hr.2⟩)
    (run_main m ρ fun d t => words_lt m d (h d) t)

end Cert.KernelIdeal.Sc
end
-- ==== Proof.Select.lean ====
/-
  Repeated selection of a row's greatest entry is a stable sort of the row, greatest first.
-/
module

public import Idealize.ShloMosaic.Lib.SortFacts
public import Idealize.ShloMosaic.Lib.SortNet.Extract
public import Mathlib.Data.EReal.Basic
public import Mathlib.Data.Finset.Fold

@[expose] public section

namespace Cert.Proof.Select

open Idealize.ShloMosaic

variable {E : Type} [LinearOrder E] {n : ℕ}

/-- Position `a` comes before position `b`: a greater entry, or an equal one at a lower position. -/
def First (g : Fin n → E) (a b : Fin n) : Prop := g b < g a ∨ (g b = g a ∧ a < b)

/-- The sort's comparison: strictly greater. -/
def gt (g : Fin n → E) (a b : Fin n) : Bool := decide (g b < g a)

/-- A position lower than all those of a list ordered by `First`, inserted, leaves it so ordered. -/
theorem pairwise_insert (g : Fin n → E) (a : Fin n) (l : List (Fin n)) (ha : ∀ b ∈ l, a < b) (hl : l.Pairwise (First g)) :
    (insertBefore (gt g) a l).Pairwise (First g) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore (gt g) a l).mem_iff.mp hc) with rfl | hc'
      · exact .inl (of_decide_eq_true h)
      · exact hl.1 c hc'
    · rename_i h
      have hba : g b ≤ g a := not_lt.mp fun q => h (decide_eq_true q)
      refine List.pairwise_cons.mpr ⟨fun c hc => ?_, List.pairwise_cons.mpr hl⟩
      have hca : g c ≤ g a := by
        rcases List.mem_cons.mp hc with rfl | hc'
        · exact hba
        · rcases hl.1 c hc' with q | q
          · exact q.le.trans hba
          · exact q.1.le.trans hba
      rcases hca.lt_or_eq with q | q
      · exact .inl q
      · exact .inr ⟨q, ha c hc⟩

/-- A stable sort of increasing positions leaves them ordered by `First`. -/
theorem pairwise_sort (g : Fin n → E) (l : List (Fin n)) (hl : l.Pairwise (· < ·)) : (stableSort (gt g) l).Pairwise (First g) := by
  induction l with
  | nil => exact List.Pairwise.nil
  | cons a l ih =>
    rw [List.pairwise_cons] at hl
    unfold stableSort
    exact pairwise_insert g a _ (fun b hb => hl.1 b ((perm_stableSort (gt g) l).mem_iff.mp hb)) (ih hl.2)

/-- The sorted positions are ordered by `First`. -/
theorem sorted_first (g : Fin n → E) (i j : Fin n) (hij : i < j) : First g (sortedFrom (gt g) i) (sortedFrom (gt g) j) := by
  have hp : ∀ a b : Fin (sortPositions n (gt g)).length, a < b → First g ((sortPositions n (gt g)).get a) ((sortPositions n (gt g)).get b) :=
    List.pairwise_iff_get.mp (pairwise_sort g (List.finRange n) (List.pairwise_lt_finRange n))
  unfold sortedFrom
  exact hp _ _ (by simp only [Fin.lt_def, Fin.val_cast]; exact hij)

/-- One round: among the entries with the first `k` sorted positions set to the bottom, the greatest is that of sorted
    position `k`, which is the lowest position holding it. -/
theorem round (g : Fin n → E) (bot : E) (hg : ∀ a, bot < g a) (k : Fin n) (v : Fin n → E)
    (hv : ∀ a, (∀ i, i < k → sortedFrom (gt g) i = a → v a = bot) ∧ ((∀ i, i < k → sortedFrom (gt g) i ≠ a) → v a = g a)) :
    (∀ a, v a ≤ v (sortedFrom (gt g) k)) ∧ bot < v (sortedFrom (gt g) k)
      ∧ ∀ a, v a = v (sortedFrom (gt g) k) → sortedFrom (gt g) k ≤ a := by
  have hk : v (sortedFrom (gt g) k) = g (sortedFrom (gt g) k) :=
    (hv _).2 fun i hi e => absurd (sortedFrom_injective _ e) hi.ne
  have key : ∀ a, v a = bot ∨ v a < g (sortedFrom (gt g) k) ∨ (v a = g (sortedFrom (gt g) k) ∧ sortedFrom (gt g) k ≤ a) := by
    intro a
    obtain ⟨j, rfl⟩ := sortedFrom_surjective (gt g) a
    rcases lt_or_ge j k with hj | hj
    · exact .inl ((hv _).1 j hj rfl)
    · rw [(hv _).2 fun i hi e => absurd (sortedFrom_injective _ e) (hi.trans_le hj).ne]
      rcases hj.lt_or_eq with q | rfl
      · rcases sorted_first g k j q with p | p
        · exact .inr (.inl p)
        · exact .inr (.inr ⟨p.1, p.2.le⟩)
      · exact .inr (.inr ⟨rfl, le_rfl⟩)
  rw [hk]
  refine ⟨fun a => ?_, hg _, fun a ha => ?_⟩
  · rcases key a with q | q | q
    · rw [q]; exact (hg _).le
    · exact q.le
    · exact q.1.le
  · rcases key a with q | q | q
    · exact absurd (q ▸ ha) (hg _).ne
    · exact absurd ha q.ne
    · exact q.2

/-- A fold of `max` from below is the value that bounds the entries and is one of them. -/
theorem fold_max_eq (v : Fin n → E) (b : E) (k : Fin n) (hb : b ≤ v k) (h : ∀ a, v a ≤ v k) :
    (Finset.univ : Finset (Fin n)).fold max b v = v k :=
  le_antisymm ((Finset.fold_max_le _).2 ⟨hb, fun a _ => h a⟩) ((Finset.le_fold_max _).2 (.inr ⟨k, Finset.mem_univ _, le_rfl⟩))

/-- A fold of signed `min` of words from above is the word that bounds them and is one of them. -/
theorem fold_minsi_eq [Std.Commutative (α := BitVec 32) IntOp.minsi] [Std.Associative (α := BitVec 32) IntOp.minsi]
    (w : Fin n → BitVec 32) (b : BitVec 32) (k : Fin n) (hb : (w k).toInt ≤ b.toInt) (h : ∀ a, (w k).toInt ≤ (w a).toInt) :
    (Finset.univ : Finset (Fin n)).fold IntOp.minsi b w = w k := by
  have e := Finset.fold_hom (s := (Finset.univ : Finset (Fin n))) (f := w) (b := b) (op := IntOp.minsi) (op' := (min : ℤ → ℤ → ℤ))
    (m := BitVec.toInt) (fun x y => SortNet.toInt_minsi x y)
  refine BitVec.eq_of_toInt_eq (e.symm.trans ?_)
  exact le_antisymm ((Finset.fold_min_le _).2 (.inr ⟨k, Finset.mem_univ _, le_rfl⟩)) ((Finset.le_fold_min _).2 ⟨hb, fun a _ => h a⟩)

/-- Two rows that order their positions alike sort alike. -/
theorem sorted_congr {E' : Type} [LinearOrder E'] (f : Fin n → E') (g : Fin n → E) (h : ∀ a b, f b < f a ↔ g b < g a) (k : Fin n) :
    sortedFrom (gt f) k = sortedFrom (gt g) k := by
  rw [show gt f = gt g from funext fun a => funext fun b => decide_eq_decide.2 (h a b)]

end Cert.Proof.Select
-- ==== Proof.TcRow.lean ====
/-
  The TensorCore call's selection loop, read row by row over the extended reals.
-/
module

public import proofs.«01_k».proof.Proof.TcRun
public import proofs.«01_k».proof.Proof.Select
public import Idealize.ShloMosaic.Lib.Pointwise
public import Idealize.ShloMosaic.PureOps.Ideal.Laws

@[expose] public section

set_option maxRecDepth 16384

noncomputable section

namespace Cert.KernelIdeal.Sc

open Cert.KernelIdeal Cert.KernelIdeal.Gen
open Idealize.ShloMosaic

/-- The bottom of the extended reals, as the loop writes it. -/
theorem neg_inf : Ideal.ofBits .f32 0xFF800000#32 = (⊥ : EReal) := by simp [Ideal.ofBits, Ideal.ieee]

/-- A position as a signed word is its number. -/
theorem ofNat_toInt (a : ℕ) (h : a < 2 ^ 31) : (BitVec.ofNat 32 a).toInt = a := by
  rw [BitVec.toInt_eq_toNat_cond, BitVec.toNat_ofNat]
  have : a % 2 ^ 32 = a := Nat.mod_eq_of_lt (by omega)
  rw [this]
  split <;> omega

/-- Two positions as words are equal exactly when the positions are. -/
theorem ofNat_eq_iff {a b : ℕ} (ha : a < 2 ^ 31) (hb : b < 2 ^ 31) : BitVec.ofNat 32 a = BitVec.ofNat 32 b ↔ a = b := by
  refine ⟨fun e => ?_, fun e => by rw [e]⟩
  have e := congrArg BitVec.toInt e
  rw [ofNat_toInt a ha, ofNat_toInt b hb] at e
  exact_mod_cast e

/-- A choice by the equality of two words. -/
theorem select_eq {α : Type} (a b : BitVec 32) (x y : α) : Scalar.select (IntOp.cmpi .eq a b) x y = if a = b then x else y := by
  unfold Scalar.select IntOp.cmpi
  by_cases h : a = b
  · subst h; simp
  · have hb : (a == b) = false := by simpa using h
    rw [if_neg h, hb]
    rfl

/-- A choice by either of two conditions. -/
theorem select_or {α : Type} (p q : Prop) [Decidable p] [Decidable q] (x y : α) :
    Scalar.select (IntOp.ori (BitVec.ofBool (decide p)) (BitVec.ofBool (decide q))) x y = if p ∨ q then x else y := by
  unfold Scalar.select IntOp.ori
  by_cases hp : p <;> by_cases hq : q <;> simp [hp, hq]

/-- The chosen column of a row: the lowest one that holds the row's greatest entry. -/
theorem pay3_at (v : FVec Ideal S256x2048 .f32) (r : Fin 256) (k : Fin 2048) (hb : ∀ a : Fin 2048, v (ix2 r a) ≤ v (ix2 r k))
    (hl : ∀ a : Fin 2048, v (ix2 r a) = v (ix2 r k) → k ≤ a) : k1_pay3 v (ix2 r (0 : Fin 1)) = BitVec.ofNat 32 k.val := by
  have hm : Finset.fold max (Ideal.ofBits FTy.f32 4286578688#32) (fun x : Fin 2048 => v (ix2 r x)) Finset.univ = v (ix2 r k) :=
    Cert.Proof.Select.fold_max_eq (fun x : Fin 2048 => v (ix2 r x)) _ k (by rw [neg_inf]; exact bot_le) hb
  unfold k1_pay3
  pointwise
  rw [hm]
  have hk : (if v (ix2 r k) = v (ix2 r k) then BitVec.ofNat 32 k.val else 2048#32) = BitVec.ofNat 32 k.val := if_pos rfl
  have h := Cert.Proof.Select.fold_minsi_eq (fun x : Fin 2048 => if v (ix2 r x) = v (ix2 r k) then BitVec.ofNat 32 x.val else 2048#32) 2147483647#32 k
  rw [hk, ofNat_toInt k.val (by omega)] at h
  refine h (by have : (2147483647#32 : BitVec 32).toInt = 2147483647 := by decide
               omega) fun a => ?_
  split
  · rename_i e
    rw [ofNat_toInt a.val (by omega)]
    exact_mod_cast hl a e
  · have : (2048#32 : BitVec 32).toInt = 2048 := by decide
    omega

/-- The row after a round: the chosen column at the bottom. -/
theorem pay4_at (v : FVec Ideal S256x2048 .f32) (r : Fin 256) (k a : Fin 2048) (h : k1_pay3 v (ix2 r (0 : Fin 1)) = BitVec.ofNat 32 k.val) :
    k1_pay4 v (ix2 r a) = if k = a then (⊥ : EReal) else v (ix2 r a) := by
  unfold k1_pay4
  pointwise
  rw [h, neg_inf, select_eq]
  have := ofNat_eq_iff (a := a.val) (b := k.val) (by omega) (by omega)
  exact if_congr (this.trans ⟨fun e => Fin.ext e.symm, fun e => (congrArg Fin.val e).symm⟩) rfl rfl

/-- The indices after a round: the chosen column recorded in the round's place. -/
theorem pay5_at (t : Fin k1_t1_loop.trips) (v : FVec Ideal S256x2048 .f32) (o : IVec S256x64 32) (r : Fin 256) (j : Fin 64) :
    k1_pay5 t v o (ix2 r j) = if j.val = t.val then k1_pay3 v (ix2 r (0 : Fin 1)) else o (ix2 r j) := by
  have ht : t.val < 64 := lt_of_lt_of_le t.isLt k1_t1_abs.2.1
  have hi : Scf.iv 0#32 1#32 t.val = BitVec.ofNat 32 t.val := by simp [Scf.iv]
  unfold k1_pay5
  pointwise
  rw [hi, select_eq]
  exact if_congr (ofNat_eq_iff (by omega) (by omega)) rfl rfl

/-- The result: the chosen columns where the row has a positive adjacency, the samples it had elsewhere. -/
theorem pay6_at (ab : Vec Ideal S256x2048 .bf16) (o cb : IVec S256x64 32) (r : Fin 256) (j : Fin 64) :
    k1_pay6 (F := Ideal) ab o cb (ix2 r j) = if ∃ a : Fin 2048, (0 : EReal) < ab (ix2 r a) then o (ix2 r j) else cb (ix2 r j) := by
  have hb : Ideal.ofBits .bf16 0xFF80#16 = (⊥ : EReal) := by simp [Ideal.ofBits, Ideal.ieee]
  unfold k1_pay6
  pointwise
  refine if_congr ?_ rfl rfl
  rw [show (Ideal.ofBits FTy.bf16 65408#16) = (⊥ : EReal) from hb]
  refine (Finset.lt_fold_max (0 : EReal)).trans ?_
  simp

/-- The masked similarities: the inner product where the column is a candidate, the mask constant elsewhere. -/
theorem pay1_at (xb : FVec Ideal S256x256 .f32) (xt : FVec Ideal S256x2048 .f32) (ab : FVec Ideal S256x2048 .bf16) (sf : FVec Ideal S2048x2048 .bf16)
    (sb : FVec Ideal S256x2048 .bf16) (r : Fin 256) (a : Fin 2048) :
    k1_pay1 (F := Ideal) xb xt ab sf sb (ix2 r a) = if ((0 : EReal) < ∑ v : Fin 2048, ab (ix2 r v) * sf (ix2 v a)) ∨ (0 : EReal) < sb (ix2 r a)
      then (∑ d : Fin 256, xb (ix2 r d) * xt (ix2 d a) : EReal) else Ideal.ofBits .f32 0xF149F2CA#32 := by
  unfold k1_pay1
  pointwise
  exact select_or _ _ _ _

/-- What a left fold over the first numbers keeps from each step to the next holds at its end. -/
theorem foldl_inv {σ : Type} (P : ℕ → σ → Prop) : ∀ (n : ℕ) (g : Fin n → σ → σ) (s : σ), P 0 s → (∀ (k : Fin n) s, P k.val s → P (k.val + 1) (g k s)) →
    P n ((List.finRange n).foldl (fun acc k => g k acc) s)
  | 0, _, s, h0, _ => by simpa using h0
  | n + 1, g, s, h0, hs => by
    rw [List.finRange_succ_last, List.foldl_append, List.foldl_map]
    exact hs (Fin.last n) _ (foldl_inv P n (fun k => g k.castSucc) s h0 fun k s h => hs k.castSucc s h)

/-- A row's order: its positions, greatest entry first, equal entries in order. -/
abbrev order (v : FVec Ideal S256x2048 .f32) (r : Fin 256) : Fin 2048 → Fin 2048 :=
  sortedFrom (Cert.Proof.Select.gt (E := EReal) fun a : Fin 2048 => v (ix2 r a))

/-- A row after `n` rounds: the first `n` positions of its order at the bottom, the rest as they were. -/
def Left (v w : FVec Ideal S256x2048 .f32) (r : Fin 256) (n : ℕ) : Prop :=
  ∀ a : Fin 2048, (∀ i : Fin 2048, i.val < n → order v r i = a → w (ix2 r a) = (⊥ : EReal))
    ∧ ((∀ i : Fin 2048, i.val < n → order v r i ≠ a) → w (ix2 r a) = v (ix2 r a))

/-- A round chooses the next position of the row's order, -/
theorem chosen_at (v w : FVec Ideal S256x2048 .f32) (hv : ∀ (r : Fin 256) (a : Fin 2048), (⊥ : EReal) < v (ix2 r a)) (r : Fin 256) (k : Fin 2048)
    (h : Left v w r k.val) : k1_pay3 w (ix2 r (0 : Fin 1)) = BitVec.ofNat 32 (order v r k).val := by
  obtain ⟨hb, -, hl⟩ := Cert.Proof.Select.round (E := EReal) (fun a : Fin 2048 => v (ix2 r a)) ⊥ (hv r) k (fun a => w (ix2 r a)) h
  exact pay3_at w r _ hb hl

/-- and puts it at the bottom. -/
theorem left_succ (v w : FVec Ideal S256x2048 .f32) (hv : ∀ (r : Fin 256) (a : Fin 2048), (⊥ : EReal) < v (ix2 r a)) (r : Fin 256) (k : Fin 2048)
    (h : Left v w r k.val) : Left v (k1_pay4 w) r (k.val + 1) := by
  intro a
  rw [pay4_at w r _ a (chosen_at v w hv r k h)]
  refine ⟨fun i hi e => ?_, fun hn => ?_⟩
  · rcases Nat.lt_succ_iff_lt_or_eq.1 hi with p | p
    · split
      · rfl
      · exact (h a).1 i p e
    · rw [if_pos ((congrArg (order v r) (Fin.ext p.symm)).trans e)]
  · rw [if_neg (hn k (Nat.lt_succ_self _))]
    exact (h a).2 fun i hi => hn i (Nat.lt_succ_of_lt hi)

/-- What one trip of the loop carries on. -/
theorem trip_eq (k : Fin k1_t1_loop.trips) (w : FVec Ideal S256x2048 .f32) (o : IVec S256x64 32) :
    trip k (w, o) = (k1_pay4 w, k1_pay5 k w o) := rfl

/-- The loop's trip count. -/
theorem trips_eq : k1_t1_loop.trips = 64 := by decide

/-- After the loop's 64 rounds, the indices of each row are the first 64 of its order. -/
theorem rounds_at (v : FVec Ideal S256x2048 .f32) (hv : ∀ (r : Fin 256) (a : Fin 2048), (⊥ : EReal) < v (ix2 r a)) (r : Fin 256) (j : Fin 64) :
    (Scf.fold trip (v, k1_pay2)).2 (ix2 r j) = BitVec.ofNat 32 (order v r ⟨j.val, by omega⟩).val := by
  rw [Scf.fold_eq]
  have h := foldl_inv (σ := FVec Ideal S256x2048 .f32 × IVec S256x64 32)
    (fun n acc => Left v acc.1 r n ∧ ∀ j : Fin 64, j.val < n → acc.2 (ix2 r j) = BitVec.ofNat 32 (order v r ⟨j.val, by omega⟩).val)
    k1_t1_loop.trips trip (v, k1_pay2) ⟨fun a => ⟨fun i hi => absurd hi (Nat.not_lt_zero _), fun _ => rfl⟩, fun j h => absurd h (Nat.not_lt_zero _)⟩ ?_
  · exact h.2 j (by rw [trips_eq]; exact j.isLt)
  · rintro k ⟨w, o⟩ ⟨h1, h2⟩
    have hk : k.val < 2048 := lt_of_lt_of_le k.isLt (k1_t1_abs.2.1.trans (by norm_num))
    have hL : Left v (k1_pay4 w) r (k.val + 1) := left_succ v w hv r ⟨k.val, hk⟩ h1
    rw [trip_eq]
    constructor
    · with_reducible exact hL
    intro j hj
    refine (pay5_at k w o r j).trans ?_
    split
    · rename_i e
      rw [chosen_at v w hv r ⟨k.val, hk⟩ h1]
      exact congrArg (fun i => BitVec.ofNat 32 (order v r i).val) (Fin.ext e.symm)
    · rename_i e
      exact h2 j (lt_of_le_of_ne (Nat.le_of_lt_succ hj) e)

end Cert.KernelIdeal.Sc
end
-- ==== Proof.TcVal.lean ====
/-
  The TensorCore call's result, entry by entry over the extended reals: the blocks put back at their rows of the whole
  arrays.
-/
module

public import proofs.«01_k».proof.Proof.ScFrame
public import proofs.«01_k».proof.Proof.TcRow
public import Idealize.ShloMosaic.Lib.Pipeline.ValueKit

@[expose] public section

set_option maxRecDepth 16384

noncomputable section

namespace Cert.KernelIdeal.Sc

open Cert.KernelIdeal Cert.KernelIdeal.Gen
open Idealize.ShloMosaic Idealize.ShloMosaic.TcCoe

/-- The mask constant: a real number, above the bottom. -/
theorem mask_gt : (⊥ : EReal) < Ideal.ofBits .f32 0xF149F2CA#32 := by
  simp [Ideal.ofBits, Ideal.ieee]
  exact EReal.bot_lt_coe _

/-- The block of window 0 at a grid point is the point's block of rows. -/
theorem idx0 : ∀ t : Fin cfg1.N, win1_0.index t = ![t.val, 0] := (by decide +kernel : ∀ t : Fin grid1.N, win1_0.index t = ![t.val, 0])
/-- The block of window 1 at a grid point is the whole array. -/
theorem idx1 : ∀ t : Fin cfg1.N, win1_1.index t = ![0, 0] := (by decide +kernel : ∀ t : Fin grid1.N, win1_1.index t = ![0, 0])
/-- The block of window 2 at a grid point is the point's block of rows. -/
theorem idx2 : ∀ t : Fin cfg1.N, win1_2.index t = ![t.val, 0] := (by decide +kernel : ∀ t : Fin grid1.N, win1_2.index t = ![t.val, 0])
/-- The block of window 3 at a grid point is the whole array. -/
theorem idx3 : ∀ t : Fin cfg1.N, win1_3.index t = ![0, 0] := (by decide +kernel : ∀ t : Fin grid1.N, win1_3.index t = ![0, 0])
/-- The block of window 4 at a grid point is the point's block of rows. -/
theorem idx4 : ∀ t : Fin cfg1.N, win1_4.index t = ![t.val, 0] := (by decide +kernel : ∀ t : Fin grid1.N, win1_4.index t = ![t.val, 0])
/-- The block of window 5 at a grid point is the point's block of rows. -/
theorem idx5 : ∀ t : Fin cfg1.N, win1_5.index t = ![t.val, 0] := (by decide +kernel : ∀ t : Fin grid1.N, win1_5.index t = ![t.val, 0])
/-- The block of window 6 at a grid point is the point's block of rows. -/
theorem idx6 : ∀ t : Fin cfg1.N, win1_6.index t = ![t.val, 0] := (by decide +kernel : ∀ t : Fin grid1.N, win1_6.index t = ![t.val, 0])

/-- The row of the whole array that a block's row is. -/
abbrev rowOf (t : Fin cfg1.N) (r : Fin 256) : Fin 2048 := ⟨256 * t.val + r.val, by
  have : t.val < 8 := t.isLt
  omega⟩

section
variable {F : FTy → Type} [FloatOps F]
variable (V : (c : Dev nD) → (b : Ref sig .tc) → Buf (Elt F) ((c : Thread nD τ).loc b)) (c : Dev nD) (t : Fin cfg1.N)

/-- The features' block at coordinates. -/
theorem in0_at (r : Fin 256) (d : Fin 256) : in0 V c t (ix2 r d) = (V c main_arg0 : Vec F S2048x256 .f32) (ix2 (rowOf t r) d) := by
  blk_ext [in0, idx0 t]
/-- The transposed features are staged whole. -/
theorem in1_at (d : Fin 256) (a : Fin 2048) : in1 V c t (ix2 d a) = (V c main_v5 : Vec F S256x2048 .f32) (ix2 d a) := by
  blk_ext [in1, idx1 t]
/-- The adjacency's block at coordinates. -/
theorem in2_at (r : Fin 256) (a : Fin 2048) : in2 V c t (ix2 r a) = (V c main_v4 : Vec F S2048x2048 .bf16) (ix2 (rowOf t r) a) := by
  blk_ext [in2, idx2 t]
/-- The one-hot table is staged whole. -/
theorem in3_at (v : Fin 2048) (a : Fin 2048) : in3 V c t (ix2 v a) = (V c main_v3 : Vec F S2048x2048 .bf16) (ix2 v a) := by
  blk_ext [in3, idx3 t]
/-- The table's block at coordinates. -/
theorem in4_at (r : Fin 256) (a : Fin 2048) : in4 V c t (ix2 r a) = (V c main_v3 : Vec F S2048x2048 .bf16) (ix2 (rowOf t r) a) := by
  blk_ext [in4, idx4 t]
/-- The samples' block at coordinates. -/
theorem in5_at (r : Fin 256) (j : Fin 64) : in5 V c t (ix2 r j) = (V c main_arg2 : Vec F S2048x64 .i32) (ix2 (rowOf t r) j) := by
  blk_ext [in5, idx5 t]

/-- The block written at a grid point. -/
theorem after6 : (dat V c).after 6 t = out6 V c t := rfl

end

/-- The rows' masked similarities, from the whole arrays: features, features transposed, adjacency, one-hot table. -/
def masked (x : Vec Ideal S2048x256 .f32) (xt : Vec Ideal S256x2048 .f32) (ad : Vec Ideal S2048x2048 .bf16) (s : Vec Ideal S2048x2048 .bf16)
    (i a : Fin 2048) : EReal :=
  if ((0 : EReal) < ∑ v : Fin 2048, ad (ix2 i v) * s (ix2 v a)) ∨ (0 : EReal) < s (ix2 i a)
    then (∑ d : Fin 256, x (ix2 i d) * xt (ix2 d a) : EReal) else Ideal.ofBits .f32 0xF149F2CA#32

/-- What the call leaves at row `i`: the first columns in the order of the masked similarities where the row has a positive
    adjacency, the samples it had elsewhere. -/
def chosen (x : Vec Ideal S2048x256 .f32) (xt : Vec Ideal S256x2048 .f32) (ad : Vec Ideal S2048x2048 .bf16) (s : Vec Ideal S2048x2048 .bf16)
    (cs : Vec Ideal S2048x64 .i32) (i : Fin 2048) (j : Fin 64) : BitVec 32 :=
  if ∃ a : Fin 2048, (0 : EReal) < ad (ix2 i a)
    then BitVec.ofNat 32 (sortedFrom (Cert.Proof.Select.gt (E := EReal) (masked x xt ad s i)) ⟨j.val, by omega⟩).val else cs (ix2 i j)

variable (V : (c : Dev nD) → (b : Ref sig .tc) → Buf (Elt Ideal) ((c : Thread nD τ).loc b)) (c : Dev nD)

/-- The block a grid point leaves, by rows of the whole arrays. -/
theorem out6_at (h : ∀ i a : Fin 2048, (⊥ : EReal) < masked (V c main_arg0) (V c main_v5) (V c main_v4) (V c main_v3) i a) (t : Fin cfg1.N)
    (r : Fin 256) (j : Fin 64) : out6 V c t (ix2 r j)
      = chosen (V c main_arg0) (V c main_v5) (V c main_v4) (V c main_v3) (V c main_arg2) (rowOf t r) j := by
  have hm : ∀ (r : Fin 256) (a : Fin 2048), k1_pay1 (F := Ideal) (in0 V c t) (in1 V c t) (in2 V c t) (in3 V c t) (in4 V c t) (ix2 r a)
      = masked (V c main_arg0) (V c main_v5) (V c main_v4) (V c main_v3) (rowOf t r) a := fun r a => by
    rw [pay1_at]
    simp only [in0_at, in1_at, in2_at, in3_at, in4_at]
    rfl
  unfold out6 tcOut chosen
  rw [pay6_at, rounds_at _ (fun r a => by rw [hm]; exact h _ a)]
  simp only [in2_at, in5_at, order, hm]

/-- The call's result array. -/
theorem tcRes_eq (h : ∀ i a : Fin 2048, (⊥ : EReal) < masked (V c main_arg0) (V c main_v5) (V c main_v4) (V c main_v3) i a) :
    tcRes V c = (fun y => chosen (V c main_arg0) (V c main_v5) (V c main_v4) (V c main_v3) (V c main_arg2) (y 0) (y 1) : Vec Ideal S2048x64 .i32) := by
  unfold tcRes
  refine Pipeline.Dat.arrAt_eq_of_covers (dat := dat V c) 6 _ (by decide +kernel) (fun t hf y => ?_)
  blk_simp
  have y0 : (y 0).val < 256 := (y 0).isLt
  have y1 : (y 1).val < 64 := (y 1).isLt
  have ey : y = ix2 (⟨(y 0).val, y0⟩ : Fin 256) (⟨(y 1).val, y1⟩ : Fin 64) := by
    funext a; match a with
    | ⟨0, _⟩ => rfl
    | ⟨1, _⟩ => rfl
  have e0 : (win1_6.blk t).view.emb y 0 = rowOf t ⟨(y 0).val, y0⟩ := Fin.ext (by
    show _ = 256 * t.val + (y 0).val
    blk_simp [idx6 t]; omega)
  have e1 : (win1_6.blk t).view.emb y 1 = (⟨(y 1).val, y1⟩ : Fin 64) := Fin.ext (by blk_simp [idx6 t])
  rw [e0, e1]
  rw [← out6_at V c h t ⟨(y 0).val, y0⟩ ⟨(y 1).val, y1⟩, ← ey]
  exact congrFun (after6 V c t) y

end Cert.KernelIdeal.Sc
end
-- ==== Proof.KVal.lean ====
/-
  The arrays that the TensorCore call reads, entry by entry over the extended reals, in the arguments at launch.
-/
module

public import proofs.«01_k».proof.Proof.TcVal
public import Idealize.ShloMosaic.Lib.IdealHost

@[expose] public section

set_option maxRecDepth 16384

noncomputable section

namespace Cert.KernelIdeal.Sc

open Cert.KernelIdeal Cert.KernelIdeal.Gen
open Idealize.ShloMosaic Idealize.ShloMosaic.TcCoe

section
variable {F : FTy → Type} [FloatOps F]
variable (m : (ℓ : Loc nD τ sig) → Buf (Elt F) ℓ) (d : Dev nD)

/-- The transposed features. -/
theorem v5_eq : (Vr m d main_v5 : Vec F S256x2048 .f32)
    = transpose S256x2048 [1, 0] (m (d, dr main_arg0) : Vec F S2048x256 .f32) transposes_S2048x256_S256x2048_1_0 := by
  unfold Vr W6
  rw [StableHlo.unary_result]
  unfold W5 W4 W3
  rw [StableHlo.unary_result_ne _ _ _ _ _ _ (by decide : main_arg0 ≠ main_v4), StableHlo.unary_result_ne _ _ _ _ _ _ (by decide : main_arg0 ≠ main_v3),
    StableHlo.reshape_result_ne _ _ _ _ _ _ _ (by decide : main_arg0 ≠ main_v2), W2_ne m d _ (StableHlo.devRef_ne_of_ne (by decide : main_arg0 ≠ main_v1))]
  unfold W1
  rw [StableHlo.reshape_result_ne _ _ _ _ _ _ _ (by decide : main_arg0 ≠ main_v0)]
  rfl

/-- The adjacency as numbers. -/
theorem v4_eq : (Vr m d main_v4 : Vec F S2048x2048 .bf16) = sitofp .bf16 (m (d, dr main_arg1) : Vec F S2048x2048 .i32) := by
  unfold Vr W6
  rw [StableHlo.unary_result_ne _ _ _ _ _ _ (by decide : main_v4 ≠ main_v5)]
  unfold W5
  rw [StableHlo.unary_result]
  unfold W4 W3
  rw [StableHlo.unary_result_ne _ _ _ _ _ _ (by decide : main_arg1 ≠ main_v3),
    StableHlo.reshape_result_ne _ _ _ _ _ _ _ (by decide : main_arg1 ≠ main_v2), W2_ne m d _ (StableHlo.devRef_ne_of_ne (by decide : main_arg1 ≠ main_v1))]
  unfold W1
  rw [StableHlo.reshape_result_ne _ _ _ _ _ _ _ (by decide : main_arg1 ≠ main_v0)]
  rfl

/-- The one-hot table as a matrix. -/
theorem v3_eq : (Vr m d main_v3 : Vec F S2048x2048 .bf16)
    = truncf .bf16 (shapeCast S2048x2048 (hot (words (F := F) (xs m d)) : Vec F S4194304 .f32) shapeCasts_S4194304_S2048x2048) bitsLt_bf16_f32 := by
  unfold Vr W6
  rw [StableHlo.unary_result_ne _ _ _ _ _ _ (by decide : main_v3 ≠ main_v5)]
  unfold W5
  rw [StableHlo.unary_result_ne _ _ _ _ _ _ (by decide : main_v3 ≠ main_v4)]
  unfold W4
  rw [StableHlo.unary_result]
  unfold W3
  rw [StableHlo.reshape_result, W2_v1]
  rfl

/-- A flattened sample is the sample at its row and place. -/
theorem words_at (r : Fin 2048) (t : Fin 64) : words (F := F) (xs m d) (64 * r.val + t.val) = (m (d, dr main_arg2) : Vec F S2048x64 .i32) (ix2 r t) := by
  unfold words
  rw [dif_pos (by omega), xs_eq]
  have e : (64 * r.val + t.val) / 64 = r.val := by omega
  have e' : (64 * r.val + t.val) % 64 = t.val := by omega
  have hx : ∀ k : Fin 131072, shapeCast S131072 (m (d, dr main_arg2) : Vec F S2048x64 .i32) shapeCasts_S2048x64_S131072 (ix1 k)
      = (m (d, dr main_arg2) : Vec F S2048x64 .i32) (ix2 (⟨k.val / 64, by omega⟩ : Fin 2048) (⟨k.val % 64, by omega⟩ : Fin 64)) := fun k => by
    pointwise
  refine Eq.trans (congrArg _ ?_) ((hx ⟨64 * r.val + t.val, by omega⟩).trans (congrArg _ ?_))
  · funext a; match a with
    | ⟨0, _⟩ => rfl
  · exact congrArg₂ ix2 (Fin.ext e) (Fin.ext e')

/-- The flat table at the place of row `r`, column `c`: one where the column is among the row's samples, -/
theorem hot_hit (r c : Fin 2048) (t : Fin 64) (h : ((m (d, dr main_arg2) : Vec F S2048x64 .i32) (ix2 r t)).toNat = c.val) :
    hot (F := F) (words (F := F) (xs m d)) (ix1 (⟨r.val * 2048 + c.val, by omega⟩ : Fin 4194304)) = oneF := by
  refine if_pos ⟨t, ?_⟩
  show (words (F := F) (xs m d) (64 * ((r.val * 2048 + c.val) / 2048) + t.val)).toNat = (r.val * 2048 + c.val) % 2048
  rw [show (r.val * 2048 + c.val) / 2048 = r.val by omega, words_at, h]
  omega

/-- and zero elsewhere. -/
theorem hot_miss (r c : Fin 2048) (h : ∀ t : Fin 64, ((m (d, dr main_arg2) : Vec F S2048x64 .i32) (ix2 r t)).toNat ≠ c.val) :
    hot (F := F) (words (F := F) (xs m d)) (ix1 (⟨r.val * 2048 + c.val, by omega⟩ : Fin 4194304)) = zeroF := by
  refine if_neg fun ⟨t, e⟩ => h t ?_
  replace e : (words (F := F) (xs m d) (64 * ((r.val * 2048 + c.val) / 2048) + t.val)).toNat = (r.val * 2048 + c.val) % 2048 := e
  rw [show (r.val * 2048 + c.val) / 2048 = r.val by omega, words_at] at e
  rw [e]
  omega

end

variable (m : (ℓ : Loc nD τ sig) → Buf (Elt Ideal) ℓ) (d : Dev nD)

/-- The table's entries: one where the column is among the row's samples, -/
theorem v3_hit (r c : Fin 2048) (t : Fin 64) (h : ((m (d, dr main_arg2) : Vec Ideal S2048x64 .i32) (ix2 r t)).toNat = c.val) :
    (Vr m d main_v3 : Vec Ideal S2048x2048 .bf16) (ix2 r c) = (1 : EReal) := by
  rw [v3_eq]
  pointwise
  refine (hot_hit m d r c t h).trans Ideal.ofBits_one_f32

/-- and zero elsewhere. -/
theorem v3_miss (r c : Fin 2048) (h : ∀ t : Fin 64, ((m (d, dr main_arg2) : Vec Ideal S2048x64 .i32) (ix2 r t)).toNat ≠ c.val) :
    (Vr m d main_v3 : Vec Ideal S2048x2048 .bf16) (ix2 r c) = (0 : EReal) := by
  rw [v3_eq]
  pointwise
  refine (hot_miss m d r c h).trans Ideal.ofBits_zero_f32

/-- The adjacency's entries. -/
theorem v4_at (i a : Fin 2048) : (Vr m d main_v4 : Vec Ideal S2048x2048 .bf16) (ix2 i a)
    = ((((m (d, dr main_arg1) : Vec Ideal S2048x2048 .i32) (ix2 i a)).toInt : ℝ) : EReal) := by
  rw [v4_eq]
  pointwise
  rfl

/-- The transposed features' entries. -/
theorem v5_at (k : Fin 256) (a : Fin 2048) : (Vr m d main_v5 : Vec Ideal S256x2048 .f32) (ix2 k a)
    = (m (d, dr main_arg0) : Vec Ideal S2048x256 .f32) (ix2 a k) := by
  rw [v5_eq]
  pointwise

end Cert.KernelIdeal.Sc
end
-- ==== Proof.RefVal.lean ====
/-
  The reference's result, entry by entry over the extended reals.
-/
module

public import proofs.«01_k».proof.Proof.Gen.ReferenceIdeal
public import proofs.«01_k».proof.Proof.Gen.ReferenceIdeal.Run
public import proofs.«01_k».proof.Proof.Select
public import Idealize.ShloMosaic.Lib.Pointwise
public import Idealize.ShloMosaic.Lib.Routing.OpsSet
public import Idealize.ShloMosaic.Lib.Routing.OpsOne
public import Idealize.ShloMosaic.PureOps.Ideal.Laws
public import Idealize.ShloMosaic.Lib.IdealHost

@[expose] public section

set_option maxRecDepth 16384

noncomputable section

namespace Cert.ReferenceIdeal.Entry

open Cert.ReferenceIdeal Cert.ReferenceIdeal.Gen
open Idealize.ShloMosaic Idealize.ShloMosaic.TcCoe

variable (x : FVec Ideal S2048x256 .f32) (ad : IVec S2048x2048 32) (cs : IVec S2048x64 32)

/-- The rows that the reference scatters at: each sample's row. -/
def rows : IVec S131072 32 :=
  shapeCast S131072 (broadcastInDim S2048x64 ![0] bcast_S2048_S2048x64_0 (iotaInDim S2048 32 0)) shapeCasts_S2048x64_S131072
/-- The samples flattened: the columns that the reference scatters at. -/
def cols : IVec S131072 32 := shapeCast S131072 cs shapeCasts_S2048x64_S131072
/-- An index, moved up by 2048 where it is negative. -/
def wrap (v : IVec S131072 32) : IVec S131072 32 :=
  select (cmpi .slt v (broadcastInDim S131072 ![] bcast_S_S131072 (constantI S_ 32 0#32)))
    (addi v (broadcastInDim S131072 ![] bcast_S_S131072 (constantI S_ 32 2048#32))) v
/-- The pairs scattered at. -/
def pairs : IVec S131072x2 32 :=
  concatenate S131072x2 1 [⟨S131072x1, broadcastInDim S131072x1 ![0] bcast_S131072_S131072x1_0 (wrap rows)⟩,
    ⟨S131072x1, broadcastInDim S131072x1 ![0] bcast_S131072_S131072x1_0 (wrap (cols cs))⟩] concatenates_S131072x1_S131072x1_S131072x2_d1
/-- The one-hot table. -/
def table : FVec Ideal S2048x2048 .f32 :=
  Host.scatter scatter_S2048x2048_S131072x2_S131072_n_01_01_1 (fun _ b => b)
    (broadcastInDim S2048x2048 ![] bcast_S_S2048x2048 (constant S_ .f32 0x00000000#32)) (pairs cs)
    (broadcastInDim S131072 ![] bcast_S_S131072 (constant S_ .f32 0x3F800000#32))
/-- The adjacency as zeros and ones. -/
def adj : FVec Ideal S2048x2048 .f32 := uitofp .f32 (cmpi .ne ad (broadcastInDim S2048x2048 ![] bcast_S_S2048x2048 (constantI S_ 32 0#32)))
/-- The similarities: the features times their transpose. -/
def sims : FVec Ideal S2048x2048 .f32 :=
  Host.dotGeneral dot_S2048x256_S256x2048_S2048x2048_1_0_0_1_n_n none x (transpose S256x2048 [1, 0] x transposes_S2048x256_S256x2048_1_0)
/-- The masked similarities. -/
def masked : FVec Ideal S2048x2048 .f32 :=
  select (ori
      (cmpf .ogt (Host.dotGeneral dot_S2048x2048_S2048x2048_S2048x2048_1_0_0_1_n_n none (adj ad) (table cs))
        (broadcastInDim S2048x2048 ![] bcast_S_S2048x2048 (constant S_ .f32 0x00000000#32)))
      (cmpf .ogt (table cs) (broadcastInDim S2048x2048 ![] bcast_S_S2048x2048 (constant S_ .f32 0x00000000#32))))
    (sims x) (broadcastInDim S2048x2048 ![] bcast_S_S2048x2048 (constant S_ .f32 0xFF800000#32))
/-- The result. -/
def result : IVec S2048x64 32 :=
  select (broadcastInDim S2048x64 ![0, 1] bcast_S2048x1_S2048x64_0_1 (broadcastInDim S2048x1 ![0] bcast_S2048_S2048x1_0
      (cmpf .ogt (Host.reduceAdd (adj ad) (constant S_ .f32 0x00000000#32) reducesTo_S2048x2048_S2048_d1 h_S_)
        (broadcastInDim S2048 ![] bcast_S_S2048 (constant S_ .f32 0x00000000#32)))))
    (Host.topK S2048x64 1 (FloatOps.cmpfTotal (F := Ideal) .gt) (masked x ad cs) sliceFits_S2048x2048_S2048x64).2 cs

/-- The reference's result is `result` of its arguments. -/
theorem res_eq (m : (ℓ : Loc nD τ sig) → Buf (Elt Ideal) ℓ) (c : Dev nD) :
    Value.res_main_v36 m c = result (m ((c.tc : Thread nD τ).loc main_arg0)) (m ((c.tc : Thread nD τ).loc main_arg1))
      (m ((c.tc : Thread nD τ).loc main_arg2)) := rfl

/-- The adjacency as numbers, entry by entry: zero where the word is zero, one elsewhere. -/
theorem adj_at (i a : Fin 2048) : adj ad (ix2 i a) = if ad (ix2 i a) = 0#32 then (0 : EReal) else 1 := by
  unfold adj
  pointwise
  split <;> rename_i h
  · rw [h]
    show (((BitVec.ofBool (0#32 != 0#32)).toNat : ℝ) : EReal) = 0
    simp
  · show (((BitVec.ofBool (ad (ix2 i a) != 0#32)).toNat : ℝ) : EReal) = 1
    rw [show (ad (ix2 i a) != 0#32) = true by simpa using h]
    simp

/-- The index `(i, q)` with its column replaced. -/
theorem along_at (i q : Fin 2048) (h : 1 < 2) (a : Fin 2048) : Shape.Idx.along (s := S2048x2048) (ix2 i q) ⟨1, h⟩ a = ix2 i a := by
  funext b
  match b with
  | ⟨0, _⟩ => rfl
  | ⟨1, _⟩ => rfl

/-- The column's number, there. -/
theorem iota_along (i q : Fin 2048) (h : 1 < 2) (a : Fin 2048) :
    iotaInDim S2048x2048 32 ⟨1, h⟩ (Shape.Idx.along (s := S2048x2048) (ix2 i q) ⟨1, h⟩ a) = BitVec.ofNat 32 a.val := by
  rw [along_at]
  rfl

/-- The indices of the greatest entries of a row: the first of its order. -/
theorem top_at (v : FVec Ideal S2048x2048 .f32) (i : Fin 2048) (j : Fin 64) :
    (Host.topK S2048x64 1 (FloatOps.cmpfTotal (F := Ideal) .gt) v sliceFits_S2048x2048_S2048x64).2 (ix2 i j)
      = BitVec.ofNat 32 (sortedFrom (Cert.Proof.Select.gt (E := EReal) fun a : Fin 2048 => v (ix2 i a)) ⟨j.val, by omega⟩).val := by
  have hgt : ∀ a b : EReal, (FloatOps.cmpfTotal (F := Ideal) (φ := .f32) .gt a b == 1#1) = decide (b < a) := fun a b => by
    show (BitVec.ofBool (decide (b < a)) == 1#1) = _
    cases decide (b < a) <;> rfl
  unfold Host.topK Host.sort2
  dsimp only
  rw [dif_pos (by decide : 1 < S2048x2048.rank)]
  have hix : (fun q : Fin 2 => (⟨0 + ((ix2 i j : S2048x64.Idx) q).val, by
      match q with
      | ⟨0, _⟩ => show 0 + i.val < 2048; omega
      | ⟨1, _⟩ => show 0 + j.val < 2048; omega⟩ : Fin (S2048x2048.size q))) = ix2 i (⟨j.val, by omega⟩ : Fin 2048) := by
    funext q
    match q with
    | ⟨0, _⟩ => exact Fin.ext (Nat.zero_add _)
    | ⟨1, _⟩ => exact Fin.ext (Nat.zero_add _)
  unfold extractStridedSlice
  refine Eq.trans (congrArg _ hix) ?_
  dsimp only
  rw [dif_pos (by decide : 1 < 2)]
  refine (iota_along i ⟨j.val, by omega⟩ _ _).trans (congrArg (fun a : Fin 2048 => BitVec.ofNat 32 a.val) ?_)
  refine congrArg (fun f => sortedFrom (n := 2048) f (⟨j.val, by omega⟩ : Fin 2048)) (funext fun a => funext fun b => ?_)
  rw [hgt]
  exact congrArg₂ (fun p q : EReal => decide (p < q)) (congrArg v (along_at i ⟨j.val, by omega⟩ _ b)) (congrArg v (along_at i ⟨j.val, by omega⟩ _ a))

/-- The result: the first columns in the order of the masked similarities where the row's adjacency sums above zero, the
    samples elsewhere. -/
theorem result_at (i : Fin 2048) (j : Fin 64) : result x ad cs (ix2 i j) = if (0 : EReal) < ∑ a : Fin 2048, adj ad (ix2 i a)
    then BitVec.ofNat 32 (sortedFrom (Cert.Proof.Select.gt (E := EReal) fun a : Fin 2048 => masked x ad cs (ix2 i a)) ⟨j.val, by omega⟩).val
    else cs (ix2 i j) := by
  rw [← top_at]
  unfold result
  pointwise

/-- The masked similarities. -/
theorem masked_at (i a : Fin 2048) : masked x ad cs (ix2 i a) = Scalar.select
    (IntOp.ori (BitVec.ofBool (decide ((0 : EReal) < ∑ v : Fin 2048, adj ad (ix2 i v) * table cs (ix2 v a))))
      (BitVec.ofBool (decide ((0 : EReal) < table cs (ix2 i a))))) (sims x (ix2 i a)) (Ideal.ofBits .f32 0xFF800000#32) := by
  unfold masked
  pointwise

/-- The similarities: the rows' inner products. -/
theorem sims_at (i a : Fin 2048) : sims x (ix2 i a) = (∑ d : Fin 256, x (ix2 i d) * x (ix2 a d) : EReal) := by
  unfold sims
  pointwise

/-- The first of a scattered pair is the wrapped row. -/
theorem pairs_row (k : Fin 131072) : pairs cs (ix2 k (0 : Fin 2)) = wrap rows (ix1 k) := by
  unfold pairs
  pointwise
/-- The second of a scattered pair is the wrapped sample. -/
theorem pairs_col (k : Fin 131072) : pairs cs (ix2 k (1 : Fin 2)) = wrap (cols cs) (ix1 k) := by
  unfold pairs
  pointwise

/-- A word below 2048 is not wrapped. -/
theorem wrap_at (v : IVec S131072 32) (k : Fin 131072) (h : (v (ix1 k)).toNat < 2048) : wrap v (ix1 k) = v (ix1 k) := by
  have hn : (v (ix1 k)).slt 0#32 = false := by
    rw [BitVec.slt_eq_decide, decide_eq_false_iff_not, BitVec.toInt_eq_toNat_cond, if_pos (by omega)]
    simp
  unfold wrap
  pointwise
  show Scalar.select (BitVec.ofBool ((v (ix1 k)).slt 0#32)) _ _ = _
  rw [hn]
  rfl

/-- The flattened rows at an index. -/
theorem rows_at (k : Fin 131072) : rows (ix1 k) = BitVec.ofNat 32 (k.val / 64) := by
  unfold rows
  pointwise
/-- The flattened samples at an index. -/
theorem cols_at (k : Fin 131072) : cols cs (ix1 k) = cs (ix2 (⟨k.val / 64, by omega⟩ : Fin 2048) (⟨k.val % 64, by omega⟩ : Fin 64)) := by
  unfold cols
  pointwise

/-- Where an update lands: at the pair scattered at. -/
theorem lands (idx : IVec S131072x2 32) (k : Fin 131072) (r c : Fin 2048) :
    scatter_S2048x2048_S131072x2_S131072_n_01_01_1.resultIdx? (ix1 k) idx = some (ix2 r c)
      ↔ (idx (ix2 k (0 : Fin 2))).toInt = r.val ∧ (idx (ix2 k (1 : Fin 2))).toInt = c.val := by
  have hs : ∀ q : Fin 2, scatter_S2048x2048_S131072x2_S131072_n_01_01_1.start (ix1 k) idx q = (idx (ix2 k q)).toInt := fun q => by
    fin_cases q
    · refine congrArg (fun z => (idx z).toInt) (funext fun b => Fin.ext ?_)
      match b with
      | ⟨0, _⟩ => rfl
      | ⟨1, _⟩ => rfl
    · refine congrArg (fun z => (idx z).toInt) (funext fun b => Fin.ext ?_)
      match b with
      | ⟨0, _⟩ => rfl
      | ⟨1, _⟩ => rfl
  have hw : ∀ q : Fin 2, scatter_S2048x2048_S131072x2_S131072_n_01_01_1.window (ix1 k) q = 0 := fun q => by
    fin_cases q <;> rfl
  rw [Routing.resultIdx?_eq_some]
  constructor
  · intro h
    have h0 := h 0
    have h1 := h 1
    rw [hs, hw] at h0 h1
    exact ⟨by simpa using h0, by simpa using h1⟩
  · rintro ⟨h0, h1⟩ q
    rw [hs, hw]
    match q with
    | ⟨0, _⟩ => simpa using h0
    | ⟨1, _⟩ => simpa using h1

/-- A word below 2048, read signed. -/
theorem toInt_small (w : BitVec 32) (h : w.toNat < 2048) : w.toInt = (w.toNat : ℤ) := by
  rw [BitVec.toInt_eq_toNat_cond, if_pos (by omega)]

/-- Where an update lands, of samples below 2048: at its row and its sample. -/
theorem lands_at (h : ∀ i, (cs i).toNat < 2048) (k : Fin 131072) (r c : Fin 2048) :
    scatter_S2048x2048_S131072x2_S131072_n_01_01_1.resultIdx? (ix1 k) (pairs cs) = some (ix2 r c)
      ↔ k.val / 64 = r.val ∧ (cs (ix2 (⟨k.val / 64, by omega⟩ : Fin 2048) (⟨k.val % 64, by omega⟩ : Fin 64))).toNat = c.val := by
  have hr : (rows (ix1 k)).toNat = k.val / 64 := by
    rw [rows_at, BitVec.toNat_ofNat]; omega
  rw [lands, pairs_row, pairs_col, wrap_at _ _ (by rw [hr]; omega), wrap_at _ _ (by rw [cols_at]; exact h _),
    toInt_small _ (by rw [hr]; omega), hr, cols_at, toInt_small _ (h _)]
  omega

/-- The one-hot table: one where the column is among the row's samples, -/
theorem table_hit (h : ∀ i, (cs i).toNat < 2048) (r c : Fin 2048) (t : Fin 64) (e : (cs (ix2 r t)).toNat = c.val) :
    table cs (ix2 r c) = (1 : EReal) := by
  refine Eq.trans ?_ Ideal.ofBits_one_f32
  unfold table
  refine Routing.scatter_set_hit _ _ _ _ _ _ (fun k _ => rfl) (ix1 (⟨64 * r.val + t.val, by omega⟩ : Fin 131072)) ?_
  rw [lands_at cs h]
  have e1 : (64 * r.val + t.val) / 64 = r.val := by omega
  have e2 : (64 * r.val + t.val) % 64 = t.val := by omega
  refine ⟨e1, ?_⟩
  simp only [e1, e2]
  exact e

/-- and zero elsewhere. -/
theorem table_miss (h : ∀ i, (cs i).toNat < 2048) (r c : Fin 2048) (e : ∀ t : Fin 64, (cs (ix2 r t)).toNat ≠ c.val) :
    table cs (ix2 r c) = (0 : EReal) := by
  refine Eq.trans ?_ Ideal.ofBits_zero_f32
  unfold table
  refine Routing.scatter_set_miss _ _ _ _ _ (fun k hk => ?_)
  obtain ⟨k, rfl⟩ : ∃ k' : Fin 131072, k = ix1 k' := ⟨k 0, eq_ix1 k⟩
  rw [lands_at cs h] at hk
  refine e (⟨k.val % 64, by omega⟩ : Fin 64) ?_
  rw [← hk.2]
  exact congrArg (fun q => (cs (ix2 q _)).toNat) (Fin.ext hk.1.symm)

/-- A row of adjacency entries sums above zero exactly when it has one above zero. -/
theorem adj_sum (i : Fin 2048) : ((0 : EReal) < ∑ a : Fin 2048, adj ad (ix2 i a)) ↔ ∃ a : Fin 2048, (0 : EReal) < adj ad (ix2 i a) := by
  have h0 : ∀ a : Fin 2048, (0 : EReal) ≤ adj ad (ix2 i a) := fun a => by
    rw [adj_at]; split
    · exact le_rfl
    · exact zero_le_one
  constructor
  · intro h
    by_contra hn
    simp only [not_exists, not_lt] at hn
    rw [Finset.sum_eq_zero fun a _ => le_antisymm (hn a) (h0 a)] at h
    exact lt_irrefl _ h
  · rintro ⟨a, ha⟩
    exact lt_of_lt_of_le ha (Finset.single_le_sum (f := fun a : Fin 2048 => adj ad (ix2 i a)) (fun a _ => h0 a) (Finset.mem_univ a))

end Cert.ReferenceIdeal.Entry
end
-- ==== Proof.Algebraic.lean ====
/-
  The value claim: over the extended reals the kernel and the reference leave the same indices.
-/
module

public import proofs.«01_k».proof.Defs
public import proofs.«01_k».proof.Proof.KVal
public import proofs.«01_k».proof.Proof.RefVal
public import proofs.«01_k».proof.Proof.Pre
public import proofs.«01_k».proof.Proof.Gen.Pre_inputs_in_range

@[expose] public section

set_option maxRecDepth 16384

noncomputable section

namespace Cert.Proof

open Idealize.ShloMosaic Idealize.ShloMosaic.TcCoe Idealize.SL.Sem
open Cert.KernelIdeal.Sc (Vr res dr masked chosen)
open Cert.Pre_inputs_in_range.Gen
open Cert.KernelIdeal (main_arg0 main_arg1 main_arg2 main_v3 main_v4 main_v5 S2048x256 S256x2048 S2048x2048 S2048x64)

variable (m : (ℓ : Loc Cert.KernelIdeal.nD Cert.KernelIdeal.τ Cert.KernelIdeal.sig) → Buf (Elt Ideal) ℓ) (c : Dev Cert.KernelIdeal.nD)

/-- The features at launch. -/
abbrev ax : FVec Ideal S2048x256 .f32 := m (c, dr main_arg0)
/-- The adjacency at launch. -/
abbrev aa : IVec S2048x2048 32 := m (c, dr main_arg1)
/-- The samples at launch. -/
abbrev ac : IVec S2048x64 32 := m (c, dr main_arg2)

/-- The kernel's one-hot table is the reference's. -/
theorem table_eq (h : ∀ i, (ac m c i).toNat < 2048) (r a : Fin 2048) :
    (Vr m c main_v3 : Vec Ideal S2048x2048 .bf16) (ix2 r a) = Cert.ReferenceIdeal.Entry.table (ac m c) (ix2 r a) := by
  by_cases e : ∃ t : Fin 64, (ac m c (ix2 r t)).toNat = a.val
  · obtain ⟨t, e⟩ := e
    exact (Cert.KernelIdeal.Sc.v3_hit m c r a t e).trans (Cert.ReferenceIdeal.Entry.table_hit (ac m c) h r a t e).symm
  · have e := not_exists.1 e
    exact (Cert.KernelIdeal.Sc.v3_miss m c r a e).trans (Cert.ReferenceIdeal.Entry.table_miss (ac m c) h r a e).symm

/-- Of an adjacency of zeros and ones the kernel's numbers are the reference's. -/
theorem adj_eq (h : ∀ i, (aa m c i).toNat < 2) (i a : Fin 2048) :
    (Vr m c main_v4 : Vec Ideal S2048x2048 .bf16) (ix2 i a) = Cert.ReferenceIdeal.Entry.adj (aa m c) (ix2 i a) := by
  refine (Cert.KernelIdeal.Sc.v4_at m c i a).trans (Eq.trans ?_ (Cert.ReferenceIdeal.Entry.adj_at (aa m c) i a).symm)
  show (((aa m c (ix2 i a)).toInt : ℝ) : EReal) = _
  have hv := h (ix2 i a)
  generalize aa m c (ix2 i a) = w at hv ⊢
  have : w = 0#32 ∨ w = 1#32 := by
    rcases (by omega : w.toNat = 0 ∨ w.toNat = 1) with e | e
    · exact .inl (BitVec.eq_of_toNat_eq e)
    · exact .inr (BitVec.eq_of_toNat_eq e)
  rcases this with rfl | rfl <;> simp

/-- Every similarity is above the mask constant, which is above the bottom. -/
def Above : Prop := ∀ i a : Fin 2048, Ideal.ofBits .f32 0xF149F2CA#32 < Cert.ReferenceIdeal.Entry.sims (ax m c) (ix2 i a)

/-- The kernel's masked similarities: the reference's, with the mask constant for the bottom. -/
theorem masked_eq (hc : ∀ i, (ac m c i).toNat < 2048) (ha : ∀ i, (aa m c i).toNat < 2) (i a : Fin 2048) :
    ∃ p : Prop, (p → masked (Vr m c main_arg0) (Vr m c main_v5) (Vr m c main_v4) (Vr m c main_v3) i a = Cert.ReferenceIdeal.Entry.sims (ax m c) (ix2 i a)
        ∧ Cert.ReferenceIdeal.Entry.masked (ax m c) (aa m c) (ac m c) (ix2 i a) = Cert.ReferenceIdeal.Entry.sims (ax m c) (ix2 i a))
      ∧ (¬ p → masked (Vr m c main_arg0) (Vr m c main_v5) (Vr m c main_v4) (Vr m c main_v3) i a = Ideal.ofBits .f32 0xF149F2CA#32
        ∧ Cert.ReferenceIdeal.Entry.masked (ax m c) (aa m c) (ac m c) (ix2 i a) = (⊥ : EReal)) := by
  have h0 : (Vr m c main_arg0 : Vec Ideal S2048x256 .f32) = ax m c :=
    Cert.KernelIdeal.Sc.W6_launch m c main_arg0 (by decide) (by decide) (by decide) (by decide) (by decide) (by decide)
  refine ⟨((0 : EReal) < ∑ v : Fin 2048, Cert.ReferenceIdeal.Entry.adj (aa m c) (ix2 i v) * Cert.ReferenceIdeal.Entry.table (ac m c) (ix2 v a))
    ∨ (0 : EReal) < Cert.ReferenceIdeal.Entry.table (ac m c) (ix2 i a), fun p => ?_, fun p => ?_⟩
  all_goals
    rw [Cert.ReferenceIdeal.Entry.masked_at, Cert.KernelIdeal.Sc.select_or]
    unfold masked
    simp only [adj_eq m c ha, table_eq m c hc, h0, Cert.KernelIdeal.Sc.v5_at]
  · rw [if_pos p, if_pos p]
    exact ⟨(Cert.ReferenceIdeal.Entry.sims_at _ i a).symm, rfl⟩
  · rw [if_neg p, if_neg p]
    exact ⟨rfl, Cert.KernelIdeal.Sc.neg_inf⟩

/-- The two results are equal. -/
theorem result_eq (hc : ∀ i, (ac m c i).toNat < 2048) (ha : ∀ i, (aa m c i).toNat < 2) (hs : Above m c) :
    (res m c : IVec S2048x64 32) = Cert.ReferenceIdeal.Entry.result (ax m c) (aa m c) (ac m c) := by
  have hm := masked_eq m c hc ha
  unfold res
  rw [Cert.KernelIdeal.Sc.tcRes_eq (Vr m) c fun i a => ?_]
  swap
  · obtain ⟨p, h1, h2⟩ := hm i a
    by_cases hp : p
    · rw [(h1 hp).1]; exact lt_trans Cert.KernelIdeal.Sc.mask_gt (hs i a)
    · rw [(h2 hp).1]; exact Cert.KernelIdeal.Sc.mask_gt
  funext y
  obtain ⟨i, j, rfl⟩ : ∃ (i : Fin 2048) (j : Fin 64), y = ix2 i j := ⟨y 0, y 1, eq_ix2 y⟩
  refine Eq.trans ?_ (Cert.ReferenceIdeal.Entry.result_at (ax m c) (aa m c) (ac m c) i j).symm
  show chosen (Vr m c main_arg0) (Vr m c main_v5) (Vr m c main_v4) (Vr m c main_v3) (Vr m c main_arg2) i j = _
  have h2 : (Vr m c main_arg2 : Vec Ideal S2048x64 .i32) = ac m c :=
    Cert.KernelIdeal.Sc.W6_launch m c main_arg2 (by decide) (by decide) (by decide) (by decide) (by decide) (by decide)
  have hsort := Select.sorted_congr (E := EReal) (E' := EReal)
    (fun a => masked (Vr m c main_arg0) (Vr m c main_v5) (Vr m c main_v4) (Vr m c main_v3) i a)
    (fun a : Fin 2048 => Cert.ReferenceIdeal.Entry.masked (ax m c) (aa m c) (ac m c) (ix2 i a)) (fun a b => by
      obtain ⟨p, p1, p2⟩ := hm i a
      obtain ⟨q, q1, q2⟩ := hm i b
      by_cases hp : p <;> by_cases hq : q
      · rw [(p1 hp).1, (p1 hp).2, (q1 hq).1, (q1 hq).2]
      · rw [(p1 hp).1, (p1 hp).2, (q2 hq).1, (q2 hq).2]
        exact ⟨fun _ => lt_trans Cert.KernelIdeal.Sc.mask_gt (hs i a), fun _ => hs i a⟩
      · rw [(p2 hp).1, (p2 hp).2, (q1 hq).1, (q1 hq).2]
        exact ⟨fun h => absurd h (lt_asymm (hs i b)), fun h => absurd h not_lt_bot⟩
      · rw [(p2 hp).1, (p2 hp).2, (q2 hq).1, (q2 hq).2]
        exact ⟨fun h => absurd h (lt_irrefl _), fun h => absurd h (lt_irrefl _)⟩) ⟨j.val, by omega⟩
  unfold chosen
  rw [h2, hsort]
  simp only [adj_eq m c ha]
  exact if_congr (Cert.ReferenceIdeal.Entry.adj_sum (aa m c) i).symm rfl rfl

/-- Under the precondition the similarities are above the mask constant. -/
theorem above_of (h : Cert.Pre_inputs_in_range.fn (F := Ideal) (ax m c) (aa m c) (ac m c) = fun _ => 1#1) : Above m c := fun i a => by
  have e := inputs_sim_gt h (ix2 i a)
  have e' : BitVec.ofBool (decide (Ideal.ofBits .f32 0xF149F2CA#32 < Cert.ReferenceIdeal.Entry.sims (ax m c) (ix2 i a))) = 1#1 := e
  by_contra hn
  rw [decide_eq_false hn] at e'
  exact absurd e' (by decide)

/-- Over the extended reals, under `inputs_in_range`, the kernel and the reference leave the same array. -/
theorem algebraic : Cert.algebraic_KernelIdeal_ReferenceIdeal_pre_inputs_in_range := fun m g m' g' hp ha =>
  ⟨fun c => res m c,
    (θ_run Cert.KernelIdeal.defs _ _).mono (fun _ hr => hr.1)
      (Cert.KernelIdeal.Sc.run_args (F := Ideal) m g fun d => inputs_sample_lt (hp d)),
    (θ_run Cert.ReferenceIdeal.defs _ _).mono (fun r hr c => ⟨(hr c).1.trans (by
        rw [Cert.ReferenceIdeal.Entry.res_eq, (ha c).1, (ha c).2.1, (ha c).2.2]
        exact (result_eq m c (inputs_sample_lt (hp c)) (inputs_adj_lt (hp c)) (above_of m c (hp c))).symm), (hr c).2⟩)
      (Cert.ReferenceIdeal.Value.run (F := Ideal) m' g')⟩

end Cert.Proof
end
-- ==== Proof.lean ====
/-
  The claims, proved. The kernel's frame is the run of Proof/ScFrame.lean with the result dropped, at the bit patterns for
  `Kernel` and at the extended reals for `KernelIdeal`; the reference's frame is its generated run, and its counters are at
  zero because it declares no semaphore.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_indices_in_range
public import proofs.«01_k».proof.Proof.Gen.Pre_inputs_in_range
public import proofs.«01_k».proof.Proof.Pre
public import proofs.«01_k».proof.Proof.ScFrame
public import proofs.«01_k».proof.Proof.KScFrame
public import proofs.«01_k».proof.Proof.Algebraic

@[expose] public section

set_option maxRecDepth 16384

noncomputable section

namespace Cert.Proof

open Idealize.ShloMosaic Idealize.SL.Sem

/-- The kernel runs from every memory whose samples are in range, leaves its arguments unchanged and every counter at zero. -/
theorem frame_k : Cert.quiescent_Kernel := fun m ρ h =>
  (θ_run Cert.Kernel.defs _ _).mono (fun _ hr => ⟨fun c => (hr.1 c).2, hr.2⟩)
    (Cert.Kernel.Sc.run_args (F := Bits) m ρ fun d => indices_lt (h d))

/-- The same of the kernel over the extended reals. -/
theorem frame_ki : Cert.quiescent_KernelIdeal := fun m ρ h =>
  (θ_run Cert.KernelIdeal.defs _ _).mono (fun _ hr => ⟨fun c => (hr.1 c).2, hr.2⟩)
    (Cert.KernelIdeal.Sc.run_args (F := Ideal) m ρ fun d => indices_lt (h d))

/-- The same under the value claim's precondition. -/
theorem frame_ki' : Cert.quiescent_KernelIdeal_pre_inputs_in_range := fun m ρ h =>
  (θ_run Cert.KernelIdeal.defs _ _).mono (fun _ hr => ⟨fun c => (hr.1 c).2, hr.2⟩)
    (Cert.KernelIdeal.Sc.run_args (F := Ideal) m ρ fun d => inputs_sample_lt (h d))

/-- The reference runs from every memory, leaves its arguments unchanged and every counter at zero. -/
theorem frame_ri : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

/-- The same under the value claim's precondition. -/
theorem frame_ri' : Cert.quiescent_ReferenceIdeal_pre_inputs_in_range := fun m ρ _ => frame_ri m ρ trivial

theorem claim : Cert.Claim := ⟨Cert.Kernel.Gen.facts, Cert.KernelIdeal.Gen.facts, Cert.ReferenceIdeal.Gen.facts,
  Cert.Pre_indices_in_range.Gen.facts, Cert.Pre_inputs_in_range.Gen.facts, frame_k, frame_ki, frame_ki', frame_ri, frame_ri', trivial, algebraic⟩

end Cert.Proof

end
